-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_20) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S32x128x512 : Shape := ⟨3, ![32, 128, 512]⟩
abbrev S32x64x512 : Shape := ⟨3, ![32, 64, 512]⟩
abbrev S32x512 : Shape := ⟨2, ![32, 512]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S_ : Shape := ⟨0, ![]⟩
abbrev S32x128 : Shape := ⟨2, ![32, 128]⟩

class Facts : Prop where
  bcast_S_S32x128 : S_.BroadcastsInDim S32x128 (![] : Fin 0 → Fin S32x128.rank)

variable [Facts]

def fn {F : FTy → Type} [FloatOps F] (main_arg0 : FVec F S32x128x512 .f32) (main_arg1 : FVec F S32x64x512 .f32) (main_arg2 : FVec F S32x512 .f32) (main_arg3 : FVec F S2048x512 .f32) (main_arg4 : FVec F S2048 .f32) (main_arg5 : FVec F S2048x512 .f32) (main_arg6 : FVec F S2048x512 .f32) (main_arg7 : FVec F S2048x512 .f32) (main_arg8 : FVec F S2048x512 .f32) (main_arg9 : FVec F S128x512 .f32) (main_arg10 : FVec F S128 .f32) (main_arg11 : FVec F S128x512 .f32) (main_arg12 : FVec F S128 .f32) (main_arg13 : FVec F S_ .f32) (main_arg14 : FVec F S128x512 .f32) (main_arg15 : FVec F S128 .f32) (main_arg16 : FVec F S128x512 .f32) (main_arg17 : FVec F S128 .f32) (main_arg18 : FVec F S_ .f32) (main_arg19 : IVec S32x128 32) : IVec S32x128 1 :=
  let main_c : IVec S_ 32 := constantI S_ 32 0#32
  let main_v0 : IVec S32x128 32 := broadcastInDim S32x128 ![] bcast_S_S32x128 main_c
  let main_v1 : IVec S32x128 1 := cmpi .sge main_arg19 main_v0
  let main_c_0 : IVec S_ 32 := constantI S_ 32 128#32
  let main_v2 : IVec S32x128 32 := broadcastInDim S32x128 ![] bcast_S_S32x128 main_c_0
  let main_v3 : IVec S32x128 1 := cmpi .slt main_arg19 main_v2
  let main_v4 : IVec S32x128 1 := andi main_v1 main_v3
  main_v4
-- ==== Pre_in_range_finite.lean ====
abbrev S32x128x512 : Shape := ⟨3, ![32, 128, 512]⟩
abbrev S32x64x512 : Shape := ⟨3, ![32, 64, 512]⟩
abbrev S32x512 : Shape := ⟨2, ![32, 512]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S_ : Shape := ⟨0, ![]⟩
abbrev S32x128 : Shape := ⟨2, ![32, 128]⟩

class Facts : Prop where
  bcast_S_S32x128 : S_.BroadcastsInDim S32x128 (![] : Fin 0 → Fin S32x128.rank)

variable [Facts]

def fn {F : FTy → Type} [FloatOps F] (main_arg0 : FVec F S32x128x512 .f32) (main_arg1 : FVec F S32x64x512 .f32) (main_arg2 : FVec F S32x512 .f32) (main_arg3 : FVec F S2048x512 .f32) (main_arg4 : FVec F S2048 .f32) (main_arg5 : FVec F S2048x512 .f32) (main_arg6 : FVec F S2048x512 .f32) (main_arg7 : FVec F S2048x512 .f32) (main_arg8 : FVec F S2048x512 .f32) (main_arg9 : FVec F S128x512 .f32) (main_arg10 : FVec F S128 .f32) (main_arg11 : FVec F S128x512 .f32) (main_arg12 : FVec F S128 .f32) (main_arg13 : FVec F S_ .f32) (main_arg14 : FVec F S128x512 .f32) (main_arg15 : FVec F S128 .f32) (main_arg16 : FVec F S128x512 .f32) (main_arg17 : FVec F S128 .f32) (main_arg18 : FVec F S_ .f32) (main_arg19 : IVec S32x128 32) : IVec S32x128 1 :=
  let main_c : IVec S_ 32 := constantI S_ 32 0#32
  let main_v0 : IVec S32x128 32 := broadcastInDim S32x128 ![] bcast_S_S32x128 main_c
  let main_v1 : IVec S32x128 1 := cmpi .sge main_arg19 main_v0
  let main_c_0 : IVec S_ 32 := constantI S_ 32 128#32
  let main_v2 : IVec S32x128 32 := broadcastInDim S32x128 ![] bcast_S_S32x128 main_c_0
  let main_v3 : IVec S32x128 1 := cmpi .slt main_arg19 main_v2
  let main_v4 : IVec S32x128 1 := andi main_v1 main_v3
  let main_v5 : FVec F S_ .f32 := Host.absf main_arg13
  let main_cst : FVec F S_ .f32 := constant S_ .f32 0x7F800000#32
  let main_v6 : IVec S_ 1 := cmpf .olt main_v5 main_cst
  let main_v7 : IVec S32x128 1 := broadcastInDim S32x128 ![] bcast_S_S32x128 main_v6
  let main_v8 : IVec S32x128 1 := andi main_v4 main_v7
  let main_v9 : FVec F S_ .f32 := Host.absf main_arg18
  let main_cst_1 : FVec F S_ .f32 := constant S_ .f32 0x7F800000#32
  let main_v10 : IVec S_ 1 := cmpf .olt main_v9 main_cst_1
  let main_v11 : IVec S32x128 1 := broadcastInDim S32x128 ![] bcast_S_S32x128 main_v10
  let main_v12 : IVec S32x128 1 := andi main_v8 main_v11
  main_v12
-- ==== Kernel.lean ====
abbrev S32x128x512 : Shape := ⟨3, ![32, 128, 512]⟩
abbrev S32x64x512 : Shape := ⟨3, ![32, 64, 512]⟩
abbrev S32x512 : Shape := ⟨2, ![32, 512]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S_ : Shape := ⟨0, ![]⟩
abbrev S32x128 : Shape := ⟨2, ![32, 128]⟩
abbrev S2048x1024 : Shape := ⟨2, ![2048, 1024]⟩
abbrev S1024x2048 : Shape := ⟨2, ![1024, 2048]⟩
abbrev S2048x1536 : Shape := ⟨2, ![2048, 1536]⟩
abbrev S1536x2048 : Shape := ⟨2, ![1536, 2048]⟩
abbrev S384x512 : Shape := ⟨2, ![384, 512]⟩
abbrev S512x384 : Shape := ⟨2, ![512, 384]⟩
abbrev S512x128 : Shape := ⟨2, ![512, 128]⟩
abbrev S1x32x128x512 : Shape := ⟨4, ![1, 32, 128, 512]⟩
abbrev S1x128x32x512 : Shape := ⟨4, ![1, 128, 32, 512]⟩
abbrev S1x32x64x512 : Shape := ⟨4, ![1, 32, 64, 512]⟩
abbrev S1x64x32x512 : Shape := ⟨4, ![1, 64, 32, 512]⟩
abbrev S1x32x512 : Shape := ⟨3, ![1, 32, 512]⟩
abbrev S128x32 : Shape := ⟨2, ![128, 32]⟩
abbrev S1x2048 : Shape := ⟨2, ![1, 2048]⟩
abbrev S1x128 : Shape := ⟨2, ![1, 128]⟩
abbrev S1x8x32x512 : Shape := ⟨4, ![1, 8, 32, 512]⟩
abbrev S128x32x512 : Shape := ⟨3, ![128, 32, 512]⟩
abbrev S128x32x128 : Shape := ⟨3, ![128, 32, 128]⟩
abbrev S64x32x128 : Shape := ⟨3, ![64, 32, 128]⟩
abbrev S1x1x128 : Shape := ⟨3, ![1, 1, 128]⟩
abbrev S64x32x512 : Shape := ⟨3, ![64, 32, 512]⟩
abbrev S2048x128 : Shape := ⟨2, ![2048, 128]⟩
abbrev S32x384 : Shape := ⟨2, ![32, 384]⟩
abbrev S1x32x128 : Shape := ⟨3, ![1, 32, 128]⟩
abbrev S64x32 : Shape := ⟨2, ![64, 32]⟩
abbrev S32 : Shape := ⟨1, ![32]⟩
abbrev S1x32 : Shape := ⟨2, ![1, 32]⟩
abbrev S64x32x1 : Shape := ⟨3, ![64, 32, 1]⟩
abbrev S128x32x1 : Shape := ⟨3, ![128, 32, 1]⟩
abbrev S1x1 : Shape := ⟨2, ![1, 1]⟩
abbrev S1x1x512 : Shape := ⟨3, ![1, 1, 512]⟩
abbrev S1x512 : Shape := ⟨2, ![1, 512]⟩
abbrev S1x1x32x512 : Shape := ⟨4, ![1, 1, 32, 512]⟩
abbrev S32x1024 : Shape := ⟨2, ![32, 1024]⟩
abbrev S32x1536 : Shape := ⟨2, ![32, 1536]⟩
abbrev S32x2048 : Shape := ⟨2, ![32, 2048]⟩

abbrev nBuf : Space → Nat
  | .hbm => 49
  | .vmem => 22
  | .smem => 1
  | _ => 0

abbrev bufTy : (tb : Table) → Fin (tcTables nBuf tb) → BufTy
  | .hbm, ⟨0, _⟩ => ⟨S32x128x512, .f32⟩
  | .hbm, ⟨1, _⟩ => ⟨S32x64x512, .f32⟩
  | .hbm, ⟨2, _⟩ => ⟨S32x512, .f32⟩
  | .hbm, ⟨3, _⟩ => ⟨S2048x512, .f32⟩
  | .hbm, ⟨4, _⟩ => ⟨S2048, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S128x512, .f32⟩
  | .hbm, ⟨10, _⟩ => ⟨S128, .f32⟩
  | .hbm, ⟨11, _⟩ => ⟨S128x512, .f32⟩
  | .hbm, ⟨12, _⟩ => ⟨S128, .f32⟩
  | .hbm, ⟨13, _⟩ => ⟨S_, .f32⟩
  | .hbm, ⟨14, _⟩ => ⟨S128x512, .f32⟩
  | .hbm, ⟨15, _⟩ => ⟨S128, .f32⟩
  | .hbm, ⟨16, _⟩ => ⟨S128x512, .f32⟩
  | .hbm, ⟨17, _⟩ => ⟨S128, .f32⟩
  | .hbm, ⟨18, _⟩ => ⟨S_, .f32⟩
  | .hbm, ⟨19, _⟩ => ⟨S32x128, .i32⟩
  | .hbm, ⟨20, _⟩ => ⟨S2048x1024, .f32⟩
  | .hbm, ⟨21, _⟩ => ⟨S1024x2048, .f32⟩
  | .hbm, ⟨22, _⟩ => ⟨S1024x2048, .bf16⟩
  | .hbm, ⟨23, _⟩ => ⟨S2048x1536, .f32⟩
  | .hbm, ⟨24, _⟩ => ⟨S1536x2048, .f32⟩
  | .hbm, ⟨25, _⟩ => ⟨S1536x2048, .bf16⟩
  | .hbm, ⟨26, _⟩ => ⟨S384x512, .f32⟩
  | .hbm, ⟨27, _⟩ => ⟨S512x384, .f32⟩
  | .hbm, ⟨28, _⟩ => ⟨S512x384, .bf16⟩
  | .hbm, ⟨29, _⟩ => ⟨S512x128, .f32⟩
  | .hbm, ⟨30, _⟩ => ⟨S512x128, .bf16⟩
  | .hbm, ⟨31, _⟩ => ⟨S1x32x128x512, .f32⟩
  | .hbm, ⟨32, _⟩ => ⟨S1x128x32x512, .f32⟩
  | .hbm, ⟨33, _⟩ => ⟨S1x128x32x512, .bf16⟩
  | .hbm, ⟨34, _⟩ => ⟨S1x32x64x512, .f32⟩
  | .hbm, ⟨35, _⟩ => ⟨S1x64x32x512, .f32⟩
  | .hbm, ⟨36, _⟩ => ⟨S1x64x32x512, .bf16⟩
  | .hbm, ⟨37, _⟩ => ⟨S1x32x512, .f32⟩
  | .hbm, ⟨38, _⟩ => ⟨S1x2048, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128x32x512, .f32⟩
  | .hbm, ⟨44, _⟩ => ⟨S1x128x32x512, .f32⟩
  | .hbm, ⟨45, _⟩ => ⟨S1x32x128x512, .f32⟩
  | .hbm, ⟨46, _⟩ => ⟨S32x128x512, .f32⟩
  | .hbm, ⟨47, _⟩ => ⟨S1x32x128x512, .f32⟩
  | .hbm, ⟨48, _⟩ => ⟨S32x128x512, .f32⟩
  | .local _ .vmem, ⟨0, _⟩ => ⟨S1x8x32x512, .bf16⟩
  | .local _ .vmem, ⟨1, _⟩ => ⟨S1x8x32x512, .bf16⟩
  | .local _ .vmem, ⟨2, _⟩ => ⟨S1x32x512, .f32⟩
  | .local _ .vmem, ⟨3, _⟩ => ⟨S1x64x32x512, .bf16⟩
  | .local _ .vmem, ⟨4, _⟩ => ⟨S512x384, .bf16⟩
  | .local _ .vmem, ⟨5, _⟩ => ⟨S512x128, .bf16⟩
  | .local _ .vmem, ⟨6, _⟩ => ⟨S1024x2048, .bf16⟩
  | .local _ .vmem, ⟨7, _⟩ => ⟨S1536x2048, .bf16⟩
  | .local _ .vmem, ⟨8, _⟩ => ⟨S1x2048, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x8x32x512, .f32⟩
  | .local _ .vmem, ⟨14, _⟩ => ⟨S1x8x32x512, .f32⟩
  | .local _ .vmem, ⟨15, _⟩ => ⟨S1x8x32x512, .f32⟩
  | .local _ .vmem, ⟨16, _⟩ => ⟨S1x8x32x512, .f32⟩
  | .local _ .vmem, ⟨17, _⟩ => ⟨S32x512, .f32⟩
  | .local _ .vmem, ⟨18, _⟩ => ⟨S32x512, .f32⟩
  | .local _ .vmem, ⟨19, _⟩ => ⟨S128x32x512, .bf16⟩
  | .local _ .vmem, ⟨20, _⟩ => ⟨S128x32x128, .f32⟩
  | .local _ .vmem, ⟨21, _⟩ => ⟨S64x32x128, .f32⟩
  | .local _ .smem, ⟨0, _⟩ => ⟨S128x32, .i32⟩
  | _, _ => ⟨S32x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v18 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![1, 16], ![false, false]⟩

abbrev pre0 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c0_i32_7 : BitVec 32 := 0#32
  let v14 : BitVec 1 := Scalar.cmpi .sgt arg1 c0_i32_7
  let v15 : BitVec 32 := Scalar.extui v14
  let c0_i32_8 : BitVec 32 := 0#32
  let v16 : BitVec 1 := Scalar.cmpi .ne v15 c0_i32_8
  v16

def k0_off1 (i : grid0.Coords) : Fin 3 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let c1_i32_1202 : BitVec 32 := 1#32
  let v2240 : BitVec 32 := Scalar.subi v6 c1_i32_1202
  let v2241 : Index := Scalar.indexCast v2240
  let c0_1203 : Index := 0#32
  let c0_1204 : Index := 0#32
  ![v2241.toNat, 0, 0]
def k0_off2 (i : grid0.Coords) : Fin 3 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let c1_i32_1207 : BitVec 32 := 1#32
  let v2249 : BitVec 32 := Scalar.subi v6 c1_i32_1207
  let v2250 : Index := Scalar.indexCast v2249
  let c0_1208 : Index := 0#32
  let c0_1209 : Index := 0#32
  ![v2250.toNat, 0, 0]
def k0_off3 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v76 : Index := Scalar.indexCast v6
  let c0_35 : Index := 0#32
  ![v76.toNat, 0]
def k0_off4 (v77 : BitVec 32) : Fin 3 → Nat :=
  let v78 : Index := Scalar.indexCast v77
  let c0_36 : Index := 0#32
  let c0_37 : Index := 0#32
  ![v78.toNat, 0, 0]

def k0_chk1 (v77 : BitVec 32) : Prop :=
  (∀ a, (k0_off4 v77) a + S1x1x512.size a ≤ S128x32x512.size a)
theorem k0_off4_inb : ∀ (v77 : BitVec 32) (k0_hw1 : k0_chk1 v77), ∀ a, (k0_off4 v77) a + S1x1x512.size a ≤ S128x32x512.size a := fun v77 k0_hw1 => k0_hw1

def k0_off5 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v81 : Index := Scalar.indexCast v6
  let c1 : Index := 1#32
  ![v81.toNat, 1]
def k0_off6 (v82 : BitVec 32) : Fin 3 → Nat :=
  let v83 : Index := Scalar.indexCast v82
  let c1_38 : Index := 1#32
  let c0_39 : Index := 0#32
  ![v83.toNat, 1, 0]

def k0_chk2 (v82 : BitVec 32) : Prop :=
  (∀ a, (k0_off6 v82) a + S1x1x512.size a ≤ S128x32x512.size a)
theorem k0_off6_inb : ∀ (v82 : BitVec 32) (k0_hw2 : k0_chk2 v82), ∀ a, (k0_off6 v82) a + S1x1x512.size a ≤ S128x32x512.size a := fun v82 k0_hw2 => k0_hw2

def k0_off7 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v86 : Index := Scalar.indexCast v6
  let c2 : Index := 2#32
  ![v86.toNat, 2]
def k0_off8 (v87 : BitVec 32) : Fin 3 → Nat :=
  let v88 : Index := Scalar.indexCast v87
  let c2_40 : Index := 2#32
  let c0_41 : Index := 0#32
  ![v88.toNat, 2, 0]

def k0_chk3 (v87 : BitVec 32) : Prop :=
  (∀ a, (k0_off8 v87) a + S1x1x512.size a ≤ S128x32x512.size a)
theorem k0_off8_inb : ∀ (v87 : BitVec 32) (k0_hw3 : k0_chk3 v87), ∀ a, (k0_off8 v87) a + S1x1x512.size a ≤ S128x32x512.size a := fun v87 k0_hw3 => k0_hw3

def k0_off9 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v91 : Index := Scalar.indexCast v6
  let c3 : Index := 3#32
  ![v91.toNat, 3]
def k0_off10 (v92 : BitVec 32) : Fin 3 → Nat :=
  let v93 : Index := Scalar.indexCast v92
  let c3_42 : Index := 3#32
  let c0_43 : Index := 0#32
  ![v93.toNat, 3, 0]

def k0_chk4 (v92 : BitVec 32) : Prop :=
  (∀ a, (k0_off10 v92) a + S1x1x512.size a ≤ S128x32x512.size a)
theorem k0_off10_inb : ∀ (v92 : BitVec 32) (k0_hw4 : k0_chk4 v92), ∀ a, (k0_off10 v92) a + S1x1x512.size a ≤ S128x32x512.size a := fun v92 k0_hw4 => k0_hw4

def k0_off11 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v96 : Index := Scalar.indexCast v6
  let c4 : Index := 4#32
  ![v96.toNat, 4]
def k0_off12 (v97 : BitVec 32) : Fin 3 → Nat :=
  let v98 : Index := Scalar.indexCast v97
  let c4_44 : Index := 4#32
  let c0_45 : Index := 0#32
  ![v98.toNat, 4, 0]

def k0_chk5 (v97 : BitVec 32) : Prop :=
  (∀ a, (k0_off12 v97) a + S1x1x512.size a ≤ S128x32x512.size a)
theorem k0_off12_inb : ∀ (v97 : BitVec 32) (k0_hw5 : k0_chk5 v97), ∀ a, (k0_off12 v97) a + S1x1x512.size a ≤ S128x32x512.size a := fun v97 k0_hw5 => k0_hw5

def k0_off13 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v101 : Index := Scalar.indexCast v6
  let c5 : Index := 5#32
  ![v101.toNat, 5]
def k0_off14 (v102 : BitVec 32) : Fin 3 → Nat :=
  let v103 : Index := Scalar.indexCast v102
  let c5_46 : Index := 5#32
  let c0_47 : Index := 0#32
  ![v103.toNat, 5, 0]

def k0_chk6 (v102 : BitVec 32) : Prop :=
  (∀ a, (k0_off14 v102) a + S1x1x512.size a ≤ S128x32x512.size a)
theorem k0_off14_inb : ∀ (v102 : BitVec 32) (k0_hw6 : k0_chk6 v102), ∀ a, (k0_off14 v102) a + S1x1x512.size a ≤ S128x32x512.size a := fun v102 k0_hw6 => k0_hw6

def k0_off15 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v106 : Index := Scalar.indexCast v6
  let c6 : Index := 6#32
  ![v106.toNat, 6]
def k0_off16 (v107 : BitVec 32) : Fin 3 → Nat :=
  let v108 : Index := Scalar.indexCast v107
  let c6_48 : Index := 6#32
  let c0_49 : Index := 0#32
  ![v108.toNat, 6, 0]

def k0_chk7 (v107 : BitVec 32) : Prop :=
  (∀ a, (k0_off16 v107) a + S1x1x512.size a ≤ S128x32x512.size a)
theorem k0_off16_inb : ∀ (v107 : BitVec 32) (k0_hw7 : k0_chk7 v107), ∀ a, (k0_off16 v107) a + S1x1x512.size a ≤ S128x32x512.size a := fun v107 k0_hw7 => k0_hw7

def k0_off17 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v111 : Index := Scalar.indexCast v6
  let c7 : Index := 7#32
  ![v111.toNat, 7]
def k0_off18 (v112 : BitVec 32) : Fin 3 → Nat :=
  let v113 : Index := Scalar.indexCast v112
  let c7_50 : Index := 7#32
  let c0_51 : Index := 0#32
  ![v113.toNat, 7, 0]

def k0_chk8 (v112 : BitVec 32) : Prop :=
  (∀ a, (k0_off18 v112) a + S1x1x512.size a ≤ S128x32x512.size a)
theorem k0_off18_inb : ∀ (v112 : BitVec 32) (k0_hw8 : k0_chk8 v112), ∀ a, (k0_off18 v112) a + S1x1x512.size a ≤ S128x32x512.size a := fun v112 k0_hw8 => k0_hw8

def k0_off19 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v116 : Index := Scalar.indexCast v6
  let c8 : Index := 8#32
  ![v116.toNat, 8]
def k0_off20 (v117 : BitVec 32) : Fin 3 → Nat :=
  let v118 : Index := Scalar.indexCast v117
  let c8_52 : Index := 8#32
  let c0_53 : Index := 0#32
  ![v118.toNat, 8, 0]

def k0_chk9 (v117 : BitVec 32) : Prop :=
  (∀ a, (k0_off20 v117) a + S1x1x512.size a ≤ S128x32x512.size a)
theorem k0_off20_inb : ∀ (v117 : BitVec 32) (k0_hw9 : k0_chk9 v117), ∀ a, (k0_off20 v117) a + S1x1x512.size a ≤ S128x32x512.size a := fun v117 k0_hw9 => k0_hw9

def k0_off21 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v121 : Index := Scalar.indexCast v6
  let c9 : Index := 9#32
  ![v121.toNat, 9]
def k0_off22 (v122 : BitVec 32) : Fin 3 → Nat :=
  let v123 : Index := Scalar.indexCast v122
  let c9_54 : Index := 9#32
  let c0_55 : Index := 0#32
  ![v123.toNat, 9, 0]

def k0_chk10 (v122 : BitVec 32) : Prop :=
  (∀ a, (k0_off22 v122) a + S1x1x512.size a ≤ S128x32x512.size a)
theorem k0_off22_inb : ∀ (v122 : BitVec 32) (k0_hw10 : k0_chk10 v122), ∀ a, (k0_off22 v122) a + S1x1x512.size a ≤ S128x32x512.size a := fun v122 k0_hw10 => k0_hw10

def k0_off23 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v126 : Index := Scalar.indexCast v6
  let c10 : Index := 10#32
  ![v126.toNat, 10]
def k0_off24 (v127 : BitVec 32) : Fin 3 → Nat :=
  let v128 : Index := Scalar.indexCast v127
  let c10_56 : Index := 10#32
  let c0_57 : Index := 0#32
  ![v128.toNat, 10, 0]

def k0_chk11 (v127 : BitVec 32) : Prop :=
  (∀ a, (k0_off24 v127) a + S1x1x512.size a ≤ S128x32x512.size a)
theorem k0_off24_inb : ∀ (v127 : BitVec 32) (k0_hw11 : k0_chk11 v127), ∀ a, (k0_off24 v127) a + S1x1x512.size a ≤ S128x32x512.size a := fun v127 k0_hw11 => k0_hw11

def k0_off25 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v131 : Index := Scalar.indexCast v6
  let c11 : Index := 11#32
  ![v131.toNat, 11]
def k0_off26 (v132 : BitVec 32) : Fin 3 → Nat :=
  let v133 : Index := Scalar.indexCast v132
  let c11_58 : Index := 11#32
  let c0_59 : Index := 0#32
  ![v133.toNat, 11, 0]

def k0_chk12 (v132 : BitVec 32) : Prop :=
  (∀ a, (k0_off26 v132) a + S1x1x512.size a ≤ S128x32x512.size a)
theorem k0_off26_inb : ∀ (v132 : BitVec 32) (k0_hw12 : k0_chk12 v132), ∀ a, (k0_off26 v132) a + S1x1x512.size a ≤ S128x32x512.size a := fun v132 k0_hw12 => k0_hw12

def k0_off27 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v136 : Index := Scalar.indexCast v6
  let c12 : Index := 12#32
  ![v136.toNat, 12]
def k0_off28 (v137 : BitVec 32) : Fin 3 → Nat :=
  let v138 : Index := Scalar.indexCast v137
  let c12_60 : Index := 12#32
  let c0_61 : Index := 0#32
  ![v138.toNat, 12, 0]

def k0_chk13 (v137 : BitVec 32) : Prop :=
  (∀ a, (k0_off28 v137) a + S1x1x512.size a ≤ S128x32x512.size a)
theorem k0_off28_inb : ∀ (v137 : BitVec 32) (k0_hw13 : k0_chk13 v137), ∀ a, (k0_off28 v137) a + S1x1x512.size a ≤ S128x32x512.size a := fun v137 k0_hw13 => k0_hw13

def k0_off29 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v141 : Index := Scalar.indexCast v6
  let c13 : Index := 13#32
  ![v141.toNat, 13]
def k0_off30 (v142 : BitVec 32) : Fin 3 → Nat :=
  let v143 : Index := Scalar.indexCast v142
  let c13_62 : Index := 13#32
  let c0_63 : Index := 0#32
  ![v143.toNat, 13, 0]

def k0_chk14 (v142 : BitVec 32) : Prop :=
  (∀ a, (k0_off30 v142) a + S1x1x512.size a ≤ S128x32x512.size a)
theorem k0_off30_inb : ∀ (v142 : BitVec 32) (k0_hw14 : k0_chk14 v142), ∀ a, (k0_off30 v142) a + S1x1x512.size a ≤ S128x32x512.size a := fun v142 k0_hw14 => k0_hw14

def k0_off31 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v146 : Index := Scalar.indexCast v6
  let c14 : Index := 14#32
  ![v146.toNat, 14]
def k0_off32 (v147 : BitVec 32) : Fin 3 → Nat :=
  let v148 : Index := Scalar.indexCast v147
  let c14_64 : Index := 14#32
  let c0_65 : Index := 0#32
  ![v148.toNat, 14, 0]

def k0_chk15 (v147 : BitVec 32) : Prop :=
  (∀ a, (k0_off32 v147) a + S1x1x512.size a ≤ S128x32x512.size a)
theorem k0_off32_inb : ∀ (v147 : BitVec 32) (k0_hw15 : k0_chk15 v147), ∀ a, (k0_off32 v147) a + S1x1x512.size a ≤ S128x32x512.size a := fun v147 k0_hw15 => k0_hw15

def k0_off33 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v151 : Index := Scalar.indexCast v6
  let c15 : Index := 15#32
  ![v151.toNat, 15]
def k0_off34 (v152 : BitVec 32) : Fin 3 → Nat :=
  let v153 : Index := Scalar.indexCast v152
  let c15_66 : Index := 15#32
  let c0_67 : Index := 0#32
  ![v153.toNat, 15, 0]

def k0_chk16 (v152 : BitVec 32) : Prop :=
  (∀ a, (k0_off34 v152) a + S1x1x512.size a ≤ S128x32x512.size a)
theorem k0_off34_inb : ∀ (v152 : BitVec 32) (k0_hw16 : k0_chk16 v152), ∀ a, (k0_off34 v152) a + S1x1x512.size a ≤ S128x32x512.size a := fun v152 k0_hw16 => k0_hw16

def k0_off35 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v156 : Index := Scalar.indexCast v6
  let c16 : Index := 16#32
  ![v156.toNat, 16]
def k0_off36 (v157 : BitVec 32) : Fin 3 → Nat :=
  let v158 : Index := Scalar.indexCast v157
  let c16_68 : Index := 16#32
  let c0_69 : Index := 0#32
  ![v158.toNat, 16, 0]

def k0_chk17 (v157 : BitVec 32) : Prop :=
  (∀ a, (k0_off36 v157) a + S1x1x512.size a ≤ S128x32x512.size a)
theorem k0_off36_inb : ∀ (v157 : BitVec 32) (k0_hw17 : k0_chk17 v157), ∀ a, (k0_off36 v157) a + S1x1x512.size a ≤ S128x32x512.size a := fun v157 k0_hw17 => k0_hw17

def k0_off37 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v161 : Index := Scalar.indexCast v6
  let c17 : Index := 17#32
  ![v161.toNat, 17]
def k0_off38 (v162 : BitVec 32) : Fin 3 → Nat :=
  let v163 : Index := Scalar.indexCast v162
  let c17_70 : Index := 17#32
  let c0_71 : Index := 0#32
  ![v163.toNat, 17, 0]

def k0_chk18 (v162 : BitVec 32) : Prop :=
  (∀ a, (k0_off38 v162) a + S1x1x512.size a ≤ S128x32x512.size a)
theorem k0_off38_inb : ∀ (v162 : BitVec 32) (k0_hw18 : k0_chk18 v162), ∀ a, (k0_off38 v162) a + S1x1x512.size a ≤ S128x32x512.size a := fun v162 k0_hw18 => k0_hw18

def k0_off39 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v166 : Index := Scalar.indexCast v6
  let c18 : Index := 18#32
  ![v166.toNat, 18]
def k0_off40 (v167 : BitVec 32) : Fin 3 → Nat :=
  let v168 : Index := Scalar.indexCast v167
  let c18_72 : Index := 18#32
  let c0_73 : Index := 0#32
  ![v168.toNat, 18, 0]

def k0_chk19 (v167 : BitVec 32) : Prop :=
  (∀ a, (k0_off40 v167) a + S1x1x512.size a ≤ S128x32x512.size a)
theorem k0_off40_inb : ∀ (v167 : BitVec 32) (k0_hw19 : k0_chk19 v167), ∀ a, (k0_off40 v167) a + S1x1x512.size a ≤ S128x32x512.size a := fun v167 k0_hw19 => k0_hw19

def k0_off41 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v171 : Index := Scalar.indexCast v6
  let c19 : Index := 19#32
  ![v171.toNat, 19]
def k0_off42 (v172 : BitVec 32) : Fin 3 → Nat :=
  let v173 : Index := Scalar.indexCast v172
  let c19_74 : Index := 19#32
  let c0_75 : Index := 0#32
  ![v173.toNat, 19, 0]

def k0_chk20 (v172 : BitVec 32) : Prop :=
  (∀ a, (k0_off42 v172) a + S1x1x512.size a ≤ S128x32x512.size a)
theorem k0_off42_inb : ∀ (v172 : BitVec 32) (k0_hw20 : k0_chk20 v172), ∀ a, (k0_off42 v172) a + S1x1x512.size a ≤ S128x32x512.size a := fun v172 k0_hw20 => k0_hw20

def k0_off43 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v176 : Index := Scalar.indexCast v6
  let c20 : Index := 20#32
  ![v176.toNat, 20]
def k0_off44 (v177 : BitVec 32) : Fin 3 → Nat :=
  let v178 : Index := Scalar.indexCast v177
  let c20_76 : Index := 20#32
  let c0_77 : Index := 0#32
  ![v178.toNat, 20, 0]

def k0_chk21 (v177 : BitVec 32) : Prop :=
  (∀ a, (k0_off44 v177) a + S1x1x512.size a ≤ S128x32x512.size a)
theorem k0_off44_inb : ∀ (v177 : BitVec 32) (k0_hw21 : k0_chk21 v177), ∀ a, (k0_off44 v177) a + S1x1x512.size a ≤ S128x32x512.size a := fun v177 k0_hw21 => k0_hw21

def k0_off45 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v181 : Index := Scalar.indexCast v6
  let c21 : Index := 21#32
  ![v181.toNat, 21]
def k0_off46 (v182 : BitVec 32) : Fin 3 → Nat :=
  let v183 : Index := Scalar.indexCast v182
  let c21_78 : Index := 21#32
  let c0_79 : Index := 0#32
  ![v183.toNat, 21, 0]

def k0_chk22 (v182 : BitVec 32) : Prop :=
  (∀ a, (k0_off46 v182) a + S1x1x512.size a ≤ S128x32x512.size a)
theorem k0_off46_inb : ∀ (v182 : BitVec 32) (k0_hw22 : k0_chk22 v182), ∀ a, (k0_off46 v182) a + S1x1x512.size a ≤ S128x32x512.size a := fun v182 k0_hw22 => k0_hw22

def k0_off47 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v186 : Index := Scalar.indexCast v6
  let c22 : Index := 22#32
  ![v186.toNat, 22]
def k0_off48 (v187 : BitVec 32) : Fin 3 → Nat :=
  let v188 : Index := Scalar.indexCast v187
  let c22_80 : Index := 22#32
  let c0_81 : Index := 0#32
  ![v188.toNat, 22, 0]

def k0_chk23 (v187 : BitVec 32) : Prop :=
  (∀ a, (k0_off48 v187) a + S1x1x512.size a ≤ S128x32x512.size a)
theorem k0_off48_inb : ∀ (v187 : BitVec 32) (k0_hw23 : k0_chk23 v187), ∀ a, (k0_off48 v187) a + S1x1x512.size a ≤ S128x32x512.size a := fun v187 k0_hw23 => k0_hw23

def k0_off49 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v191 : Index := Scalar.indexCast v6
  let c23 : Index := 23#32
  ![v191.toNat, 23]
def k0_off50 (v192 : BitVec 32) : Fin 3 → Nat :=
  let v193 : Index := Scalar.indexCast v192
  let c23_82 : Index := 23#32
  let c0_83 : Index := 0#32
  ![v193.toNat, 23, 0]

def k0_chk24 (v192 : BitVec 32) : Prop :=
  (∀ a, (k0_off50 v192) a + S1x1x512.size a ≤ S128x32x512.size a)
theorem k0_off50_inb : ∀ (v192 : BitVec 32) (k0_hw24 : k0_chk24 v192), ∀ a, (k0_off50 v192) a + S1x1x512.size a ≤ S128x32x512.size a := fun v192 k0_hw24 => k0_hw24

def k0_off51 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v196 : Index := Scalar.indexCast v6
  let c24 : Index := 24#32
  ![v196.toNat, 24]
def k0_off52 (v197 : BitVec 32) : Fin 3 → Nat :=
  let v198 : Index := Scalar.indexCast v197
  let c24_84 : Index := 24#32
  let c0_85 : Index := 0#32
  ![v198.toNat, 24, 0]

def k0_chk25 (v197 : BitVec 32) : Prop :=
  (∀ a, (k0_off52 v197) a + S1x1x512.size a ≤ S128x32x512.size a)
theorem k0_off52_inb : ∀ (v197 : BitVec 32) (k0_hw25 : k0_chk25 v197), ∀ a, (k0_off52 v197) a + S1x1x512.size a ≤ S128x32x512.size a := fun v197 k0_hw25 => k0_hw25

def k0_off53 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v201 : Index := Scalar.indexCast v6
  let c25 : Index := 25#32
  ![v201.toNat, 25]
def k0_off54 (v202 : BitVec 32) : Fin 3 → Nat :=
  let v203 : Index := Scalar.indexCast v202
  let c25_86 : Index := 25#32
  let c0_87 : Index := 0#32
  ![v203.toNat, 25, 0]

def k0_chk26 (v202 : BitVec 32) : Prop :=
  (∀ a, (k0_off54 v202) a + S1x1x512.size a ≤ S128x32x512.size a)
theorem k0_off54_inb : ∀ (v202 : BitVec 32) (k0_hw26 : k0_chk26 v202), ∀ a, (k0_off54 v202) a + S1x1x512.size a ≤ S128x32x512.size a := fun v202 k0_hw26 => k0_hw26

def k0_off55 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v206 : Index := Scalar.indexCast v6
  let c26 : Index := 26#32
  ![v206.toNat, 26]
def k0_off56 (v207 : BitVec 32) : Fin 3 → Nat :=
  let v208 : Index := Scalar.indexCast v207
  let c26_88 : Index := 26#32
  let c0_89 : Index := 0#32
  ![v208.toNat, 26, 0]

def k0_chk27 (v207 : BitVec 32) : Prop :=
  (∀ a, (k0_off56 v207) a + S1x1x512.size a ≤ S128x32x512.size a)
theorem k0_off56_inb : ∀ (v207 : BitVec 32) (k0_hw27 : k0_chk27 v207), ∀ a, (k0_off56 v207) a + S1x1x512.size a ≤ S128x32x512.size a := fun v207 k0_hw27 => k0_hw27

def k0_off57 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v211 : Index := Scalar.indexCast v6
  let c27 : Index := 27#32
  ![v211.toNat, 27]
def k0_off58 (v212 : BitVec 32) : Fin 3 → Nat :=
  let v213 : Index := Scalar.indexCast v212
  let c27_90 : Index := 27#32
  let c0_91 : Index := 0#32
  ![v213.toNat, 27, 0]

def k0_chk28 (v212 : BitVec 32) : Prop :=
  (∀ a, (k0_off58 v212) a + S1x1x512.size a ≤ S128x32x512.size a)
theorem k0_off58_inb : ∀ (v212 : BitVec 32) (k0_hw28 : k0_chk28 v212), ∀ a, (k0_off58 v212) a + S1x1x512.size a ≤ S128x32x512.size a := fun v212 k0_hw28 => k0_hw28

def k0_off59 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v216 : Index := Scalar.indexCast v6
  let c28 : Index := 28#32
  ![v216.toNat, 28]
def k0_off60 (v217 : BitVec 32) : Fin 3 → Nat :=
  let v218 : Index := Scalar.indexCast v217
  let c28_92 : Index := 28#32
  let c0_93 : Index := 0#32
  ![v218.toNat, 28, 0]

def k0_chk29 (v217 : BitVec 32) : Prop :=
  (∀ a, (k0_off60 v217) a + S1x1x512.size a ≤ S128x32x512.size a)
theorem k0_off60_inb : ∀ (v217 : BitVec 32) (k0_hw29 : k0_chk29 v217), ∀ a, (k0_off60 v217) a + S1x1x512.size a ≤ S128x32x512.size a := fun v217 k0_hw29 => k0_hw29

def k0_off61 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v221 : Index := Scalar.indexCast v6
  let c29 : Index := 29#32
  ![v221.toNat, 29]
def k0_off62 (v222 : BitVec 32) : Fin 3 → Nat :=
  let v223 : Index := Scalar.indexCast v222
  let c29_94 : Index := 29#32
  let c0_95 : Index := 0#32
  ![v223.toNat, 29, 0]

def k0_chk30 (v222 : BitVec 32) : Prop :=
  (∀ a, (k0_off62 v222) a + S1x1x512.size a ≤ S128x32x512.size a)
theorem k0_off62_inb : ∀ (v222 : BitVec 32) (k0_hw30 : k0_chk30 v222), ∀ a, (k0_off62 v222) a + S1x1x512.size a ≤ S128x32x512.size a := fun v222 k0_hw30 => k0_hw30

def k0_off63 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v226 : Index := Scalar.indexCast v6
  let c30 : Index := 30#32
  ![v226.toNat, 30]
def k0_off64 (v227 : BitVec 32) : Fin 3 → Nat :=
  let v228 : Index := Scalar.indexCast v227
  let c30_96 : Index := 30#32
  let c0_97 : Index := 0#32
  ![v228.toNat, 30, 0]

def k0_chk31 (v227 : BitVec 32) : Prop :=
  (∀ a, (k0_off64 v227) a + S1x1x512.size a ≤ S128x32x512.size a)
theorem k0_off64_inb : ∀ (v227 : BitVec 32) (k0_hw31 : k0_chk31 v227), ∀ a, (k0_off64 v227) a + S1x1x512.size a ≤ S128x32x512.size a := fun v227 k0_hw31 => k0_hw31

def k0_off65 (i : grid0.Coords) : Fin 2 → Nat :=
  let arg1 : BitVec 32 := BitVec.ofNat 32 (i 1).val
  let c8_i32 : BitVec 32 := 8#32
  let v5 : BitVec 32 := Scalar.muli arg1 c8_i32
  let c0_i32_4 : BitVec 32 := 0#32
  let v6 : BitVec 32 := Scalar.addi v5 c0_i32_4
  let v231 : Index := Scalar.indexCast v6
  let c31 : Index := 31#32
  ![v231.toNat, 31]
def k0_off66 (v232 : BitVec 32) : Fin 3 → Nat :=
  let v233 : Index := Scalar.indexCast v232
  let c31_98 : Index := 31#32
  let c0_99 : Index := 0#32
  ![v233.toNat, 31, 0]

def k0_chk32 (v232 : BitVec 32) : Prop :=
  (∀ a, (k0_off66 v232) a + S1x1x512.size a ≤ S128x32x512.size a)
theorem k0_off66_inb : ∀ (v232 : BitVec 32) (k0_hw32 : k0_chk32 v232), ∀ a, (k0_off66 v232) a + S1x1x512.size a ≤ S128x32x512.size a := fun v232 k0_hw32 => k0_hw32

def k0_off67 (i : grid0.Coords) : Fin 3 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let c1_i32_124 : BitVec 32 := 1#32
  let v283 : BitVec 32 := Scalar.subi v274 c1_i32_124
  let v284 : Index := Scalar.indexCast v283
  let c0_125 : Index := 0#32
  let c0_126 : Index := 0#32
  ![v284.toNat, 0, 0]
def k0_off68 (i : grid0.Coords) : Fin 3 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let c1_i32_129 : BitVec 32 := 1#32
  let v292 : BitVec 32 := Scalar.subi v274 c1_i32_129
  let v293 : Index := Scalar.indexCast v292
  let c0_130 : Index := 0#32
  let c0_131 : Index := 0#32
  ![v293.toNat, 0, 0]
def k0_off69 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v356 : Index := Scalar.indexCast v274
  let c0_158 : Index := 0#32
  ![v356.toNat, 0]
def k0_off70 (v357 : BitVec 32) : Fin 3 → Nat :=
  let v358 : Index := Scalar.indexCast v357
  let c0_159 : Index := 0#32
  let c0_160 : Index := 0#32
  ![v358.toNat, 0, 0]

def k0_chk33 (v357 : BitVec 32) : Prop :=
  (∀ a, (k0_off70 v357) a + S1x1x512.size a ≤ S128x32x512.size a)
theorem k0_off70_inb : ∀ (v357 : BitVec 32) (k0_hw33 : k0_chk33 v357), ∀ a, (k0_off70 v357) a + S1x1x512.size a ≤ S128x32x512.size a := fun v357 k0_hw33 => k0_hw33

def k0_off71 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v361 : Index := Scalar.indexCast v274
  let c1_161 : Index := 1#32
  ![v361.toNat, 1]
def k0_off72 (v362 : BitVec 32) : Fin 3 → Nat :=
  let v363 : Index := Scalar.indexCast v362
  let c1_162 : Index := 1#32
  let c0_163 : Index := 0#32
  ![v363.toNat, 1, 0]

def k0_chk34 (v362 : BitVec 32) : Prop :=
  (∀ a, (k0_off72 v362) a + S1x1x512.size a ≤ S128x32x512.size a)
theorem k0_off72_inb : ∀ (v362 : BitVec 32) (k0_hw34 : k0_chk34 v362), ∀ a, (k0_off72 v362) a + S1x1x512.size a ≤ S128x32x512.size a := fun v362 k0_hw34 => k0_hw34

def k0_off73 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v366 : Index := Scalar.indexCast v274
  let c2_164 : Index := 2#32
  ![v366.toNat, 2]
def k0_off74 (v367 : BitVec 32) : Fin 3 → Nat :=
  let v368 : Index := Scalar.indexCast v367
  let c2_165 : Index := 2#32
  let c0_166 : Index := 0#32
  ![v368.toNat, 2, 0]

def k0_chk35 (v367 : BitVec 32) : Prop :=
  (∀ a, (k0_off74 v367) a + S1x1x512.size a ≤ S128x32x512.size a)
theorem k0_off74_inb : ∀ (v367 : BitVec 32) (k0_hw35 : k0_chk35 v367), ∀ a, (k0_off74 v367) a + S1x1x512.size a ≤ S128x32x512.size a := fun v367 k0_hw35 => k0_hw35

def k0_off75 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v371 : Index := Scalar.indexCast v274
  let c3_167 : Index := 3#32
  ![v371.toNat, 3]
def k0_off76 (v372 : BitVec 32) : Fin 3 → Nat :=
  let v373 : Index := Scalar.indexCast v372
  let c3_168 : Index := 3#32
  let c0_169 : Index := 0#32
  ![v373.toNat, 3, 0]

def k0_chk36 (v372 : BitVec 32) : Prop :=
  (∀ a, (k0_off76 v372) a + S1x1x512.size a ≤ S128x32x512.size a)
theorem k0_off76_inb : ∀ (v372 : BitVec 32) (k0_hw36 : k0_chk36 v372), ∀ a, (k0_off76 v372) a + S1x1x512.size a ≤ S128x32x512.size a := fun v372 k0_hw36 => k0_hw36

def k0_off77 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v376 : Index := Scalar.indexCast v274
  let c4_170 : Index := 4#32
  ![v376.toNat, 4]
def k0_off78 (v377 : BitVec 32) : Fin 3 → Nat :=
  let v378 : Index := Scalar.indexCast v377
  let c4_171 : Index := 4#32
  let c0_172 : Index := 0#32
  ![v378.toNat, 4, 0]

def k0_chk37 (v377 : BitVec 32) : Prop :=
  (∀ a, (k0_off78 v377) a + S1x1x512.size a ≤ S128x32x512.size a)
theorem k0_off78_inb : ∀ (v377 : BitVec 32) (k0_hw37 : k0_chk37 v377), ∀ a, (k0_off78 v377) a + S1x1x512.size a ≤ S128x32x512.size a := fun v377 k0_hw37 => k0_hw37

def k0_off79 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v381 : Index := Scalar.indexCast v274
  let c5_173 : Index := 5#32
  ![v381.toNat, 5]
def k0_off80 (v382 : BitVec 32) : Fin 3 → Nat :=
  let v383 : Index := Scalar.indexCast v382
  let c5_174 : Index := 5#32
  let c0_175 : Index := 0#32
  ![v383.toNat, 5, 0]

def k0_chk38 (v382 : BitVec 32) : Prop :=
  (∀ a, (k0_off80 v382) a + S1x1x512.size a ≤ S128x32x512.size a)
theorem k0_off80_inb : ∀ (v382 : BitVec 32) (k0_hw38 : k0_chk38 v382), ∀ a, (k0_off80 v382) a + S1x1x512.size a ≤ S128x32x512.size a := fun v382 k0_hw38 => k0_hw38

def k0_off81 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v386 : Index := Scalar.indexCast v274
  let c6_176 : Index := 6#32
  ![v386.toNat, 6]
def k0_off82 (v387 : BitVec 32) : Fin 3 → Nat :=
  let v388 : Index := Scalar.indexCast v387
  let c6_177 : Index := 6#32
  let c0_178 : Index := 0#32
  ![v388.toNat, 6, 0]

def k0_chk39 (v387 : BitVec 32) : Prop :=
  (∀ a, (k0_off82 v387) a + S1x1x512.size a ≤ S128x32x512.size a)
theorem k0_off82_inb : ∀ (v387 : BitVec 32) (k0_hw39 : k0_chk39 v387), ∀ a, (k0_off82 v387) a + S1x1x512.size a ≤ S128x32x512.size a := fun v387 k0_hw39 => k0_hw39

def k0_off83 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v391 : Index := Scalar.indexCast v274
  let c7_179 : Index := 7#32
  ![v391.toNat, 7]
def k0_off84 (v392 : BitVec 32) : Fin 3 → Nat :=
  let v393 : Index := Scalar.indexCast v392
  let c7_180 : Index := 7#32
  let c0_181 : Index := 0#32
  ![v393.toNat, 7, 0]

def k0_chk40 (v392 : BitVec 32) : Prop :=
  (∀ a, (k0_off84 v392) a + S1x1x512.size a ≤ S128x32x512.size a)
theorem k0_off84_inb : ∀ (v392 : BitVec 32) (k0_hw40 : k0_chk40 v392), ∀ a, (k0_off84 v392) a + S1x1x512.size a ≤ S128x32x512.size a := fun v392 k0_hw40 => k0_hw40

def k0_off85 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v396 : Index := Scalar.indexCast v274
  let c8_182 : Index := 8#32
  ![v396.toNat, 8]
def k0_off86 (v397 : BitVec 32) : Fin 3 → Nat :=
  let v398 : Index := Scalar.indexCast v397
  let c8_183 : Index := 8#32
  let c0_184 : Index := 0#32
  ![v398.toNat, 8, 0]

def k0_chk41 (v397 : BitVec 32) : Prop :=
  (∀ a, (k0_off86 v397) a + S1x1x512.size a ≤ S128x32x512.size a)
theorem k0_off86_inb : ∀ (v397 : BitVec 32) (k0_hw41 : k0_chk41 v397), ∀ a, (k0_off86 v397) a + S1x1x512.size a ≤ S128x32x512.size a := fun v397 k0_hw41 => k0_hw41

def k0_off87 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v401 : Index := Scalar.indexCast v274
  let c9_185 : Index := 9#32
  ![v401.toNat, 9]
def k0_off88 (v402 : BitVec 32) : Fin 3 → Nat :=
  let v403 : Index := Scalar.indexCast v402
  let c9_186 : Index := 9#32
  let c0_187 : Index := 0#32
  ![v403.toNat, 9, 0]

def k0_chk42 (v402 : BitVec 32) : Prop :=
  (∀ a, (k0_off88 v402) a + S1x1x512.size a ≤ S128x32x512.size a)
theorem k0_off88_inb : ∀ (v402 : BitVec 32) (k0_hw42 : k0_chk42 v402), ∀ a, (k0_off88 v402) a + S1x1x512.size a ≤ S128x32x512.size a := fun v402 k0_hw42 => k0_hw42

def k0_off89 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v406 : Index := Scalar.indexCast v274
  let c10_188 : Index := 10#32
  ![v406.toNat, 10]
def k0_off90 (v407 : BitVec 32) : Fin 3 → Nat :=
  let v408 : Index := Scalar.indexCast v407
  let c10_189 : Index := 10#32
  let c0_190 : Index := 0#32
  ![v408.toNat, 10, 0]

def k0_chk43 (v407 : BitVec 32) : Prop :=
  (∀ a, (k0_off90 v407) a + S1x1x512.size a ≤ S128x32x512.size a)
theorem k0_off90_inb : ∀ (v407 : BitVec 32) (k0_hw43 : k0_chk43 v407), ∀ a, (k0_off90 v407) a + S1x1x512.size a ≤ S128x32x512.size a := fun v407 k0_hw43 => k0_hw43

def k0_off91 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v411 : Index := Scalar.indexCast v274
  let c11_191 : Index := 11#32
  ![v411.toNat, 11]
def k0_off92 (v412 : BitVec 32) : Fin 3 → Nat :=
  let v413 : Index := Scalar.indexCast v412
  let c11_192 : Index := 11#32
  let c0_193 : Index := 0#32
  ![v413.toNat, 11, 0]

def k0_chk44 (v412 : BitVec 32) : Prop :=
  (∀ a, (k0_off92 v412) a + S1x1x512.size a ≤ S128x32x512.size a)
theorem k0_off92_inb : ∀ (v412 : BitVec 32) (k0_hw44 : k0_chk44 v412), ∀ a, (k0_off92 v412) a + S1x1x512.size a ≤ S128x32x512.size a := fun v412 k0_hw44 => k0_hw44

def k0_off93 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v416 : Index := Scalar.indexCast v274
  let c12_194 : Index := 12#32
  ![v416.toNat, 12]
def k0_off94 (v417 : BitVec 32) : Fin 3 → Nat :=
  let v418 : Index := Scalar.indexCast v417
  let c12_195 : Index := 12#32
  let c0_196 : Index := 0#32
  ![v418.toNat, 12, 0]

def k0_chk45 (v417 : BitVec 32) : Prop :=
  (∀ a, (k0_off94 v417) a + S1x1x512.size a ≤ S128x32x512.size a)
theorem k0_off94_inb : ∀ (v417 : BitVec 32) (k0_hw45 : k0_chk45 v417), ∀ a, (k0_off94 v417) a + S1x1x512.size a ≤ S128x32x512.size a := fun v417 k0_hw45 => k0_hw45

def k0_off95 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v421 : Index := Scalar.indexCast v274
  let c13_197 : Index := 13#32
  ![v421.toNat, 13]
def k0_off96 (v422 : BitVec 32) : Fin 3 → Nat :=
  let v423 : Index := Scalar.indexCast v422
  let c13_198 : Index := 13#32
  let c0_199 : Index := 0#32
  ![v423.toNat, 13, 0]

def k0_chk46 (v422 : BitVec 32) : Prop :=
  (∀ a, (k0_off96 v422) a + S1x1x512.size a ≤ S128x32x512.size a)
theorem k0_off96_inb : ∀ (v422 : BitVec 32) (k0_hw46 : k0_chk46 v422), ∀ a, (k0_off96 v422) a + S1x1x512.size a ≤ S128x32x512.size a := fun v422 k0_hw46 => k0_hw46

def k0_off97 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v426 : Index := Scalar.indexCast v274
  let c14_200 : Index := 14#32
  ![v426.toNat, 14]
def k0_off98 (v427 : BitVec 32) : Fin 3 → Nat :=
  let v428 : Index := Scalar.indexCast v427
  let c14_201 : Index := 14#32
  let c0_202 : Index := 0#32
  ![v428.toNat, 14, 0]

def k0_chk47 (v427 : BitVec 32) : Prop :=
  (∀ a, (k0_off98 v427) a + S1x1x512.size a ≤ S128x32x512.size a)
theorem k0_off98_inb : ∀ (v427 : BitVec 32) (k0_hw47 : k0_chk47 v427), ∀ a, (k0_off98 v427) a + S1x1x512.size a ≤ S128x32x512.size a := fun v427 k0_hw47 => k0_hw47

def k0_off99 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v431 : Index := Scalar.indexCast v274
  let c15_203 : Index := 15#32
  ![v431.toNat, 15]
def k0_off100 (v432 : BitVec 32) : Fin 3 → Nat :=
  let v433 : Index := Scalar.indexCast v432
  let c15_204 : Index := 15#32
  let c0_205 : Index := 0#32
  ![v433.toNat, 15, 0]

def k0_chk48 (v432 : BitVec 32) : Prop :=
  (∀ a, (k0_off100 v432) a + S1x1x512.size a ≤ S128x32x512.size a)
theorem k0_off100_inb : ∀ (v432 : BitVec 32) (k0_hw48 : k0_chk48 v432), ∀ a, (k0_off100 v432) a + S1x1x512.size a ≤ S128x32x512.size a := fun v432 k0_hw48 => k0_hw48

def k0_off101 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v436 : Index := Scalar.indexCast v274
  let c16_206 : Index := 16#32
  ![v436.toNat, 16]
def k0_off102 (v437 : BitVec 32) : Fin 3 → Nat :=
  let v438 : Index := Scalar.indexCast v437
  let c16_207 : Index := 16#32
  let c0_208 : Index := 0#32
  ![v438.toNat, 16, 0]

def k0_chk49 (v437 : BitVec 32) : Prop :=
  (∀ a, (k0_off102 v437) a + S1x1x512.size a ≤ S128x32x512.size a)
theorem k0_off102_inb : ∀ (v437 : BitVec 32) (k0_hw49 : k0_chk49 v437), ∀ a, (k0_off102 v437) a + S1x1x512.size a ≤ S128x32x512.size a := fun v437 k0_hw49 => k0_hw49

def k0_off103 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v441 : Index := Scalar.indexCast v274
  let c17_209 : Index := 17#32
  ![v441.toNat, 17]
def k0_off104 (v442 : BitVec 32) : Fin 3 → Nat :=
  let v443 : Index := Scalar.indexCast v442
  let c17_210 : Index := 17#32
  let c0_211 : Index := 0#32
  ![v443.toNat, 17, 0]

def k0_chk50 (v442 : BitVec 32) : Prop :=
  (∀ a, (k0_off104 v442) a + S1x1x512.size a ≤ S128x32x512.size a)
theorem k0_off104_inb : ∀ (v442 : BitVec 32) (k0_hw50 : k0_chk50 v442), ∀ a, (k0_off104 v442) a + S1x1x512.size a ≤ S128x32x512.size a := fun v442 k0_hw50 => k0_hw50

def k0_off105 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v446 : Index := Scalar.indexCast v274
  let c18_212 : Index := 18#32
  ![v446.toNat, 18]
def k0_off106 (v447 : BitVec 32) : Fin 3 → Nat :=
  let v448 : Index := Scalar.indexCast v447
  let c18_213 : Index := 18#32
  let c0_214 : Index := 0#32
  ![v448.toNat, 18, 0]

def k0_chk51 (v447 : BitVec 32) : Prop :=
  (∀ a, (k0_off106 v447) a + S1x1x512.size a ≤ S128x32x512.size a)
theorem k0_off106_inb : ∀ (v447 : BitVec 32) (k0_hw51 : k0_chk51 v447), ∀ a, (k0_off106 v447) a + S1x1x512.size a ≤ S128x32x512.size a := fun v447 k0_hw51 => k0_hw51

def k0_off107 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v451 : Index := Scalar.indexCast v274
  let c19_215 : Index := 19#32
  ![v451.toNat, 19]
def k0_off108 (v452 : BitVec 32) : Fin 3 → Nat :=
  let v453 : Index := Scalar.indexCast v452
  let c19_216 : Index := 19#32
  let c0_217 : Index := 0#32
  ![v453.toNat, 19, 0]

def k0_chk52 (v452 : BitVec 32) : Prop :=
  (∀ a, (k0_off108 v452) a + S1x1x512.size a ≤ S128x32x512.size a)
theorem k0_off108_inb : ∀ (v452 : BitVec 32) (k0_hw52 : k0_chk52 v452), ∀ a, (k0_off108 v452) a + S1x1x512.size a ≤ S128x32x512.size a := fun v452 k0_hw52 => k0_hw52

def k0_off109 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v456 : Index := Scalar.indexCast v274
  let c20_218 : Index := 20#32
  ![v456.toNat, 20]
def k0_off110 (v457 : BitVec 32) : Fin 3 → Nat :=
  let v458 : Index := Scalar.indexCast v457
  let c20_219 : Index := 20#32
  let c0_220 : Index := 0#32
  ![v458.toNat, 20, 0]

def k0_chk53 (v457 : BitVec 32) : Prop :=
  (∀ a, (k0_off110 v457) a + S1x1x512.size a ≤ S128x32x512.size a)
theorem k0_off110_inb : ∀ (v457 : BitVec 32) (k0_hw53 : k0_chk53 v457), ∀ a, (k0_off110 v457) a + S1x1x512.size a ≤ S128x32x512.size a := fun v457 k0_hw53 => k0_hw53

def k0_off111 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v461 : Index := Scalar.indexCast v274
  let c21_221 : Index := 21#32
  ![v461.toNat, 21]
def k0_off112 (v462 : BitVec 32) : Fin 3 → Nat :=
  let v463 : Index := Scalar.indexCast v462
  let c21_222 : Index := 21#32
  let c0_223 : Index := 0#32
  ![v463.toNat, 21, 0]

def k0_chk54 (v462 : BitVec 32) : Prop :=
  (∀ a, (k0_off112 v462) a + S1x1x512.size a ≤ S128x32x512.size a)
theorem k0_off112_inb : ∀ (v462 : BitVec 32) (k0_hw54 : k0_chk54 v462), ∀ a, (k0_off112 v462) a + S1x1x512.size a ≤ S128x32x512.size a := fun v462 k0_hw54 => k0_hw54

def k0_off113 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v466 : Index := Scalar.indexCast v274
  let c22_224 : Index := 22#32
  ![v466.toNat, 22]
def k0_off114 (v467 : BitVec 32) : Fin 3 → Nat :=
  let v468 : Index := Scalar.indexCast v467
  let c22_225 : Index := 22#32
  let c0_226 : Index := 0#32
  ![v468.toNat, 22, 0]

def k0_chk55 (v467 : BitVec 32) : Prop :=
  (∀ a, (k0_off114 v467) a + S1x1x512.size a ≤ S128x32x512.size a)
theorem k0_off114_inb : ∀ (v467 : BitVec 32) (k0_hw55 : k0_chk55 v467), ∀ a, (k0_off114 v467) a + S1x1x512.size a ≤ S128x32x512.size a := fun v467 k0_hw55 => k0_hw55

def k0_off115 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v471 : Index := Scalar.indexCast v274
  let c23_227 : Index := 23#32
  ![v471.toNat, 23]
def k0_off116 (v472 : BitVec 32) : Fin 3 → Nat :=
  let v473 : Index := Scalar.indexCast v472
  let c23_228 : Index := 23#32
  let c0_229 : Index := 0#32
  ![v473.toNat, 23, 0]

def k0_chk56 (v472 : BitVec 32) : Prop :=
  (∀ a, (k0_off116 v472) a + S1x1x512.size a ≤ S128x32x512.size a)
theorem k0_off116_inb : ∀ (v472 : BitVec 32) (k0_hw56 : k0_chk56 v472), ∀ a, (k0_off116 v472) a + S1x1x512.size a ≤ S128x32x512.size a := fun v472 k0_hw56 => k0_hw56

def k0_off117 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v476 : Index := Scalar.indexCast v274
  let c24_230 : Index := 24#32
  ![v476.toNat, 24]
def k0_off118 (v477 : BitVec 32) : Fin 3 → Nat :=
  let v478 : Index := Scalar.indexCast v477
  let c24_231 : Index := 24#32
  let c0_232 : Index := 0#32
  ![v478.toNat, 24, 0]

def k0_chk57 (v477 : BitVec 32) : Prop :=
  (∀ a, (k0_off118 v477) a + S1x1x512.size a ≤ S128x32x512.size a)
theorem k0_off118_inb : ∀ (v477 : BitVec 32) (k0_hw57 : k0_chk57 v477), ∀ a, (k0_off118 v477) a + S1x1x512.size a ≤ S128x32x512.size a := fun v477 k0_hw57 => k0_hw57

def k0_off119 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v481 : Index := Scalar.indexCast v274
  let c25_233 : Index := 25#32
  ![v481.toNat, 25]
def k0_off120 (v482 : BitVec 32) : Fin 3 → Nat :=
  let v483 : Index := Scalar.indexCast v482
  let c25_234 : Index := 25#32
  let c0_235 : Index := 0#32
  ![v483.toNat, 25, 0]

def k0_chk58 (v482 : BitVec 32) : Prop :=
  (∀ a, (k0_off120 v482) a + S1x1x512.size a ≤ S128x32x512.size a)
theorem k0_off120_inb : ∀ (v482 : BitVec 32) (k0_hw58 : k0_chk58 v482), ∀ a, (k0_off120 v482) a + S1x1x512.size a ≤ S128x32x512.size a := fun v482 k0_hw58 => k0_hw58

def k0_off121 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v486 : Index := Scalar.indexCast v274
  let c26_236 : Index := 26#32
  ![v486.toNat, 26]
def k0_off122 (v487 : BitVec 32) : Fin 3 → Nat :=
  let v488 : Index := Scalar.indexCast v487
  let c26_237 : Index := 26#32
  let c0_238 : Index := 0#32
  ![v488.toNat, 26, 0]

def k0_chk59 (v487 : BitVec 32) : Prop :=
  (∀ a, (k0_off122 v487) a + S1x1x512.size a ≤ S128x32x512.size a)
theorem k0_off122_inb : ∀ (v487 : BitVec 32) (k0_hw59 : k0_chk59 v487), ∀ a, (k0_off122 v487) a + S1x1x512.size a ≤ S128x32x512.size a := fun v487 k0_hw59 => k0_hw59

def k0_off123 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v491 : Index := Scalar.indexCast v274
  let c27_239 : Index := 27#32
  ![v491.toNat, 27]
def k0_off124 (v492 : BitVec 32) : Fin 3 → Nat :=
  let v493 : Index := Scalar.indexCast v492
  let c27_240 : Index := 27#32
  let c0_241 : Index := 0#32
  ![v493.toNat, 27, 0]

def k0_chk60 (v492 : BitVec 32) : Prop :=
  (∀ a, (k0_off124 v492) a + S1x1x512.size a ≤ S128x32x512.size a)
theorem k0_off124_inb : ∀ (v492 : BitVec 32) (k0_hw60 : k0_chk60 v492), ∀ a, (k0_off124 v492) a + S1x1x512.size a ≤ S128x32x512.size a := fun v492 k0_hw60 => k0_hw60

def k0_off125 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v496 : Index := Scalar.indexCast v274
  let c28_242 : Index := 28#32
  ![v496.toNat, 28]
def k0_off126 (v497 : BitVec 32) : Fin 3 → Nat :=
  let v498 : Index := Scalar.indexCast v497
  let c28_243 : Index := 28#32
  let c0_244 : Index := 0#32
  ![v498.toNat, 28, 0]

def k0_chk61 (v497 : BitVec 32) : Prop :=
  (∀ a, (k0_off126 v497) a + S1x1x512.size a ≤ S128x32x512.size a)
theorem k0_off126_inb : ∀ (v497 : BitVec 32) (k0_hw61 : k0_chk61 v497), ∀ a, (k0_off126 v497) a + S1x1x512.size a ≤ S128x32x512.size a := fun v497 k0_hw61 => k0_hw61

def k0_off127 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v501 : Index := Scalar.indexCast v274
  let c29_245 : Index := 29#32
  ![v501.toNat, 29]
def k0_off128 (v502 : BitVec 32) : Fin 3 → Nat :=
  let v503 : Index := Scalar.indexCast v502
  let c29_246 : Index := 29#32
  let c0_247 : Index := 0#32
  ![v503.toNat, 29, 0]

def k0_chk62 (v502 : BitVec 32) : Prop :=
  (∀ a, (k0_off128 v502) a + S1x1x512.size a ≤ S128x32x512.size a)
theorem k0_off128_inb : ∀ (v502 : BitVec 32) (k0_hw62 : k0_chk62 v502), ∀ a, (k0_off128 v502) a + S1x1x512.size a ≤ S128x32x512.size a := fun v502 k0_hw62 => k0_hw62

def k0_off129 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v506 : Index := Scalar.indexCast v274
  let c30_248 : Index := 30#32
  ![v506.toNat, 30]
def k0_off130 (v507 : BitVec 32) : Fin 3 → Nat :=
  let v508 : Index := Scalar.indexCast v507
  let c30_249 : Index := 30#32
  let c0_250 : Index := 0#32
  ![v508.toNat, 30, 0]

def k0_chk63 (v507 : BitVec 32) : Prop :=
  (∀ a, (k0_off130 v507) a + S1x1x512.size a ≤ S128x32x512.size a)
theorem k0_off130_inb : ∀ (v507 : BitVec 32) (k0_hw63 : k0_chk63 v507), ∀ a, (k0_off130 v507) a + S1x1x512.size a ≤ S128x32x512.size a := fun v507 k0_hw63 => k0_hw63

def k0_off131 (i : grid0.Coords) : Fin 2 → Nat :=
  let arg1 : BitVec 32 := BitVec.ofNat 32 (i 1).val
  let c8_i32_120 : BitVec 32 := 8#32
  let v273 : BitVec 32 := Scalar.muli arg1 c8_i32_120
  let c1_i32 : BitVec 32 := 1#32
  let v274 : BitVec 32 := Scalar.addi v273 c1_i32
  let v511 : Index := Scalar.indexCast v274
  let c31_251 : Index := 31#32
  ![v511.toNat, 31]
def k0_off132 (v512 : BitVec 32) : Fin 3 → Nat :=
  let v513 : Index := Scalar.indexCast v512
  let c31_252 : Index := 31#32
  let c0_253 : Index := 0#32
  ![v513.toNat, 31, 0]

def k0_chk64 (v512 : BitVec 32) : Prop :=
  (∀ a, (k0_off132 v512) a + S1x1x512.size a ≤ S128x32x512.size a)
theorem k0_off132_inb : ∀ (v512 : BitVec 32) (k0_hw64 : k0_chk64 v512), ∀ a, (k0_off132 v512) a + S1x1x512.size a ≤ S128x32x512.size a := fun v512 k0_hw64 => k0_hw64

def k0_off133 (i : grid0.Coords) : Fin 3 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let c1_i32_278 : BitVec 32 := 1#32
  let v563 : BitVec 32 := Scalar.subi v554 c1_i32_278
  let v564 : Index := Scalar.indexCast v563
  let c0_279 : Index := 0#32
  let c0_280 : Index := 0#32
  ![v564.toNat, 0, 0]
def k0_off134 (i : grid0.Coords) : Fin 3 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let c1_i32_283 : BitVec 32 := 1#32
  let v572 : BitVec 32 := Scalar.subi v554 c1_i32_283
  let v573 : Index := Scalar.indexCast v572
  let c0_284 : Index := 0#32
  let c0_285 : Index := 0#32
  ![v573.toNat, 0, 0]
def k0_off135 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v636 : Index := Scalar.indexCast v554
  let c0_312 : Index := 0#32
  ![v636.toNat, 0]
def k0_off136 (v637 : BitVec 32) : Fin 3 → Nat :=
  let v638 : Index := Scalar.indexCast v637
  let c0_313 : Index := 0#32
  let c0_314 : Index := 0#32
  ![v638.toNat, 0, 0]

def k0_chk65 (v637 : BitVec 32) : Prop :=
  (∀ a, (k0_off136 v637) a + S1x1x512.size a ≤ S128x32x512.size a)
theorem k0_off136_inb : ∀ (v637 : BitVec 32) (k0_hw65 : k0_chk65 v637), ∀ a, (k0_off136 v637) a + S1x1x512.size a ≤ S128x32x512.size a := fun v637 k0_hw65 => k0_hw65

def k0_off137 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v641 : Index := Scalar.indexCast v554
  let c1_315 : Index := 1#32
  ![v641.toNat, 1]
def k0_off138 (v642 : BitVec 32) : Fin 3 → Nat :=
  let v643 : Index := Scalar.indexCast v642
  let c1_316 : Index := 1#32
  let c0_317 : Index := 0#32
  ![v643.toNat, 1, 0]

def k0_chk66 (v642 : BitVec 32) : Prop :=
  (∀ a, (k0_off138 v642) a + S1x1x512.size a ≤ S128x32x512.size a)
theorem k0_off138_inb : ∀ (v642 : BitVec 32) (k0_hw66 : k0_chk66 v642), ∀ a, (k0_off138 v642) a + S1x1x512.size a ≤ S128x32x512.size a := fun v642 k0_hw66 => k0_hw66

def k0_off139 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v646 : Index := Scalar.indexCast v554
  let c2_318 : Index := 2#32
  ![v646.toNat, 2]
def k0_off140 (v647 : BitVec 32) : Fin 3 → Nat :=
  let v648 : Index := Scalar.indexCast v647
  let c2_319 : Index := 2#32
  let c0_320 : Index := 0#32
  ![v648.toNat, 2, 0]

def k0_chk67 (v647 : BitVec 32) : Prop :=
  (∀ a, (k0_off140 v647) a + S1x1x512.size a ≤ S128x32x512.size a)
theorem k0_off140_inb : ∀ (v647 : BitVec 32) (k0_hw67 : k0_chk67 v647), ∀ a, (k0_off140 v647) a + S1x1x512.size a ≤ S128x32x512.size a := fun v647 k0_hw67 => k0_hw67

def k0_off141 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v651 : Index := Scalar.indexCast v554
  let c3_321 : Index := 3#32
  ![v651.toNat, 3]
def k0_off142 (v652 : BitVec 32) : Fin 3 → Nat :=
  let v653 : Index := Scalar.indexCast v652
  let c3_322 : Index := 3#32
  let c0_323 : Index := 0#32
  ![v653.toNat, 3, 0]

def k0_chk68 (v652 : BitVec 32) : Prop :=
  (∀ a, (k0_off142 v652) a + S1x1x512.size a ≤ S128x32x512.size a)
theorem k0_off142_inb : ∀ (v652 : BitVec 32) (k0_hw68 : k0_chk68 v652), ∀ a, (k0_off142 v652) a + S1x1x512.size a ≤ S128x32x512.size a := fun v652 k0_hw68 => k0_hw68

def k0_off143 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v656 : Index := Scalar.indexCast v554
  let c4_324 : Index := 4#32
  ![v656.toNat, 4]
def k0_off144 (v657 : BitVec 32) : Fin 3 → Nat :=
  let v658 : Index := Scalar.indexCast v657
  let c4_325 : Index := 4#32
  let c0_326 : Index := 0#32
  ![v658.toNat, 4, 0]

def k0_chk69 (v657 : BitVec 32) : Prop :=
  (∀ a, (k0_off144 v657) a + S1x1x512.size a ≤ S128x32x512.size a)
theorem k0_off144_inb : ∀ (v657 : BitVec 32) (k0_hw69 : k0_chk69 v657), ∀ a, (k0_off144 v657) a + S1x1x512.size a ≤ S128x32x512.size a := fun v657 k0_hw69 => k0_hw69

def k0_off145 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v661 : Index := Scalar.indexCast v554
  let c5_327 : Index := 5#32
  ![v661.toNat, 5]
def k0_off146 (v662 : BitVec 32) : Fin 3 → Nat :=
  let v663 : Index := Scalar.indexCast v662
  let c5_328 : Index := 5#32
  let c0_329 : Index := 0#32
  ![v663.toNat, 5, 0]

def k0_chk70 (v662 : BitVec 32) : Prop :=
  (∀ a, (k0_off146 v662) a + S1x1x512.size a ≤ S128x32x512.size a)
theorem k0_off146_inb : ∀ (v662 : BitVec 32) (k0_hw70 : k0_chk70 v662), ∀ a, (k0_off146 v662) a + S1x1x512.size a ≤ S128x32x512.size a := fun v662 k0_hw70 => k0_hw70

def k0_off147 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v666 : Index := Scalar.indexCast v554
  let c6_330 : Index := 6#32
  ![v666.toNat, 6]
def k0_off148 (v667 : BitVec 32) : Fin 3 → Nat :=
  let v668 : Index := Scalar.indexCast v667
  let c6_331 : Index := 6#32
  let c0_332 : Index := 0#32
  ![v668.toNat, 6, 0]

def k0_chk71 (v667 : BitVec 32) : Prop :=
  (∀ a, (k0_off148 v667) a + S1x1x512.size a ≤ S128x32x512.size a)
theorem k0_off148_inb : ∀ (v667 : BitVec 32) (k0_hw71 : k0_chk71 v667), ∀ a, (k0_off148 v667) a + S1x1x512.size a ≤ S128x32x512.size a := fun v667 k0_hw71 => k0_hw71

def k0_off149 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v671 : Index := Scalar.indexCast v554
  let c7_333 : Index := 7#32
  ![v671.toNat, 7]
def k0_off150 (v672 : BitVec 32) : Fin 3 → Nat :=
  let v673 : Index := Scalar.indexCast v672
  let c7_334 : Index := 7#32
  let c0_335 : Index := 0#32
  ![v673.toNat, 7, 0]

def k0_chk72 (v672 : BitVec 32) : Prop :=
  (∀ a, (k0_off150 v672) a + S1x1x512.size a ≤ S128x32x512.size a)
theorem k0_off150_inb : ∀ (v672 : BitVec 32) (k0_hw72 : k0_chk72 v672), ∀ a, (k0_off150 v672) a + S1x1x512.size a ≤ S128x32x512.size a := fun v672 k0_hw72 => k0_hw72

def k0_off151 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v676 : Index := Scalar.indexCast v554
  let c8_336 : Index := 8#32
  ![v676.toNat, 8]
def k0_off152 (v677 : BitVec 32) : Fin 3 → Nat :=
  let v678 : Index := Scalar.indexCast v677
  let c8_337 : Index := 8#32
  let c0_338 : Index := 0#32
  ![v678.toNat, 8, 0]

def k0_chk73 (v677 : BitVec 32) : Prop :=
  (∀ a, (k0_off152 v677) a + S1x1x512.size a ≤ S128x32x512.size a)
theorem k0_off152_inb : ∀ (v677 : BitVec 32) (k0_hw73 : k0_chk73 v677), ∀ a, (k0_off152 v677) a + S1x1x512.size a ≤ S128x32x512.size a := fun v677 k0_hw73 => k0_hw73

def k0_off153 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v681 : Index := Scalar.indexCast v554
  let c9_339 : Index := 9#32
  ![v681.toNat, 9]
def k0_off154 (v682 : BitVec 32) : Fin 3 → Nat :=
  let v683 : Index := Scalar.indexCast v682
  let c9_340 : Index := 9#32
  let c0_341 : Index := 0#32
  ![v683.toNat, 9, 0]

def k0_chk74 (v682 : BitVec 32) : Prop :=
  (∀ a, (k0_off154 v682) a + S1x1x512.size a ≤ S128x32x512.size a)
theorem k0_off154_inb : ∀ (v682 : BitVec 32) (k0_hw74 : k0_chk74 v682), ∀ a, (k0_off154 v682) a + S1x1x512.size a ≤ S128x32x512.size a := fun v682 k0_hw74 => k0_hw74

def k0_off155 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v686 : Index := Scalar.indexCast v554
  let c10_342 : Index := 10#32
  ![v686.toNat, 10]
def k0_off156 (v687 : BitVec 32) : Fin 3 → Nat :=
  let v688 : Index := Scalar.indexCast v687
  let c10_343 : Index := 10#32
  let c0_344 : Index := 0#32
  ![v688.toNat, 10, 0]

def k0_chk75 (v687 : BitVec 32) : Prop :=
  (∀ a, (k0_off156 v687) a + S1x1x512.size a ≤ S128x32x512.size a)
theorem k0_off156_inb : ∀ (v687 : BitVec 32) (k0_hw75 : k0_chk75 v687), ∀ a, (k0_off156 v687) a + S1x1x512.size a ≤ S128x32x512.size a := fun v687 k0_hw75 => k0_hw75

def k0_off157 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v691 : Index := Scalar.indexCast v554
  let c11_345 : Index := 11#32
  ![v691.toNat, 11]
def k0_off158 (v692 : BitVec 32) : Fin 3 → Nat :=
  let v693 : Index := Scalar.indexCast v692
  let c11_346 : Index := 11#32
  let c0_347 : Index := 0#32
  ![v693.toNat, 11, 0]

def k0_chk76 (v692 : BitVec 32) : Prop :=
  (∀ a, (k0_off158 v692) a + S1x1x512.size a ≤ S128x32x512.size a)
theorem k0_off158_inb : ∀ (v692 : BitVec 32) (k0_hw76 : k0_chk76 v692), ∀ a, (k0_off158 v692) a + S1x1x512.size a ≤ S128x32x512.size a := fun v692 k0_hw76 => k0_hw76

def k0_off159 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v696 : Index := Scalar.indexCast v554
  let c12_348 : Index := 12#32
  ![v696.toNat, 12]
def k0_off160 (v697 : BitVec 32) : Fin 3 → Nat :=
  let v698 : Index := Scalar.indexCast v697
  let c12_349 : Index := 12#32
  let c0_350 : Index := 0#32
  ![v698.toNat, 12, 0]

def k0_chk77 (v697 : BitVec 32) : Prop :=
  (∀ a, (k0_off160 v697) a + S1x1x512.size a ≤ S128x32x512.size a)
theorem k0_off160_inb : ∀ (v697 : BitVec 32) (k0_hw77 : k0_chk77 v697), ∀ a, (k0_off160 v697) a + S1x1x512.size a ≤ S128x32x512.size a := fun v697 k0_hw77 => k0_hw77

def k0_off161 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v701 : Index := Scalar.indexCast v554
  let c13_351 : Index := 13#32
  ![v701.toNat, 13]
def k0_off162 (v702 : BitVec 32) : Fin 3 → Nat :=
  let v703 : Index := Scalar.indexCast v702
  let c13_352 : Index := 13#32
  let c0_353 : Index := 0#32
  ![v703.toNat, 13, 0]

def k0_chk78 (v702 : BitVec 32) : Prop :=
  (∀ a, (k0_off162 v702) a + S1x1x512.size a ≤ S128x32x512.size a)
theorem k0_off162_inb : ∀ (v702 : BitVec 32) (k0_hw78 : k0_chk78 v702), ∀ a, (k0_off162 v702) a + S1x1x512.size a ≤ S128x32x512.size a := fun v702 k0_hw78 => k0_hw78

def k0_off163 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v706 : Index := Scalar.indexCast v554
  let c14_354 : Index := 14#32
  ![v706.toNat, 14]
def k0_off164 (v707 : BitVec 32) : Fin 3 → Nat :=
  let v708 : Index := Scalar.indexCast v707
  let c14_355 : Index := 14#32
  let c0_356 : Index := 0#32
  ![v708.toNat, 14, 0]

def k0_chk79 (v707 : BitVec 32) : Prop :=
  (∀ a, (k0_off164 v707) a + S1x1x512.size a ≤ S128x32x512.size a)
theorem k0_off164_inb : ∀ (v707 : BitVec 32) (k0_hw79 : k0_chk79 v707), ∀ a, (k0_off164 v707) a + S1x1x512.size a ≤ S128x32x512.size a := fun v707 k0_hw79 => k0_hw79

def k0_off165 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v711 : Index := Scalar.indexCast v554
  let c15_357 : Index := 15#32
  ![v711.toNat, 15]
def k0_off166 (v712 : BitVec 32) : Fin 3 → Nat :=
  let v713 : Index := Scalar.indexCast v712
  let c15_358 : Index := 15#32
  let c0_359 : Index := 0#32
  ![v713.toNat, 15, 0]

def k0_chk80 (v712 : BitVec 32) : Prop :=
  (∀ a, (k0_off166 v712) a + S1x1x512.size a ≤ S128x32x512.size a)
theorem k0_off166_inb : ∀ (v712 : BitVec 32) (k0_hw80 : k0_chk80 v712), ∀ a, (k0_off166 v712) a + S1x1x512.size a ≤ S128x32x512.size a := fun v712 k0_hw80 => k0_hw80

def k0_off167 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v716 : Index := Scalar.indexCast v554
  let c16_360 : Index := 16#32
  ![v716.toNat, 16]
def k0_off168 (v717 : BitVec 32) : Fin 3 → Nat :=
  let v718 : Index := Scalar.indexCast v717
  let c16_361 : Index := 16#32
  let c0_362 : Index := 0#32
  ![v718.toNat, 16, 0]

def k0_chk81 (v717 : BitVec 32) : Prop :=
  (∀ a, (k0_off168 v717) a + S1x1x512.size a ≤ S128x32x512.size a)
theorem k0_off168_inb : ∀ (v717 : BitVec 32) (k0_hw81 : k0_chk81 v717), ∀ a, (k0_off168 v717) a + S1x1x512.size a ≤ S128x32x512.size a := fun v717 k0_hw81 => k0_hw81

def k0_off169 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v721 : Index := Scalar.indexCast v554
  let c17_363 : Index := 17#32
  ![v721.toNat, 17]
def k0_off170 (v722 : BitVec 32) : Fin 3 → Nat :=
  let v723 : Index := Scalar.indexCast v722
  let c17_364 : Index := 17#32
  let c0_365 : Index := 0#32
  ![v723.toNat, 17, 0]

def k0_chk82 (v722 : BitVec 32) : Prop :=
  (∀ a, (k0_off170 v722) a + S1x1x512.size a ≤ S128x32x512.size a)
theorem k0_off170_inb : ∀ (v722 : BitVec 32) (k0_hw82 : k0_chk82 v722), ∀ a, (k0_off170 v722) a + S1x1x512.size a ≤ S128x32x512.size a := fun v722 k0_hw82 => k0_hw82

def k0_off171 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v726 : Index := Scalar.indexCast v554
  let c18_366 : Index := 18#32
  ![v726.toNat, 18]
def k0_off172 (v727 : BitVec 32) : Fin 3 → Nat :=
  let v728 : Index := Scalar.indexCast v727
  let c18_367 : Index := 18#32
  let c0_368 : Index := 0#32
  ![v728.toNat, 18, 0]

def k0_chk83 (v727 : BitVec 32) : Prop :=
  (∀ a, (k0_off172 v727) a + S1x1x512.size a ≤ S128x32x512.size a)
theorem k0_off172_inb : ∀ (v727 : BitVec 32) (k0_hw83 : k0_chk83 v727), ∀ a, (k0_off172 v727) a + S1x1x512.size a ≤ S128x32x512.size a := fun v727 k0_hw83 => k0_hw83

def k0_off173 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v731 : Index := Scalar.indexCast v554
  let c19_369 : Index := 19#32
  ![v731.toNat, 19]
def k0_off174 (v732 : BitVec 32) : Fin 3 → Nat :=
  let v733 : Index := Scalar.indexCast v732
  let c19_370 : Index := 19#32
  let c0_371 : Index := 0#32
  ![v733.toNat, 19, 0]

def k0_chk84 (v732 : BitVec 32) : Prop :=
  (∀ a, (k0_off174 v732) a + S1x1x512.size a ≤ S128x32x512.size a)
theorem k0_off174_inb : ∀ (v732 : BitVec 32) (k0_hw84 : k0_chk84 v732), ∀ a, (k0_off174 v732) a + S1x1x512.size a ≤ S128x32x512.size a := fun v732 k0_hw84 => k0_hw84

def k0_off175 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v736 : Index := Scalar.indexCast v554
  let c20_372 : Index := 20#32
  ![v736.toNat, 20]
def k0_off176 (v737 : BitVec 32) : Fin 3 → Nat :=
  let v738 : Index := Scalar.indexCast v737
  let c20_373 : Index := 20#32
  let c0_374 : Index := 0#32
  ![v738.toNat, 20, 0]

def k0_chk85 (v737 : BitVec 32) : Prop :=
  (∀ a, (k0_off176 v737) a + S1x1x512.size a ≤ S128x32x512.size a)
theorem k0_off176_inb : ∀ (v737 : BitVec 32) (k0_hw85 : k0_chk85 v737), ∀ a, (k0_off176 v737) a + S1x1x512.size a ≤ S128x32x512.size a := fun v737 k0_hw85 => k0_hw85

def k0_off177 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v741 : Index := Scalar.indexCast v554
  let c21_375 : Index := 21#32
  ![v741.toNat, 21]
def k0_off178 (v742 : BitVec 32) : Fin 3 → Nat :=
  let v743 : Index := Scalar.indexCast v742
  let c21_376 : Index := 21#32
  let c0_377 : Index := 0#32
  ![v743.toNat, 21, 0]

def k0_chk86 (v742 : BitVec 32) : Prop :=
  (∀ a, (k0_off178 v742) a + S1x1x512.size a ≤ S128x32x512.size a)
theorem k0_off178_inb : ∀ (v742 : BitVec 32) (k0_hw86 : k0_chk86 v742), ∀ a, (k0_off178 v742) a + S1x1x512.size a ≤ S128x32x512.size a := fun v742 k0_hw86 => k0_hw86

def k0_off179 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v746 : Index := Scalar.indexCast v554
  let c22_378 : Index := 22#32
  ![v746.toNat, 22]
def k0_off180 (v747 : BitVec 32) : Fin 3 → Nat :=
  let v748 : Index := Scalar.indexCast v747
  let c22_379 : Index := 22#32
  let c0_380 : Index := 0#32
  ![v748.toNat, 22, 0]

def k0_chk87 (v747 : BitVec 32) : Prop :=
  (∀ a, (k0_off180 v747) a + S1x1x512.size a ≤ S128x32x512.size a)
theorem k0_off180_inb : ∀ (v747 : BitVec 32) (k0_hw87 : k0_chk87 v747), ∀ a, (k0_off180 v747) a + S1x1x512.size a ≤ S128x32x512.size a := fun v747 k0_hw87 => k0_hw87

def k0_off181 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v751 : Index := Scalar.indexCast v554
  let c23_381 : Index := 23#32
  ![v751.toNat, 23]
def k0_off182 (v752 : BitVec 32) : Fin 3 → Nat :=
  let v753 : Index := Scalar.indexCast v752
  let c23_382 : Index := 23#32
  let c0_383 : Index := 0#32
  ![v753.toNat, 23, 0]

def k0_chk88 (v752 : BitVec 32) : Prop :=
  (∀ a, (k0_off182 v752) a + S1x1x512.size a ≤ S128x32x512.size a)
theorem k0_off182_inb : ∀ (v752 : BitVec 32) (k0_hw88 : k0_chk88 v752), ∀ a, (k0_off182 v752) a + S1x1x512.size a ≤ S128x32x512.size a := fun v752 k0_hw88 => k0_hw88

def k0_off183 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v756 : Index := Scalar.indexCast v554
  let c24_384 : Index := 24#32
  ![v756.toNat, 24]
def k0_off184 (v757 : BitVec 32) : Fin 3 → Nat :=
  let v758 : Index := Scalar.indexCast v757
  let c24_385 : Index := 24#32
  let c0_386 : Index := 0#32
  ![v758.toNat, 24, 0]

def k0_chk89 (v757 : BitVec 32) : Prop :=
  (∀ a, (k0_off184 v757) a + S1x1x512.size a ≤ S128x32x512.size a)
theorem k0_off184_inb : ∀ (v757 : BitVec 32) (k0_hw89 : k0_chk89 v757), ∀ a, (k0_off184 v757) a + S1x1x512.size a ≤ S128x32x512.size a := fun v757 k0_hw89 => k0_hw89

def k0_off185 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v761 : Index := Scalar.indexCast v554
  let c25_387 : Index := 25#32
  ![v761.toNat, 25]
def k0_off186 (v762 : BitVec 32) : Fin 3 → Nat :=
  let v763 : Index := Scalar.indexCast v762
  let c25_388 : Index := 25#32
  let c0_389 : Index := 0#32
  ![v763.toNat, 25, 0]

def k0_chk90 (v762 : BitVec 32) : Prop :=
  (∀ a, (k0_off186 v762) a + S1x1x512.size a ≤ S128x32x512.size a)
theorem k0_off186_inb : ∀ (v762 : BitVec 32) (k0_hw90 : k0_chk90 v762), ∀ a, (k0_off186 v762) a + S1x1x512.size a ≤ S128x32x512.size a := fun v762 k0_hw90 => k0_hw90

def k0_off187 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v766 : Index := Scalar.indexCast v554
  let c26_390 : Index := 26#32
  ![v766.toNat, 26]
def k0_off188 (v767 : BitVec 32) : Fin 3 → Nat :=
  let v768 : Index := Scalar.indexCast v767
  let c26_391 : Index := 26#32
  let c0_392 : Index := 0#32
  ![v768.toNat, 26, 0]

def k0_chk91 (v767 : BitVec 32) : Prop :=
  (∀ a, (k0_off188 v767) a + S1x1x512.size a ≤ S128x32x512.size a)
theorem k0_off188_inb : ∀ (v767 : BitVec 32) (k0_hw91 : k0_chk91 v767), ∀ a, (k0_off188 v767) a + S1x1x512.size a ≤ S128x32x512.size a := fun v767 k0_hw91 => k0_hw91

def k0_off189 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v771 : Index := Scalar.indexCast v554
  let c27_393 : Index := 27#32
  ![v771.toNat, 27]
def k0_off190 (v772 : BitVec 32) : Fin 3 → Nat :=
  let v773 : Index := Scalar.indexCast v772
  let c27_394 : Index := 27#32
  let c0_395 : Index := 0#32
  ![v773.toNat, 27, 0]

def k0_chk92 (v772 : BitVec 32) : Prop :=
  (∀ a, (k0_off190 v772) a + S1x1x512.size a ≤ S128x32x512.size a)
theorem k0_off190_inb : ∀ (v772 : BitVec 32) (k0_hw92 : k0_chk92 v772), ∀ a, (k0_off190 v772) a + S1x1x512.size a ≤ S128x32x512.size a := fun v772 k0_hw92 => k0_hw92

def k0_off191 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v776 : Index := Scalar.indexCast v554
  let c28_396 : Index := 28#32
  ![v776.toNat, 28]
def k0_off192 (v777 : BitVec 32) : Fin 3 → Nat :=
  let v778 : Index := Scalar.indexCast v777
  let c28_397 : Index := 28#32
  let c0_398 : Index := 0#32
  ![v778.toNat, 28, 0]

def k0_chk93 (v777 : BitVec 32) : Prop :=
  (∀ a, (k0_off192 v777) a + S1x1x512.size a ≤ S128x32x512.size a)
theorem k0_off192_inb : ∀ (v777 : BitVec 32) (k0_hw93 : k0_chk93 v777), ∀ a, (k0_off192 v777) a + S1x1x512.size a ≤ S128x32x512.size a := fun v777 k0_hw93 => k0_hw93

def k0_off193 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v781 : Index := Scalar.indexCast v554
  let c29_399 : Index := 29#32
  ![v781.toNat, 29]
def k0_off194 (v782 : BitVec 32) : Fin 3 → Nat :=
  let v783 : Index := Scalar.indexCast v782
  let c29_400 : Index := 29#32
  let c0_401 : Index := 0#32
  ![v783.toNat, 29, 0]

def k0_chk94 (v782 : BitVec 32) : Prop :=
  (∀ a, (k0_off194 v782) a + S1x1x512.size a ≤ S128x32x512.size a)
theorem k0_off194_inb : ∀ (v782 : BitVec 32) (k0_hw94 : k0_chk94 v782), ∀ a, (k0_off194 v782) a + S1x1x512.size a ≤ S128x32x512.size a := fun v782 k0_hw94 => k0_hw94

def k0_off195 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v786 : Index := Scalar.indexCast v554
  let c30_402 : Index := 30#32
  ![v786.toNat, 30]
def k0_off196 (v787 : BitVec 32) : Fin 3 → Nat :=
  let v788 : Index := Scalar.indexCast v787
  let c30_403 : Index := 30#32
  let c0_404 : Index := 0#32
  ![v788.toNat, 30, 0]

def k0_chk95 (v787 : BitVec 32) : Prop :=
  (∀ a, (k0_off196 v787) a + S1x1x512.size a ≤ S128x32x512.size a)
theorem k0_off196_inb : ∀ (v787 : BitVec 32) (k0_hw95 : k0_chk95 v787), ∀ a, (k0_off196 v787) a + S1x1x512.size a ≤ S128x32x512.size a := fun v787 k0_hw95 => k0_hw95

def k0_off197 (i : grid0.Coords) : Fin 2 → Nat :=
  let arg1 : BitVec 32 := BitVec.ofNat 32 (i 1).val
  let c8_i32_274 : BitVec 32 := 8#32
  let v553 : BitVec 32 := Scalar.muli arg1 c8_i32_274
  let c2_i32 : BitVec 32 := 2#32
  let v554 : BitVec 32 := Scalar.addi v553 c2_i32
  let v791 : Index := Scalar.indexCast v554
  let c31_405 : Index := 31#32
  ![v791.toNat, 31]
def k0_off198 (v792 : BitVec 32) : Fin 3 → Nat :=
  let v793 : Index := Scalar.indexCast v792
  let c31_406 : Index := 31#32
  let c0_407 : Index := 0#32
  ![v793.toNat, 31, 0]

def k0_chk96 (v792 : BitVec 32) : Prop :=
  (∀ a, (k0_off198 v792) a + S1x1x512.size a ≤ S128x32x512.size a)
theorem k0_off198_inb : ∀ (v792 : BitVec 32) (k0_hw96 : k0_chk96 v792), ∀ a, (k0_off198 v792) a + S1x1x512.size a ≤ S128x32x512.size a := fun v792 k0_hw96 => k0_hw96

def k0_off199 (i : grid0.Coords) : Fin 3 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let c1_i32_432 : BitVec 32 := 1#32
  let v843 : BitVec 32 := Scalar.subi v834 c1_i32_432
  let v844 : Index := Scalar.indexCast v843
  let c0_433 : Index := 0#32
  let c0_434 : Index := 0#32
  ![v844.toNat, 0, 0]
def k0_off200 (i : grid0.Coords) : Fin 3 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let c1_i32_437 : BitVec 32 := 1#32
  let v852 : BitVec 32 := Scalar.subi v834 c1_i32_437
  let v853 : Index := Scalar.indexCast v852
  let c0_438 : Index := 0#32
  let c0_439 : Index := 0#32
  ![v853.toNat, 0, 0]
def k0_off201 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v916 : Index := Scalar.indexCast v834
  let c0_466 : Index := 0#32
  ![v916.toNat, 0]
def k0_off202 (v917 : BitVec 32) : Fin 3 → Nat :=
  let v918 : Index := Scalar.indexCast v917
  let c0_467 : Index := 0#32
  let c0_468 : Index := 0#32
  ![v918.toNat, 0, 0]

def k0_chk97 (v917 : BitVec 32) : Prop :=
  (∀ a, (k0_off202 v917) a + S1x1x512.size a ≤ S128x32x512.size a)
theorem k0_off202_inb : ∀ (v917 : BitVec 32) (k0_hw97 : k0_chk97 v917), ∀ a, (k0_off202 v917) a + S1x1x512.size a ≤ S128x32x512.size a := fun v917 k0_hw97 => k0_hw97

def k0_off203 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v921 : Index := Scalar.indexCast v834
  let c1_469 : Index := 1#32
  ![v921.toNat, 1]
def k0_off204 (v922 : BitVec 32) : Fin 3 → Nat :=
  let v923 : Index := Scalar.indexCast v922
  let c1_470 : Index := 1#32
  let c0_471 : Index := 0#32
  ![v923.toNat, 1, 0]

def k0_chk98 (v922 : BitVec 32) : Prop :=
  (∀ a, (k0_off204 v922) a + S1x1x512.size a ≤ S128x32x512.size a)
theorem k0_off204_inb : ∀ (v922 : BitVec 32) (k0_hw98 : k0_chk98 v922), ∀ a, (k0_off204 v922) a + S1x1x512.size a ≤ S128x32x512.size a := fun v922 k0_hw98 => k0_hw98

def k0_off205 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v926 : Index := Scalar.indexCast v834
  let c2_472 : Index := 2#32
  ![v926.toNat, 2]
def k0_off206 (v927 : BitVec 32) : Fin 3 → Nat :=
  let v928 : Index := Scalar.indexCast v927
  let c2_473 : Index := 2#32
  let c0_474 : Index := 0#32
  ![v928.toNat, 2, 0]

def k0_chk99 (v927 : BitVec 32) : Prop :=
  (∀ a, (k0_off206 v927) a + S1x1x512.size a ≤ S128x32x512.size a)
theorem k0_off206_inb : ∀ (v927 : BitVec 32) (k0_hw99 : k0_chk99 v927), ∀ a, (k0_off206 v927) a + S1x1x512.size a ≤ S128x32x512.size a := fun v927 k0_hw99 => k0_hw99

def k0_off207 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v931 : Index := Scalar.indexCast v834
  let c3_475 : Index := 3#32
  ![v931.toNat, 3]
def k0_off208 (v932 : BitVec 32) : Fin 3 → Nat :=
  let v933 : Index := Scalar.indexCast v932
  let c3_476 : Index := 3#32
  let c0_477 : Index := 0#32
  ![v933.toNat, 3, 0]

def k0_chk100 (v932 : BitVec 32) : Prop :=
  (∀ a, (k0_off208 v932) a + S1x1x512.size a ≤ S128x32x512.size a)
theorem k0_off208_inb : ∀ (v932 : BitVec 32) (k0_hw100 : k0_chk100 v932), ∀ a, (k0_off208 v932) a + S1x1x512.size a ≤ S128x32x512.size a := fun v932 k0_hw100 => k0_hw100

def k0_off209 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v936 : Index := Scalar.indexCast v834
  let c4_478 : Index := 4#32
  ![v936.toNat, 4]
def k0_off210 (v937 : BitVec 32) : Fin 3 → Nat :=
  let v938 : Index := Scalar.indexCast v937
  let c4_479 : Index := 4#32
  let c0_480 : Index := 0#32
  ![v938.toNat, 4, 0]

def k0_chk101 (v937 : BitVec 32) : Prop :=
  (∀ a, (k0_off210 v937) a + S1x1x512.size a ≤ S128x32x512.size a)
theorem k0_off210_inb : ∀ (v937 : BitVec 32) (k0_hw101 : k0_chk101 v937), ∀ a, (k0_off210 v937) a + S1x1x512.size a ≤ S128x32x512.size a := fun v937 k0_hw101 => k0_hw101

def k0_off211 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v941 : Index := Scalar.indexCast v834
  let c5_481 : Index := 5#32
  ![v941.toNat, 5]
def k0_off212 (v942 : BitVec 32) : Fin 3 → Nat :=
  let v943 : Index := Scalar.indexCast v942
  let c5_482 : Index := 5#32
  let c0_483 : Index := 0#32
  ![v943.toNat, 5, 0]

def k0_chk102 (v942 : BitVec 32) : Prop :=
  (∀ a, (k0_off212 v942) a + S1x1x512.size a ≤ S128x32x512.size a)
theorem k0_off212_inb : ∀ (v942 : BitVec 32) (k0_hw102 : k0_chk102 v942), ∀ a, (k0_off212 v942) a + S1x1x512.size a ≤ S128x32x512.size a := fun v942 k0_hw102 => k0_hw102

def k0_off213 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v946 : Index := Scalar.indexCast v834
  let c6_484 : Index := 6#32
  ![v946.toNat, 6]
def k0_off214 (v947 : BitVec 32) : Fin 3 → Nat :=
  let v948 : Index := Scalar.indexCast v947
  let c6_485 : Index := 6#32
  let c0_486 : Index := 0#32
  ![v948.toNat, 6, 0]

def k0_chk103 (v947 : BitVec 32) : Prop :=
  (∀ a, (k0_off214 v947) a + S1x1x512.size a ≤ S128x32x512.size a)
theorem k0_off214_inb : ∀ (v947 : BitVec 32) (k0_hw103 : k0_chk103 v947), ∀ a, (k0_off214 v947) a + S1x1x512.size a ≤ S128x32x512.size a := fun v947 k0_hw103 => k0_hw103

def k0_off215 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v951 : Index := Scalar.indexCast v834
  let c7_487 : Index := 7#32
  ![v951.toNat, 7]
def k0_off216 (v952 : BitVec 32) : Fin 3 → Nat :=
  let v953 : Index := Scalar.indexCast v952
  let c7_488 : Index := 7#32
  let c0_489 : Index := 0#32
  ![v953.toNat, 7, 0]

def k0_chk104 (v952 : BitVec 32) : Prop :=
  (∀ a, (k0_off216 v952) a + S1x1x512.size a ≤ S128x32x512.size a)
theorem k0_off216_inb : ∀ (v952 : BitVec 32) (k0_hw104 : k0_chk104 v952), ∀ a, (k0_off216 v952) a + S1x1x512.size a ≤ S128x32x512.size a := fun v952 k0_hw104 => k0_hw104

def k0_off217 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v956 : Index := Scalar.indexCast v834
  let c8_490 : Index := 8#32
  ![v956.toNat, 8]
def k0_off218 (v957 : BitVec 32) : Fin 3 → Nat :=
  let v958 : Index := Scalar.indexCast v957
  let c8_491 : Index := 8#32
  let c0_492 : Index := 0#32
  ![v958.toNat, 8, 0]

def k0_chk105 (v957 : BitVec 32) : Prop :=
  (∀ a, (k0_off218 v957) a + S1x1x512.size a ≤ S128x32x512.size a)
theorem k0_off218_inb : ∀ (v957 : BitVec 32) (k0_hw105 : k0_chk105 v957), ∀ a, (k0_off218 v957) a + S1x1x512.size a ≤ S128x32x512.size a := fun v957 k0_hw105 => k0_hw105

def k0_off219 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v961 : Index := Scalar.indexCast v834
  let c9_493 : Index := 9#32
  ![v961.toNat, 9]
def k0_off220 (v962 : BitVec 32) : Fin 3 → Nat :=
  let v963 : Index := Scalar.indexCast v962
  let c9_494 : Index := 9#32
  let c0_495 : Index := 0#32
  ![v963.toNat, 9, 0]

def k0_chk106 (v962 : BitVec 32) : Prop :=
  (∀ a, (k0_off220 v962) a + S1x1x512.size a ≤ S128x32x512.size a)
theorem k0_off220_inb : ∀ (v962 : BitVec 32) (k0_hw106 : k0_chk106 v962), ∀ a, (k0_off220 v962) a + S1x1x512.size a ≤ S128x32x512.size a := fun v962 k0_hw106 => k0_hw106

def k0_off221 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v966 : Index := Scalar.indexCast v834
  let c10_496 : Index := 10#32
  ![v966.toNat, 10]
def k0_off222 (v967 : BitVec 32) : Fin 3 → Nat :=
  let v968 : Index := Scalar.indexCast v967
  let c10_497 : Index := 10#32
  let c0_498 : Index := 0#32
  ![v968.toNat, 10, 0]

def k0_chk107 (v967 : BitVec 32) : Prop :=
  (∀ a, (k0_off222 v967) a + S1x1x512.size a ≤ S128x32x512.size a)
theorem k0_off222_inb : ∀ (v967 : BitVec 32) (k0_hw107 : k0_chk107 v967), ∀ a, (k0_off222 v967) a + S1x1x512.size a ≤ S128x32x512.size a := fun v967 k0_hw107 => k0_hw107

def k0_off223 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v971 : Index := Scalar.indexCast v834
  let c11_499 : Index := 11#32
  ![v971.toNat, 11]
def k0_off224 (v972 : BitVec 32) : Fin 3 → Nat :=
  let v973 : Index := Scalar.indexCast v972
  let c11_500 : Index := 11#32
  let c0_501 : Index := 0#32
  ![v973.toNat, 11, 0]

def k0_chk108 (v972 : BitVec 32) : Prop :=
  (∀ a, (k0_off224 v972) a + S1x1x512.size a ≤ S128x32x512.size a)
theorem k0_off224_inb : ∀ (v972 : BitVec 32) (k0_hw108 : k0_chk108 v972), ∀ a, (k0_off224 v972) a + S1x1x512.size a ≤ S128x32x512.size a := fun v972 k0_hw108 => k0_hw108

def k0_off225 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v976 : Index := Scalar.indexCast v834
  let c12_502 : Index := 12#32
  ![v976.toNat, 12]
def k0_off226 (v977 : BitVec 32) : Fin 3 → Nat :=
  let v978 : Index := Scalar.indexCast v977
  let c12_503 : Index := 12#32
  let c0_504 : Index := 0#32
  ![v978.toNat, 12, 0]

def k0_chk109 (v977 : BitVec 32) : Prop :=
  (∀ a, (k0_off226 v977) a + S1x1x512.size a ≤ S128x32x512.size a)
theorem k0_off226_inb : ∀ (v977 : BitVec 32) (k0_hw109 : k0_chk109 v977), ∀ a, (k0_off226 v977) a + S1x1x512.size a ≤ S128x32x512.size a := fun v977 k0_hw109 => k0_hw109

def k0_off227 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v981 : Index := Scalar.indexCast v834
  let c13_505 : Index := 13#32
  ![v981.toNat, 13]
def k0_off228 (v982 : BitVec 32) : Fin 3 → Nat :=
  let v983 : Index := Scalar.indexCast v982
  let c13_506 : Index := 13#32
  let c0_507 : Index := 0#32
  ![v983.toNat, 13, 0]

def k0_chk110 (v982 : BitVec 32) : Prop :=
  (∀ a, (k0_off228 v982) a + S1x1x512.size a ≤ S128x32x512.size a)
theorem k0_off228_inb : ∀ (v982 : BitVec 32) (k0_hw110 : k0_chk110 v982), ∀ a, (k0_off228 v982) a + S1x1x512.size a ≤ S128x32x512.size a := fun v982 k0_hw110 => k0_hw110

def k0_off229 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v986 : Index := Scalar.indexCast v834
  let c14_508 : Index := 14#32
  ![v986.toNat, 14]
def k0_off230 (v987 : BitVec 32) : Fin 3 → Nat :=
  let v988 : Index := Scalar.indexCast v987
  let c14_509 : Index := 14#32
  let c0_510 : Index := 0#32
  ![v988.toNat, 14, 0]

def k0_chk111 (v987 : BitVec 32) : Prop :=
  (∀ a, (k0_off230 v987) a + S1x1x512.size a ≤ S128x32x512.size a)
theorem k0_off230_inb : ∀ (v987 : BitVec 32) (k0_hw111 : k0_chk111 v987), ∀ a, (k0_off230 v987) a + S1x1x512.size a ≤ S128x32x512.size a := fun v987 k0_hw111 => k0_hw111

def k0_off231 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v991 : Index := Scalar.indexCast v834
  let c15_511 : Index := 15#32
  ![v991.toNat, 15]
def k0_off232 (v992 : BitVec 32) : Fin 3 → Nat :=
  let v993 : Index := Scalar.indexCast v992
  let c15_512 : Index := 15#32
  let c0_513 : Index := 0#32
  ![v993.toNat, 15, 0]

def k0_chk112 (v992 : BitVec 32) : Prop :=
  (∀ a, (k0_off232 v992) a + S1x1x512.size a ≤ S128x32x512.size a)
theorem k0_off232_inb : ∀ (v992 : BitVec 32) (k0_hw112 : k0_chk112 v992), ∀ a, (k0_off232 v992) a + S1x1x512.size a ≤ S128x32x512.size a := fun v992 k0_hw112 => k0_hw112

def k0_off233 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v996 : Index := Scalar.indexCast v834
  let c16_514 : Index := 16#32
  ![v996.toNat, 16]
def k0_off234 (v997 : BitVec 32) : Fin 3 → Nat :=
  let v998 : Index := Scalar.indexCast v997
  let c16_515 : Index := 16#32
  let c0_516 : Index := 0#32
  ![v998.toNat, 16, 0]

def k0_chk113 (v997 : BitVec 32) : Prop :=
  (∀ a, (k0_off234 v997) a + S1x1x512.size a ≤ S128x32x512.size a)
theorem k0_off234_inb : ∀ (v997 : BitVec 32) (k0_hw113 : k0_chk113 v997), ∀ a, (k0_off234 v997) a + S1x1x512.size a ≤ S128x32x512.size a := fun v997 k0_hw113 => k0_hw113

def k0_off235 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1001 : Index := Scalar.indexCast v834
  let c17_517 : Index := 17#32
  ![v1001.toNat, 17]
def k0_off236 (v1002 : BitVec 32) : Fin 3 → Nat :=
  let v1003 : Index := Scalar.indexCast v1002
  let c17_518 : Index := 17#32
  let c0_519 : Index := 0#32
  ![v1003.toNat, 17, 0]

def k0_chk114 (v1002 : BitVec 32) : Prop :=
  (∀ a, (k0_off236 v1002) a + S1x1x512.size a ≤ S128x32x512.size a)
theorem k0_off236_inb : ∀ (v1002 : BitVec 32) (k0_hw114 : k0_chk114 v1002), ∀ a, (k0_off236 v1002) a + S1x1x512.size a ≤ S128x32x512.size a := fun v1002 k0_hw114 => k0_hw114

def k0_off237 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1006 : Index := Scalar.indexCast v834
  let c18_520 : Index := 18#32
  ![v1006.toNat, 18]
def k0_off238 (v1007 : BitVec 32) : Fin 3 → Nat :=
  let v1008 : Index := Scalar.indexCast v1007
  let c18_521 : Index := 18#32
  let c0_522 : Index := 0#32
  ![v1008.toNat, 18, 0]

def k0_chk115 (v1007 : BitVec 32) : Prop :=
  (∀ a, (k0_off238 v1007) a + S1x1x512.size a ≤ S128x32x512.size a)
theorem k0_off238_inb : ∀ (v1007 : BitVec 32) (k0_hw115 : k0_chk115 v1007), ∀ a, (k0_off238 v1007) a + S1x1x512.size a ≤ S128x32x512.size a := fun v1007 k0_hw115 => k0_hw115

def k0_off239 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1011 : Index := Scalar.indexCast v834
  let c19_523 : Index := 19#32
  ![v1011.toNat, 19]
def k0_off240 (v1012 : BitVec 32) : Fin 3 → Nat :=
  let v1013 : Index := Scalar.indexCast v1012
  let c19_524 : Index := 19#32
  let c0_525 : Index := 0#32
  ![v1013.toNat, 19, 0]

def k0_chk116 (v1012 : BitVec 32) : Prop :=
  (∀ a, (k0_off240 v1012) a + S1x1x512.size a ≤ S128x32x512.size a)
theorem k0_off240_inb : ∀ (v1012 : BitVec 32) (k0_hw116 : k0_chk116 v1012), ∀ a, (k0_off240 v1012) a + S1x1x512.size a ≤ S128x32x512.size a := fun v1012 k0_hw116 => k0_hw116

def k0_off241 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1016 : Index := Scalar.indexCast v834
  let c20_526 : Index := 20#32
  ![v1016.toNat, 20]
def k0_off242 (v1017 : BitVec 32) : Fin 3 → Nat :=
  let v1018 : Index := Scalar.indexCast v1017
  let c20_527 : Index := 20#32
  let c0_528 : Index := 0#32
  ![v1018.toNat, 20, 0]

def k0_chk117 (v1017 : BitVec 32) : Prop :=
  (∀ a, (k0_off242 v1017) a + S1x1x512.size a ≤ S128x32x512.size a)
theorem k0_off242_inb : ∀ (v1017 : BitVec 32) (k0_hw117 : k0_chk117 v1017), ∀ a, (k0_off242 v1017) a + S1x1x512.size a ≤ S128x32x512.size a := fun v1017 k0_hw117 => k0_hw117

def k0_off243 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1021 : Index := Scalar.indexCast v834
  let c21_529 : Index := 21#32
  ![v1021.toNat, 21]
def k0_off244 (v1022 : BitVec 32) : Fin 3 → Nat :=
  let v1023 : Index := Scalar.indexCast v1022
  let c21_530 : Index := 21#32
  let c0_531 : Index := 0#32
  ![v1023.toNat, 21, 0]

def k0_chk118 (v1022 : BitVec 32) : Prop :=
  (∀ a, (k0_off244 v1022) a + S1x1x512.size a ≤ S128x32x512.size a)
theorem k0_off244_inb : ∀ (v1022 : BitVec 32) (k0_hw118 : k0_chk118 v1022), ∀ a, (k0_off244 v1022) a + S1x1x512.size a ≤ S128x32x512.size a := fun v1022 k0_hw118 => k0_hw118

def k0_off245 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1026 : Index := Scalar.indexCast v834
  let c22_532 : Index := 22#32
  ![v1026.toNat, 22]
def k0_off246 (v1027 : BitVec 32) : Fin 3 → Nat :=
  let v1028 : Index := Scalar.indexCast v1027
  let c22_533 : Index := 22#32
  let c0_534 : Index := 0#32
  ![v1028.toNat, 22, 0]

def k0_chk119 (v1027 : BitVec 32) : Prop :=
  (∀ a, (k0_off246 v1027) a + S1x1x512.size a ≤ S128x32x512.size a)
theorem k0_off246_inb : ∀ (v1027 : BitVec 32) (k0_hw119 : k0_chk119 v1027), ∀ a, (k0_off246 v1027) a + S1x1x512.size a ≤ S128x32x512.size a := fun v1027 k0_hw119 => k0_hw119

def k0_off247 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1031 : Index := Scalar.indexCast v834
  let c23_535 : Index := 23#32
  ![v1031.toNat, 23]
def k0_off248 (v1032 : BitVec 32) : Fin 3 → Nat :=
  let v1033 : Index := Scalar.indexCast v1032
  let c23_536 : Index := 23#32
  let c0_537 : Index := 0#32
  ![v1033.toNat, 23, 0]

def k0_chk120 (v1032 : BitVec 32) : Prop :=
  (∀ a, (k0_off248 v1032) a + S1x1x512.size a ≤ S128x32x512.size a)
theorem k0_off248_inb : ∀ (v1032 : BitVec 32) (k0_hw120 : k0_chk120 v1032), ∀ a, (k0_off248 v1032) a + S1x1x512.size a ≤ S128x32x512.size a := fun v1032 k0_hw120 => k0_hw120

def k0_off249 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1036 : Index := Scalar.indexCast v834
  let c24_538 : Index := 24#32
  ![v1036.toNat, 24]
def k0_off250 (v1037 : BitVec 32) : Fin 3 → Nat :=
  let v1038 : Index := Scalar.indexCast v1037
  let c24_539 : Index := 24#32
  let c0_540 : Index := 0#32
  ![v1038.toNat, 24, 0]

def k0_chk121 (v1037 : BitVec 32) : Prop :=
  (∀ a, (k0_off250 v1037) a + S1x1x512.size a ≤ S128x32x512.size a)
theorem k0_off250_inb : ∀ (v1037 : BitVec 32) (k0_hw121 : k0_chk121 v1037), ∀ a, (k0_off250 v1037) a + S1x1x512.size a ≤ S128x32x512.size a := fun v1037 k0_hw121 => k0_hw121

def k0_off251 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1041 : Index := Scalar.indexCast v834
  let c25_541 : Index := 25#32
  ![v1041.toNat, 25]
def k0_off252 (v1042 : BitVec 32) : Fin 3 → Nat :=
  let v1043 : Index := Scalar.indexCast v1042
  let c25_542 : Index := 25#32
  let c0_543 : Index := 0#32
  ![v1043.toNat, 25, 0]

def k0_chk122 (v1042 : BitVec 32) : Prop :=
  (∀ a, (k0_off252 v1042) a + S1x1x512.size a ≤ S128x32x512.size a)
theorem k0_off252_inb : ∀ (v1042 : BitVec 32) (k0_hw122 : k0_chk122 v1042), ∀ a, (k0_off252 v1042) a + S1x1x512.size a ≤ S128x32x512.size a := fun v1042 k0_hw122 => k0_hw122

def k0_off253 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1046 : Index := Scalar.indexCast v834
  let c26_544 : Index := 26#32
  ![v1046.toNat, 26]
def k0_off254 (v1047 : BitVec 32) : Fin 3 → Nat :=
  let v1048 : Index := Scalar.indexCast v1047
  let c26_545 : Index := 26#32
  let c0_546 : Index := 0#32
  ![v1048.toNat, 26, 0]

def k0_chk123 (v1047 : BitVec 32) : Prop :=
  (∀ a, (k0_off254 v1047) a + S1x1x512.size a ≤ S128x32x512.size a)
theorem k0_off254_inb : ∀ (v1047 : BitVec 32) (k0_hw123 : k0_chk123 v1047), ∀ a, (k0_off254 v1047) a + S1x1x512.size a ≤ S128x32x512.size a := fun v1047 k0_hw123 => k0_hw123

def k0_off255 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1051 : Index := Scalar.indexCast v834
  let c27_547 : Index := 27#32
  ![v1051.toNat, 27]
def k0_off256 (v1052 : BitVec 32) : Fin 3 → Nat :=
  let v1053 : Index := Scalar.indexCast v1052
  let c27_548 : Index := 27#32
  let c0_549 : Index := 0#32
  ![v1053.toNat, 27, 0]

def k0_chk124 (v1052 : BitVec 32) : Prop :=
  (∀ a, (k0_off256 v1052) a + S1x1x512.size a ≤ S128x32x512.size a)
theorem k0_off256_inb : ∀ (v1052 : BitVec 32) (k0_hw124 : k0_chk124 v1052), ∀ a, (k0_off256 v1052) a + S1x1x512.size a ≤ S128x32x512.size a := fun v1052 k0_hw124 => k0_hw124

def k0_off257 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1056 : Index := Scalar.indexCast v834
  let c28_550 : Index := 28#32
  ![v1056.toNat, 28]
def k0_off258 (v1057 : BitVec 32) : Fin 3 → Nat :=
  let v1058 : Index := Scalar.indexCast v1057
  let c28_551 : Index := 28#32
  let c0_552 : Index := 0#32
  ![v1058.toNat, 28, 0]

def k0_chk125 (v1057 : BitVec 32) : Prop :=
  (∀ a, (k0_off258 v1057) a + S1x1x512.size a ≤ S128x32x512.size a)
theorem k0_off258_inb : ∀ (v1057 : BitVec 32) (k0_hw125 : k0_chk125 v1057), ∀ a, (k0_off258 v1057) a + S1x1x512.size a ≤ S128x32x512.size a := fun v1057 k0_hw125 => k0_hw125

def k0_off259 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1061 : Index := Scalar.indexCast v834
  let c29_553 : Index := 29#32
  ![v1061.toNat, 29]
def k0_off260 (v1062 : BitVec 32) : Fin 3 → Nat :=
  let v1063 : Index := Scalar.indexCast v1062
  let c29_554 : Index := 29#32
  let c0_555 : Index := 0#32
  ![v1063.toNat, 29, 0]

def k0_chk126 (v1062 : BitVec 32) : Prop :=
  (∀ a, (k0_off260 v1062) a + S1x1x512.size a ≤ S128x32x512.size a)
theorem k0_off260_inb : ∀ (v1062 : BitVec 32) (k0_hw126 : k0_chk126 v1062), ∀ a, (k0_off260 v1062) a + S1x1x512.size a ≤ S128x32x512.size a := fun v1062 k0_hw126 => k0_hw126

def k0_off261 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1066 : Index := Scalar.indexCast v834
  let c30_556 : Index := 30#32
  ![v1066.toNat, 30]
def k0_off262 (v1067 : BitVec 32) : Fin 3 → Nat :=
  let v1068 : Index := Scalar.indexCast v1067
  let c30_557 : Index := 30#32
  let c0_558 : Index := 0#32
  ![v1068.toNat, 30, 0]

def k0_chk127 (v1067 : BitVec 32) : Prop :=
  (∀ a, (k0_off262 v1067) a + S1x1x512.size a ≤ S128x32x512.size a)
theorem k0_off262_inb : ∀ (v1067 : BitVec 32) (k0_hw127 : k0_chk127 v1067), ∀ a, (k0_off262 v1067) a + S1x1x512.size a ≤ S128x32x512.size a := fun v1067 k0_hw127 => k0_hw127

def k0_off263 (i : grid0.Coords) : Fin 2 → Nat :=
  let arg1 : BitVec 32 := BitVec.ofNat 32 (i 1).val
  let c8_i32_428 : BitVec 32 := 8#32
  let v833 : BitVec 32 := Scalar.muli arg1 c8_i32_428
  let c3_i32 : BitVec 32 := 3#32
  let v834 : BitVec 32 := Scalar.addi v833 c3_i32
  let v1071 : Index := Scalar.indexCast v834
  let c31_559 : Index := 31#32
  ![v1071.toNat, 31]
def k0_off264 (v1072 : BitVec 32) : Fin 3 → Nat :=
  let v1073 : Index := Scalar.indexCast v1072
  let c31_560 : Index := 31#32
  let c0_561 : Index := 0#32
  ![v1073.toNat, 31, 0]

def k0_chk128 (v1072 : BitVec 32) : Prop :=
  (∀ a, (k0_off264 v1072) a + S1x1x512.size a ≤ S128x32x512.size a)
theorem k0_off264_inb : ∀ (v1072 : BitVec 32) (k0_hw128 : k0_chk128 v1072), ∀ a, (k0_off264 v1072) a + S1x1x512.size a ≤ S128x32x512.size a := fun v1072 k0_hw128 => k0_hw128

def k0_off265 (i : grid0.Coords) : Fin 3 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let c1_i32_586 : BitVec 32 := 1#32
  let v1123 : BitVec 32 := Scalar.subi v1114 c1_i32_586
  let v1124 : Index := Scalar.indexCast v1123
  let c0_587 : Index := 0#32
  let c0_588 : Index := 0#32
  ![v1124.toNat, 0, 0]
def k0_off266 (i : grid0.Coords) : Fin 3 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let c1_i32_591 : BitVec 32 := 1#32
  let v1132 : BitVec 32 := Scalar.subi v1114 c1_i32_591
  let v1133 : Index := Scalar.indexCast v1132
  let c0_592 : Index := 0#32
  let c0_593 : Index := 0#32
  ![v1133.toNat, 0, 0]
def k0_off267 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1196 : Index := Scalar.indexCast v1114
  let c0_620 : Index := 0#32
  ![v1196.toNat, 0]
def k0_off268 (v1197 : BitVec 32) : Fin 3 → Nat :=
  let v1198 : Index := Scalar.indexCast v1197
  let c0_621 : Index := 0#32
  let c0_622 : Index := 0#32
  ![v1198.toNat, 0, 0]

def k0_chk129 (v1197 : BitVec 32) : Prop :=
  (∀ a, (k0_off268 v1197) a + S1x1x512.size a ≤ S128x32x512.size a)
theorem k0_off268_inb : ∀ (v1197 : BitVec 32) (k0_hw129 : k0_chk129 v1197), ∀ a, (k0_off268 v1197) a + S1x1x512.size a ≤ S128x32x512.size a := fun v1197 k0_hw129 => k0_hw129

def k0_off269 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1201 : Index := Scalar.indexCast v1114
  let c1_623 : Index := 1#32
  ![v1201.toNat, 1]
def k0_off270 (v1202 : BitVec 32) : Fin 3 → Nat :=
  let v1203 : Index := Scalar.indexCast v1202
  let c1_624 : Index := 1#32
  let c0_625 : Index := 0#32
  ![v1203.toNat, 1, 0]

def k0_chk130 (v1202 : BitVec 32) : Prop :=
  (∀ a, (k0_off270 v1202) a + S1x1x512.size a ≤ S128x32x512.size a)
theorem k0_off270_inb : ∀ (v1202 : BitVec 32) (k0_hw130 : k0_chk130 v1202), ∀ a, (k0_off270 v1202) a + S1x1x512.size a ≤ S128x32x512.size a := fun v1202 k0_hw130 => k0_hw130

def k0_off271 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1206 : Index := Scalar.indexCast v1114
  let c2_626 : Index := 2#32
  ![v1206.toNat, 2]
def k0_off272 (v1207 : BitVec 32) : Fin 3 → Nat :=
  let v1208 : Index := Scalar.indexCast v1207
  let c2_627 : Index := 2#32
  let c0_628 : Index := 0#32
  ![v1208.toNat, 2, 0]

def k0_chk131 (v1207 : BitVec 32) : Prop :=
  (∀ a, (k0_off272 v1207) a + S1x1x512.size a ≤ S128x32x512.size a)
theorem k0_off272_inb : ∀ (v1207 : BitVec 32) (k0_hw131 : k0_chk131 v1207), ∀ a, (k0_off272 v1207) a + S1x1x512.size a ≤ S128x32x512.size a := fun v1207 k0_hw131 => k0_hw131

def k0_off273 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1211 : Index := Scalar.indexCast v1114
  let c3_629 : Index := 3#32
  ![v1211.toNat, 3]
def k0_off274 (v1212 : BitVec 32) : Fin 3 → Nat :=
  let v1213 : Index := Scalar.indexCast v1212
  let c3_630 : Index := 3#32
  let c0_631 : Index := 0#32
  ![v1213.toNat, 3, 0]

def k0_chk132 (v1212 : BitVec 32) : Prop :=
  (∀ a, (k0_off274 v1212) a + S1x1x512.size a ≤ S128x32x512.size a)
theorem k0_off274_inb : ∀ (v1212 : BitVec 32) (k0_hw132 : k0_chk132 v1212), ∀ a, (k0_off274 v1212) a + S1x1x512.size a ≤ S128x32x512.size a := fun v1212 k0_hw132 => k0_hw132

def k0_off275 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1216 : Index := Scalar.indexCast v1114
  let c4_632 : Index := 4#32
  ![v1216.toNat, 4]
def k0_off276 (v1217 : BitVec 32) : Fin 3 → Nat :=
  let v1218 : Index := Scalar.indexCast v1217
  let c4_633 : Index := 4#32
  let c0_634 : Index := 0#32
  ![v1218.toNat, 4, 0]

def k0_chk133 (v1217 : BitVec 32) : Prop :=
  (∀ a, (k0_off276 v1217) a + S1x1x512.size a ≤ S128x32x512.size a)
theorem k0_off276_inb : ∀ (v1217 : BitVec 32) (k0_hw133 : k0_chk133 v1217), ∀ a, (k0_off276 v1217) a + S1x1x512.size a ≤ S128x32x512.size a := fun v1217 k0_hw133 => k0_hw133

def k0_off277 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1221 : Index := Scalar.indexCast v1114
  let c5_635 : Index := 5#32
  ![v1221.toNat, 5]
def k0_off278 (v1222 : BitVec 32) : Fin 3 → Nat :=
  let v1223 : Index := Scalar.indexCast v1222
  let c5_636 : Index := 5#32
  let c0_637 : Index := 0#32
  ![v1223.toNat, 5, 0]

def k0_chk134 (v1222 : BitVec 32) : Prop :=
  (∀ a, (k0_off278 v1222) a + S1x1x512.size a ≤ S128x32x512.size a)
theorem k0_off278_inb : ∀ (v1222 : BitVec 32) (k0_hw134 : k0_chk134 v1222), ∀ a, (k0_off278 v1222) a + S1x1x512.size a ≤ S128x32x512.size a := fun v1222 k0_hw134 => k0_hw134

def k0_off279 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1226 : Index := Scalar.indexCast v1114
  let c6_638 : Index := 6#32
  ![v1226.toNat, 6]
def k0_off280 (v1227 : BitVec 32) : Fin 3 → Nat :=
  let v1228 : Index := Scalar.indexCast v1227
  let c6_639 : Index := 6#32
  let c0_640 : Index := 0#32
  ![v1228.toNat, 6, 0]

def k0_chk135 (v1227 : BitVec 32) : Prop :=
  (∀ a, (k0_off280 v1227) a + S1x1x512.size a ≤ S128x32x512.size a)
theorem k0_off280_inb : ∀ (v1227 : BitVec 32) (k0_hw135 : k0_chk135 v1227), ∀ a, (k0_off280 v1227) a + S1x1x512.size a ≤ S128x32x512.size a := fun v1227 k0_hw135 => k0_hw135

def k0_off281 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1231 : Index := Scalar.indexCast v1114
  let c7_641 : Index := 7#32
  ![v1231.toNat, 7]
def k0_off282 (v1232 : BitVec 32) : Fin 3 → Nat :=
  let v1233 : Index := Scalar.indexCast v1232
  let c7_642 : Index := 7#32
  let c0_643 : Index := 0#32
  ![v1233.toNat, 7, 0]

def k0_chk136 (v1232 : BitVec 32) : Prop :=
  (∀ a, (k0_off282 v1232) a + S1x1x512.size a ≤ S128x32x512.size a)
theorem k0_off282_inb : ∀ (v1232 : BitVec 32) (k0_hw136 : k0_chk136 v1232), ∀ a, (k0_off282 v1232) a + S1x1x512.size a ≤ S128x32x512.size a := fun v1232 k0_hw136 => k0_hw136

def k0_off283 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1236 : Index := Scalar.indexCast v1114
  let c8_644 : Index := 8#32
  ![v1236.toNat, 8]
def k0_off284 (v1237 : BitVec 32) : Fin 3 → Nat :=
  let v1238 : Index := Scalar.indexCast v1237
  let c8_645 : Index := 8#32
  let c0_646 : Index := 0#32
  ![v1238.toNat, 8, 0]

def k0_chk137 (v1237 : BitVec 32) : Prop :=
  (∀ a, (k0_off284 v1237) a + S1x1x512.size a ≤ S128x32x512.size a)
theorem k0_off284_inb : ∀ (v1237 : BitVec 32) (k0_hw137 : k0_chk137 v1237), ∀ a, (k0_off284 v1237) a + S1x1x512.size a ≤ S128x32x512.size a := fun v1237 k0_hw137 => k0_hw137

def k0_off285 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1241 : Index := Scalar.indexCast v1114
  let c9_647 : Index := 9#32
  ![v1241.toNat, 9]
def k0_off286 (v1242 : BitVec 32) : Fin 3 → Nat :=
  let v1243 : Index := Scalar.indexCast v1242
  let c9_648 : Index := 9#32
  let c0_649 : Index := 0#32
  ![v1243.toNat, 9, 0]

def k0_chk138 (v1242 : BitVec 32) : Prop :=
  (∀ a, (k0_off286 v1242) a + S1x1x512.size a ≤ S128x32x512.size a)
theorem k0_off286_inb : ∀ (v1242 : BitVec 32) (k0_hw138 : k0_chk138 v1242), ∀ a, (k0_off286 v1242) a + S1x1x512.size a ≤ S128x32x512.size a := fun v1242 k0_hw138 => k0_hw138

def k0_off287 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1246 : Index := Scalar.indexCast v1114
  let c10_650 : Index := 10#32
  ![v1246.toNat, 10]
def k0_off288 (v1247 : BitVec 32) : Fin 3 → Nat :=
  let v1248 : Index := Scalar.indexCast v1247
  let c10_651 : Index := 10#32
  let c0_652 : Index := 0#32
  ![v1248.toNat, 10, 0]

def k0_chk139 (v1247 : BitVec 32) : Prop :=
  (∀ a, (k0_off288 v1247) a + S1x1x512.size a ≤ S128x32x512.size a)
theorem k0_off288_inb : ∀ (v1247 : BitVec 32) (k0_hw139 : k0_chk139 v1247), ∀ a, (k0_off288 v1247) a + S1x1x512.size a ≤ S128x32x512.size a := fun v1247 k0_hw139 => k0_hw139

def k0_off289 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1251 : Index := Scalar.indexCast v1114
  let c11_653 : Index := 11#32
  ![v1251.toNat, 11]
def k0_off290 (v1252 : BitVec 32) : Fin 3 → Nat :=
  let v1253 : Index := Scalar.indexCast v1252
  let c11_654 : Index := 11#32
  let c0_655 : Index := 0#32
  ![v1253.toNat, 11, 0]

def k0_chk140 (v1252 : BitVec 32) : Prop :=
  (∀ a, (k0_off290 v1252) a + S1x1x512.size a ≤ S128x32x512.size a)
theorem k0_off290_inb : ∀ (v1252 : BitVec 32) (k0_hw140 : k0_chk140 v1252), ∀ a, (k0_off290 v1252) a + S1x1x512.size a ≤ S128x32x512.size a := fun v1252 k0_hw140 => k0_hw140

def k0_off291 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1256 : Index := Scalar.indexCast v1114
  let c12_656 : Index := 12#32
  ![v1256.toNat, 12]
def k0_off292 (v1257 : BitVec 32) : Fin 3 → Nat :=
  let v1258 : Index := Scalar.indexCast v1257
  let c12_657 : Index := 12#32
  let c0_658 : Index := 0#32
  ![v1258.toNat, 12, 0]

def k0_chk141 (v1257 : BitVec 32) : Prop :=
  (∀ a, (k0_off292 v1257) a + S1x1x512.size a ≤ S128x32x512.size a)
theorem k0_off292_inb : ∀ (v1257 : BitVec 32) (k0_hw141 : k0_chk141 v1257), ∀ a, (k0_off292 v1257) a + S1x1x512.size a ≤ S128x32x512.size a := fun v1257 k0_hw141 => k0_hw141

def k0_off293 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1261 : Index := Scalar.indexCast v1114
  let c13_659 : Index := 13#32
  ![v1261.toNat, 13]
def k0_off294 (v1262 : BitVec 32) : Fin 3 → Nat :=
  let v1263 : Index := Scalar.indexCast v1262
  let c13_660 : Index := 13#32
  let c0_661 : Index := 0#32
  ![v1263.toNat, 13, 0]

def k0_chk142 (v1262 : BitVec 32) : Prop :=
  (∀ a, (k0_off294 v1262) a + S1x1x512.size a ≤ S128x32x512.size a)
theorem k0_off294_inb : ∀ (v1262 : BitVec 32) (k0_hw142 : k0_chk142 v1262), ∀ a, (k0_off294 v1262) a + S1x1x512.size a ≤ S128x32x512.size a := fun v1262 k0_hw142 => k0_hw142

def k0_off295 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1266 : Index := Scalar.indexCast v1114
  let c14_662 : Index := 14#32
  ![v1266.toNat, 14]
def k0_off296 (v1267 : BitVec 32) : Fin 3 → Nat :=
  let v1268 : Index := Scalar.indexCast v1267
  let c14_663 : Index := 14#32
  let c0_664 : Index := 0#32
  ![v1268.toNat, 14, 0]

def k0_chk143 (v1267 : BitVec 32) : Prop :=
  (∀ a, (k0_off296 v1267) a + S1x1x512.size a ≤ S128x32x512.size a)
theorem k0_off296_inb : ∀ (v1267 : BitVec 32) (k0_hw143 : k0_chk143 v1267), ∀ a, (k0_off296 v1267) a + S1x1x512.size a ≤ S128x32x512.size a := fun v1267 k0_hw143 => k0_hw143

def k0_off297 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1271 : Index := Scalar.indexCast v1114
  let c15_665 : Index := 15#32
  ![v1271.toNat, 15]
def k0_off298 (v1272 : BitVec 32) : Fin 3 → Nat :=
  let v1273 : Index := Scalar.indexCast v1272
  let c15_666 : Index := 15#32
  let c0_667 : Index := 0#32
  ![v1273.toNat, 15, 0]

def k0_chk144 (v1272 : BitVec 32) : Prop :=
  (∀ a, (k0_off298 v1272) a + S1x1x512.size a ≤ S128x32x512.size a)
theorem k0_off298_inb : ∀ (v1272 : BitVec 32) (k0_hw144 : k0_chk144 v1272), ∀ a, (k0_off298 v1272) a + S1x1x512.size a ≤ S128x32x512.size a := fun v1272 k0_hw144 => k0_hw144

def k0_off299 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1276 : Index := Scalar.indexCast v1114
  let c16_668 : Index := 16#32
  ![v1276.toNat, 16]
def k0_off300 (v1277 : BitVec 32) : Fin 3 → Nat :=
  let v1278 : Index := Scalar.indexCast v1277
  let c16_669 : Index := 16#32
  let c0_670 : Index := 0#32
  ![v1278.toNat, 16, 0]

def k0_chk145 (v1277 : BitVec 32) : Prop :=
  (∀ a, (k0_off300 v1277) a + S1x1x512.size a ≤ S128x32x512.size a)
theorem k0_off300_inb : ∀ (v1277 : BitVec 32) (k0_hw145 : k0_chk145 v1277), ∀ a, (k0_off300 v1277) a + S1x1x512.size a ≤ S128x32x512.size a := fun v1277 k0_hw145 => k0_hw145

def k0_off301 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1281 : Index := Scalar.indexCast v1114
  let c17_671 : Index := 17#32
  ![v1281.toNat, 17]
def k0_off302 (v1282 : BitVec 32) : Fin 3 → Nat :=
  let v1283 : Index := Scalar.indexCast v1282
  let c17_672 : Index := 17#32
  let c0_673 : Index := 0#32
  ![v1283.toNat, 17, 0]

def k0_chk146 (v1282 : BitVec 32) : Prop :=
  (∀ a, (k0_off302 v1282) a + S1x1x512.size a ≤ S128x32x512.size a)
theorem k0_off302_inb : ∀ (v1282 : BitVec 32) (k0_hw146 : k0_chk146 v1282), ∀ a, (k0_off302 v1282) a + S1x1x512.size a ≤ S128x32x512.size a := fun v1282 k0_hw146 => k0_hw146

def k0_off303 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1286 : Index := Scalar.indexCast v1114
  let c18_674 : Index := 18#32
  ![v1286.toNat, 18]
def k0_off304 (v1287 : BitVec 32) : Fin 3 → Nat :=
  let v1288 : Index := Scalar.indexCast v1287
  let c18_675 : Index := 18#32
  let c0_676 : Index := 0#32
  ![v1288.toNat, 18, 0]

def k0_chk147 (v1287 : BitVec 32) : Prop :=
  (∀ a, (k0_off304 v1287) a + S1x1x512.size a ≤ S128x32x512.size a)
theorem k0_off304_inb : ∀ (v1287 : BitVec 32) (k0_hw147 : k0_chk147 v1287), ∀ a, (k0_off304 v1287) a + S1x1x512.size a ≤ S128x32x512.size a := fun v1287 k0_hw147 => k0_hw147

def k0_off305 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1291 : Index := Scalar.indexCast v1114
  let c19_677 : Index := 19#32
  ![v1291.toNat, 19]
def k0_off306 (v1292 : BitVec 32) : Fin 3 → Nat :=
  let v1293 : Index := Scalar.indexCast v1292
  let c19_678 : Index := 19#32
  let c0_679 : Index := 0#32
  ![v1293.toNat, 19, 0]

def k0_chk148 (v1292 : BitVec 32) : Prop :=
  (∀ a, (k0_off306 v1292) a + S1x1x512.size a ≤ S128x32x512.size a)
theorem k0_off306_inb : ∀ (v1292 : BitVec 32) (k0_hw148 : k0_chk148 v1292), ∀ a, (k0_off306 v1292) a + S1x1x512.size a ≤ S128x32x512.size a := fun v1292 k0_hw148 => k0_hw148

def k0_off307 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1296 : Index := Scalar.indexCast v1114
  let c20_680 : Index := 20#32
  ![v1296.toNat, 20]
def k0_off308 (v1297 : BitVec 32) : Fin 3 → Nat :=
  let v1298 : Index := Scalar.indexCast v1297
  let c20_681 : Index := 20#32
  let c0_682 : Index := 0#32
  ![v1298.toNat, 20, 0]

def k0_chk149 (v1297 : BitVec 32) : Prop :=
  (∀ a, (k0_off308 v1297) a + S1x1x512.size a ≤ S128x32x512.size a)
theorem k0_off308_inb : ∀ (v1297 : BitVec 32) (k0_hw149 : k0_chk149 v1297), ∀ a, (k0_off308 v1297) a + S1x1x512.size a ≤ S128x32x512.size a := fun v1297 k0_hw149 => k0_hw149

def k0_off309 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1301 : Index := Scalar.indexCast v1114
  let c21_683 : Index := 21#32
  ![v1301.toNat, 21]
def k0_off310 (v1302 : BitVec 32) : Fin 3 → Nat :=
  let v1303 : Index := Scalar.indexCast v1302
  let c21_684 : Index := 21#32
  let c0_685 : Index := 0#32
  ![v1303.toNat, 21, 0]

def k0_chk150 (v1302 : BitVec 32) : Prop :=
  (∀ a, (k0_off310 v1302) a + S1x1x512.size a ≤ S128x32x512.size a)
theorem k0_off310_inb : ∀ (v1302 : BitVec 32) (k0_hw150 : k0_chk150 v1302), ∀ a, (k0_off310 v1302) a + S1x1x512.size a ≤ S128x32x512.size a := fun v1302 k0_hw150 => k0_hw150

def k0_off311 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1306 : Index := Scalar.indexCast v1114
  let c22_686 : Index := 22#32
  ![v1306.toNat, 22]
def k0_off312 (v1307 : BitVec 32) : Fin 3 → Nat :=
  let v1308 : Index := Scalar.indexCast v1307
  let c22_687 : Index := 22#32
  let c0_688 : Index := 0#32
  ![v1308.toNat, 22, 0]

def k0_chk151 (v1307 : BitVec 32) : Prop :=
  (∀ a, (k0_off312 v1307) a + S1x1x512.size a ≤ S128x32x512.size a)
theorem k0_off312_inb : ∀ (v1307 : BitVec 32) (k0_hw151 : k0_chk151 v1307), ∀ a, (k0_off312 v1307) a + S1x1x512.size a ≤ S128x32x512.size a := fun v1307 k0_hw151 => k0_hw151

def k0_off313 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1311 : Index := Scalar.indexCast v1114
  let c23_689 : Index := 23#32
  ![v1311.toNat, 23]
def k0_off314 (v1312 : BitVec 32) : Fin 3 → Nat :=
  let v1313 : Index := Scalar.indexCast v1312
  let c23_690 : Index := 23#32
  let c0_691 : Index := 0#32
  ![v1313.toNat, 23, 0]

def k0_chk152 (v1312 : BitVec 32) : Prop :=
  (∀ a, (k0_off314 v1312) a + S1x1x512.size a ≤ S128x32x512.size a)
theorem k0_off314_inb : ∀ (v1312 : BitVec 32) (k0_hw152 : k0_chk152 v1312), ∀ a, (k0_off314 v1312) a + S1x1x512.size a ≤ S128x32x512.size a := fun v1312 k0_hw152 => k0_hw152

def k0_off315 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1316 : Index := Scalar.indexCast v1114
  let c24_692 : Index := 24#32
  ![v1316.toNat, 24]
def k0_off316 (v1317 : BitVec 32) : Fin 3 → Nat :=
  let v1318 : Index := Scalar.indexCast v1317
  let c24_693 : Index := 24#32
  let c0_694 : Index := 0#32
  ![v1318.toNat, 24, 0]

def k0_chk153 (v1317 : BitVec 32) : Prop :=
  (∀ a, (k0_off316 v1317) a + S1x1x512.size a ≤ S128x32x512.size a)
theorem k0_off316_inb : ∀ (v1317 : BitVec 32) (k0_hw153 : k0_chk153 v1317), ∀ a, (k0_off316 v1317) a + S1x1x512.size a ≤ S128x32x512.size a := fun v1317 k0_hw153 => k0_hw153

def k0_off317 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1321 : Index := Scalar.indexCast v1114
  let c25_695 : Index := 25#32
  ![v1321.toNat, 25]
def k0_off318 (v1322 : BitVec 32) : Fin 3 → Nat :=
  let v1323 : Index := Scalar.indexCast v1322
  let c25_696 : Index := 25#32
  let c0_697 : Index := 0#32
  ![v1323.toNat, 25, 0]

def k0_chk154 (v1322 : BitVec 32) : Prop :=
  (∀ a, (k0_off318 v1322) a + S1x1x512.size a ≤ S128x32x512.size a)
theorem k0_off318_inb : ∀ (v1322 : BitVec 32) (k0_hw154 : k0_chk154 v1322), ∀ a, (k0_off318 v1322) a + S1x1x512.size a ≤ S128x32x512.size a := fun v1322 k0_hw154 => k0_hw154

def k0_off319 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1326 : Index := Scalar.indexCast v1114
  let c26_698 : Index := 26#32
  ![v1326.toNat, 26]
def k0_off320 (v1327 : BitVec 32) : Fin 3 → Nat :=
  let v1328 : Index := Scalar.indexCast v1327
  let c26_699 : Index := 26#32
  let c0_700 : Index := 0#32
  ![v1328.toNat, 26, 0]

def k0_chk155 (v1327 : BitVec 32) : Prop :=
  (∀ a, (k0_off320 v1327) a + S1x1x512.size a ≤ S128x32x512.size a)
theorem k0_off320_inb : ∀ (v1327 : BitVec 32) (k0_hw155 : k0_chk155 v1327), ∀ a, (k0_off320 v1327) a + S1x1x512.size a ≤ S128x32x512.size a := fun v1327 k0_hw155 => k0_hw155

def k0_off321 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1331 : Index := Scalar.indexCast v1114
  let c27_701 : Index := 27#32
  ![v1331.toNat, 27]
def k0_off322 (v1332 : BitVec 32) : Fin 3 → Nat :=
  let v1333 : Index := Scalar.indexCast v1332
  let c27_702 : Index := 27#32
  let c0_703 : Index := 0#32
  ![v1333.toNat, 27, 0]

def k0_chk156 (v1332 : BitVec 32) : Prop :=
  (∀ a, (k0_off322 v1332) a + S1x1x512.size a ≤ S128x32x512.size a)
theorem k0_off322_inb : ∀ (v1332 : BitVec 32) (k0_hw156 : k0_chk156 v1332), ∀ a, (k0_off322 v1332) a + S1x1x512.size a ≤ S128x32x512.size a := fun v1332 k0_hw156 => k0_hw156

def k0_off323 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1336 : Index := Scalar.indexCast v1114
  let c28_704 : Index := 28#32
  ![v1336.toNat, 28]
def k0_off324 (v1337 : BitVec 32) : Fin 3 → Nat :=
  let v1338 : Index := Scalar.indexCast v1337
  let c28_705 : Index := 28#32
  let c0_706 : Index := 0#32
  ![v1338.toNat, 28, 0]

def k0_chk157 (v1337 : BitVec 32) : Prop :=
  (∀ a, (k0_off324 v1337) a + S1x1x512.size a ≤ S128x32x512.size a)
theorem k0_off324_inb : ∀ (v1337 : BitVec 32) (k0_hw157 : k0_chk157 v1337), ∀ a, (k0_off324 v1337) a + S1x1x512.size a ≤ S128x32x512.size a := fun v1337 k0_hw157 => k0_hw157

def k0_off325 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1341 : Index := Scalar.indexCast v1114
  let c29_707 : Index := 29#32
  ![v1341.toNat, 29]
def k0_off326 (v1342 : BitVec 32) : Fin 3 → Nat :=
  let v1343 : Index := Scalar.indexCast v1342
  let c29_708 : Index := 29#32
  let c0_709 : Index := 0#32
  ![v1343.toNat, 29, 0]

def k0_chk158 (v1342 : BitVec 32) : Prop :=
  (∀ a, (k0_off326 v1342) a + S1x1x512.size a ≤ S128x32x512.size a)
theorem k0_off326_inb : ∀ (v1342 : BitVec 32) (k0_hw158 : k0_chk158 v1342), ∀ a, (k0_off326 v1342) a + S1x1x512.size a ≤ S128x32x512.size a := fun v1342 k0_hw158 => k0_hw158

def k0_off327 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1346 : Index := Scalar.indexCast v1114
  let c30_710 : Index := 30#32
  ![v1346.toNat, 30]
def k0_off328 (v1347 : BitVec 32) : Fin 3 → Nat :=
  let v1348 : Index := Scalar.indexCast v1347
  let c30_711 : Index := 30#32
  let c0_712 : Index := 0#32
  ![v1348.toNat, 30, 0]

def k0_chk159 (v1347 : BitVec 32) : Prop :=
  (∀ a, (k0_off328 v1347) a + S1x1x512.size a ≤ S128x32x512.size a)
theorem k0_off328_inb : ∀ (v1347 : BitVec 32) (k0_hw159 : k0_chk159 v1347), ∀ a, (k0_off328 v1347) a + S1x1x512.size a ≤ S128x32x512.size a := fun v1347 k0_hw159 => k0_hw159

def k0_off329 (i : grid0.Coords) : Fin 2 → Nat :=
  let arg1 : BitVec 32 := BitVec.ofNat 32 (i 1).val
  let c8_i32_582 : BitVec 32 := 8#32
  let v1113 : BitVec 32 := Scalar.muli arg1 c8_i32_582
  let c4_i32 : BitVec 32 := 4#32
  let v1114 : BitVec 32 := Scalar.addi v1113 c4_i32
  let v1351 : Index := Scalar.indexCast v1114
  let c31_713 : Index := 31#32
  ![v1351.toNat, 31]
def k0_off330 (v1352 : BitVec 32) : Fin 3 → Nat :=
  let v1353 : Index := Scalar.indexCast v1352
  let c31_714 : Index := 31#32
  let c0_715 : Index := 0#32
  ![v1353.toNat, 31, 0]

def k0_chk160 (v1352 : BitVec 32) : Prop :=
  (∀ a, (k0_off330 v1352) a + S1x1x512.size a ≤ S128x32x512.size a)
theorem k0_off330_inb : ∀ (v1352 : BitVec 32) (k0_hw160 : k0_chk160 v1352), ∀ a, (k0_off330 v1352) a + S1x1x512.size a ≤ S128x32x512.size a := fun v1352 k0_hw160 => k0_hw160

def k0_off331 (i : grid0.Coords) : Fin 3 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let c1_i32_740 : BitVec 32 := 1#32
  let v1403 : BitVec 32 := Scalar.subi v1394 c1_i32_740
  let v1404 : Index := Scalar.indexCast v1403
  let c0_741 : Index := 0#32
  let c0_742 : Index := 0#32
  ![v1404.toNat, 0, 0]
def k0_off332 (i : grid0.Coords) : Fin 3 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let c1_i32_745 : BitVec 32 := 1#32
  let v1412 : BitVec 32 := Scalar.subi v1394 c1_i32_745
  let v1413 : Index := Scalar.indexCast v1412
  let c0_746 : Index := 0#32
  let c0_747 : Index := 0#32
  ![v1413.toNat, 0, 0]
def k0_off333 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1476 : Index := Scalar.indexCast v1394
  let c0_774 : Index := 0#32
  ![v1476.toNat, 0]
def k0_off334 (v1477 : BitVec 32) : Fin 3 → Nat :=
  let v1478 : Index := Scalar.indexCast v1477
  let c0_775 : Index := 0#32
  let c0_776 : Index := 0#32
  ![v1478.toNat, 0, 0]

def k0_chk161 (v1477 : BitVec 32) : Prop :=
  (∀ a, (k0_off334 v1477) a + S1x1x512.size a ≤ S128x32x512.size a)
theorem k0_off334_inb : ∀ (v1477 : BitVec 32) (k0_hw161 : k0_chk161 v1477), ∀ a, (k0_off334 v1477) a + S1x1x512.size a ≤ S128x32x512.size a := fun v1477 k0_hw161 => k0_hw161

def k0_off335 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1481 : Index := Scalar.indexCast v1394
  let c1_777 : Index := 1#32
  ![v1481.toNat, 1]
def k0_off336 (v1482 : BitVec 32) : Fin 3 → Nat :=
  let v1483 : Index := Scalar.indexCast v1482
  let c1_778 : Index := 1#32
  let c0_779 : Index := 0#32
  ![v1483.toNat, 1, 0]

def k0_chk162 (v1482 : BitVec 32) : Prop :=
  (∀ a, (k0_off336 v1482) a + S1x1x512.size a ≤ S128x32x512.size a)
theorem k0_off336_inb : ∀ (v1482 : BitVec 32) (k0_hw162 : k0_chk162 v1482), ∀ a, (k0_off336 v1482) a + S1x1x512.size a ≤ S128x32x512.size a := fun v1482 k0_hw162 => k0_hw162

def k0_off337 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1486 : Index := Scalar.indexCast v1394
  let c2_780 : Index := 2#32
  ![v1486.toNat, 2]
def k0_off338 (v1487 : BitVec 32) : Fin 3 → Nat :=
  let v1488 : Index := Scalar.indexCast v1487
  let c2_781 : Index := 2#32
  let c0_782 : Index := 0#32
  ![v1488.toNat, 2, 0]

def k0_chk163 (v1487 : BitVec 32) : Prop :=
  (∀ a, (k0_off338 v1487) a + S1x1x512.size a ≤ S128x32x512.size a)
theorem k0_off338_inb : ∀ (v1487 : BitVec 32) (k0_hw163 : k0_chk163 v1487), ∀ a, (k0_off338 v1487) a + S1x1x512.size a ≤ S128x32x512.size a := fun v1487 k0_hw163 => k0_hw163

def k0_off339 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1491 : Index := Scalar.indexCast v1394
  let c3_783 : Index := 3#32
  ![v1491.toNat, 3]
def k0_off340 (v1492 : BitVec 32) : Fin 3 → Nat :=
  let v1493 : Index := Scalar.indexCast v1492
  let c3_784 : Index := 3#32
  let c0_785 : Index := 0#32
  ![v1493.toNat, 3, 0]

def k0_chk164 (v1492 : BitVec 32) : Prop :=
  (∀ a, (k0_off340 v1492) a + S1x1x512.size a ≤ S128x32x512.size a)
theorem k0_off340_inb : ∀ (v1492 : BitVec 32) (k0_hw164 : k0_chk164 v1492), ∀ a, (k0_off340 v1492) a + S1x1x512.size a ≤ S128x32x512.size a := fun v1492 k0_hw164 => k0_hw164

def k0_off341 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1496 : Index := Scalar.indexCast v1394
  let c4_786 : Index := 4#32
  ![v1496.toNat, 4]
def k0_off342 (v1497 : BitVec 32) : Fin 3 → Nat :=
  let v1498 : Index := Scalar.indexCast v1497
  let c4_787 : Index := 4#32
  let c0_788 : Index := 0#32
  ![v1498.toNat, 4, 0]

def k0_chk165 (v1497 : BitVec 32) : Prop :=
  (∀ a, (k0_off342 v1497) a + S1x1x512.size a ≤ S128x32x512.size a)
theorem k0_off342_inb : ∀ (v1497 : BitVec 32) (k0_hw165 : k0_chk165 v1497), ∀ a, (k0_off342 v1497) a + S1x1x512.size a ≤ S128x32x512.size a := fun v1497 k0_hw165 => k0_hw165

def k0_off343 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1501 : Index := Scalar.indexCast v1394
  let c5_789 : Index := 5#32
  ![v1501.toNat, 5]
def k0_off344 (v1502 : BitVec 32) : Fin 3 → Nat :=
  let v1503 : Index := Scalar.indexCast v1502
  let c5_790 : Index := 5#32
  let c0_791 : Index := 0#32
  ![v1503.toNat, 5, 0]

def k0_chk166 (v1502 : BitVec 32) : Prop :=
  (∀ a, (k0_off344 v1502) a + S1x1x512.size a ≤ S128x32x512.size a)
theorem k0_off344_inb : ∀ (v1502 : BitVec 32) (k0_hw166 : k0_chk166 v1502), ∀ a, (k0_off344 v1502) a + S1x1x512.size a ≤ S128x32x512.size a := fun v1502 k0_hw166 => k0_hw166

def k0_off345 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1506 : Index := Scalar.indexCast v1394
  let c6_792 : Index := 6#32
  ![v1506.toNat, 6]
def k0_off346 (v1507 : BitVec 32) : Fin 3 → Nat :=
  let v1508 : Index := Scalar.indexCast v1507
  let c6_793 : Index := 6#32
  let c0_794 : Index := 0#32
  ![v1508.toNat, 6, 0]

def k0_chk167 (v1507 : BitVec 32) : Prop :=
  (∀ a, (k0_off346 v1507) a + S1x1x512.size a ≤ S128x32x512.size a)
theorem k0_off346_inb : ∀ (v1507 : BitVec 32) (k0_hw167 : k0_chk167 v1507), ∀ a, (k0_off346 v1507) a + S1x1x512.size a ≤ S128x32x512.size a := fun v1507 k0_hw167 => k0_hw167

def k0_off347 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1511 : Index := Scalar.indexCast v1394
  let c7_795 : Index := 7#32
  ![v1511.toNat, 7]
def k0_off348 (v1512 : BitVec 32) : Fin 3 → Nat :=
  let v1513 : Index := Scalar.indexCast v1512
  let c7_796 : Index := 7#32
  let c0_797 : Index := 0#32
  ![v1513.toNat, 7, 0]

def k0_chk168 (v1512 : BitVec 32) : Prop :=
  (∀ a, (k0_off348 v1512) a + S1x1x512.size a ≤ S128x32x512.size a)
theorem k0_off348_inb : ∀ (v1512 : BitVec 32) (k0_hw168 : k0_chk168 v1512), ∀ a, (k0_off348 v1512) a + S1x1x512.size a ≤ S128x32x512.size a := fun v1512 k0_hw168 => k0_hw168

def k0_off349 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1516 : Index := Scalar.indexCast v1394
  let c8_798 : Index := 8#32
  ![v1516.toNat, 8]
def k0_off350 (v1517 : BitVec 32) : Fin 3 → Nat :=
  let v1518 : Index := Scalar.indexCast v1517
  let c8_799 : Index := 8#32
  let c0_800 : Index := 0#32
  ![v1518.toNat, 8, 0]

def k0_chk169 (v1517 : BitVec 32) : Prop :=
  (∀ a, (k0_off350 v1517) a + S1x1x512.size a ≤ S128x32x512.size a)
theorem k0_off350_inb : ∀ (v1517 : BitVec 32) (k0_hw169 : k0_chk169 v1517), ∀ a, (k0_off350 v1517) a + S1x1x512.size a ≤ S128x32x512.size a := fun v1517 k0_hw169 => k0_hw169

def k0_off351 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1521 : Index := Scalar.indexCast v1394
  let c9_801 : Index := 9#32
  ![v1521.toNat, 9]
def k0_off352 (v1522 : BitVec 32) : Fin 3 → Nat :=
  let v1523 : Index := Scalar.indexCast v1522
  let c9_802 : Index := 9#32
  let c0_803 : Index := 0#32
  ![v1523.toNat, 9, 0]

def k0_chk170 (v1522 : BitVec 32) : Prop :=
  (∀ a, (k0_off352 v1522) a + S1x1x512.size a ≤ S128x32x512.size a)
theorem k0_off352_inb : ∀ (v1522 : BitVec 32) (k0_hw170 : k0_chk170 v1522), ∀ a, (k0_off352 v1522) a + S1x1x512.size a ≤ S128x32x512.size a := fun v1522 k0_hw170 => k0_hw170

def k0_off353 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1526 : Index := Scalar.indexCast v1394
  let c10_804 : Index := 10#32
  ![v1526.toNat, 10]
def k0_off354 (v1527 : BitVec 32) : Fin 3 → Nat :=
  let v1528 : Index := Scalar.indexCast v1527
  let c10_805 : Index := 10#32
  let c0_806 : Index := 0#32
  ![v1528.toNat, 10, 0]

def k0_chk171 (v1527 : BitVec 32) : Prop :=
  (∀ a, (k0_off354 v1527) a + S1x1x512.size a ≤ S128x32x512.size a)
theorem k0_off354_inb : ∀ (v1527 : BitVec 32) (k0_hw171 : k0_chk171 v1527), ∀ a, (k0_off354 v1527) a + S1x1x512.size a ≤ S128x32x512.size a := fun v1527 k0_hw171 => k0_hw171

def k0_off355 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1531 : Index := Scalar.indexCast v1394
  let c11_807 : Index := 11#32
  ![v1531.toNat, 11]
def k0_off356 (v1532 : BitVec 32) : Fin 3 → Nat :=
  let v1533 : Index := Scalar.indexCast v1532
  let c11_808 : Index := 11#32
  let c0_809 : Index := 0#32
  ![v1533.toNat, 11, 0]

def k0_chk172 (v1532 : BitVec 32) : Prop :=
  (∀ a, (k0_off356 v1532) a + S1x1x512.size a ≤ S128x32x512.size a)
theorem k0_off356_inb : ∀ (v1532 : BitVec 32) (k0_hw172 : k0_chk172 v1532), ∀ a, (k0_off356 v1532) a + S1x1x512.size a ≤ S128x32x512.size a := fun v1532 k0_hw172 => k0_hw172

def k0_off357 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1536 : Index := Scalar.indexCast v1394
  let c12_810 : Index := 12#32
  ![v1536.toNat, 12]
def k0_off358 (v1537 : BitVec 32) : Fin 3 → Nat :=
  let v1538 : Index := Scalar.indexCast v1537
  let c12_811 : Index := 12#32
  let c0_812 : Index := 0#32
  ![v1538.toNat, 12, 0]

def k0_chk173 (v1537 : BitVec 32) : Prop :=
  (∀ a, (k0_off358 v1537) a + S1x1x512.size a ≤ S128x32x512.size a)
theorem k0_off358_inb : ∀ (v1537 : BitVec 32) (k0_hw173 : k0_chk173 v1537), ∀ a, (k0_off358 v1537) a + S1x1x512.size a ≤ S128x32x512.size a := fun v1537 k0_hw173 => k0_hw173

def k0_off359 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1541 : Index := Scalar.indexCast v1394
  let c13_813 : Index := 13#32
  ![v1541.toNat, 13]
def k0_off360 (v1542 : BitVec 32) : Fin 3 → Nat :=
  let v1543 : Index := Scalar.indexCast v1542
  let c13_814 : Index := 13#32
  let c0_815 : Index := 0#32
  ![v1543.toNat, 13, 0]

def k0_chk174 (v1542 : BitVec 32) : Prop :=
  (∀ a, (k0_off360 v1542) a + S1x1x512.size a ≤ S128x32x512.size a)
theorem k0_off360_inb : ∀ (v1542 : BitVec 32) (k0_hw174 : k0_chk174 v1542), ∀ a, (k0_off360 v1542) a + S1x1x512.size a ≤ S128x32x512.size a := fun v1542 k0_hw174 => k0_hw174

def k0_off361 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1546 : Index := Scalar.indexCast v1394
  let c14_816 : Index := 14#32
  ![v1546.toNat, 14]
def k0_off362 (v1547 : BitVec 32) : Fin 3 → Nat :=
  let v1548 : Index := Scalar.indexCast v1547
  let c14_817 : Index := 14#32
  let c0_818 : Index := 0#32
  ![v1548.toNat, 14, 0]

def k0_chk175 (v1547 : BitVec 32) : Prop :=
  (∀ a, (k0_off362 v1547) a + S1x1x512.size a ≤ S128x32x512.size a)
theorem k0_off362_inb : ∀ (v1547 : BitVec 32) (k0_hw175 : k0_chk175 v1547), ∀ a, (k0_off362 v1547) a + S1x1x512.size a ≤ S128x32x512.size a := fun v1547 k0_hw175 => k0_hw175

def k0_off363 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1551 : Index := Scalar.indexCast v1394
  let c15_819 : Index := 15#32
  ![v1551.toNat, 15]
def k0_off364 (v1552 : BitVec 32) : Fin 3 → Nat :=
  let v1553 : Index := Scalar.indexCast v1552
  let c15_820 : Index := 15#32
  let c0_821 : Index := 0#32
  ![v1553.toNat, 15, 0]

def k0_chk176 (v1552 : BitVec 32) : Prop :=
  (∀ a, (k0_off364 v1552) a + S1x1x512.size a ≤ S128x32x512.size a)
theorem k0_off364_inb : ∀ (v1552 : BitVec 32) (k0_hw176 : k0_chk176 v1552), ∀ a, (k0_off364 v1552) a + S1x1x512.size a ≤ S128x32x512.size a := fun v1552 k0_hw176 => k0_hw176

def k0_off365 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1556 : Index := Scalar.indexCast v1394
  let c16_822 : Index := 16#32
  ![v1556.toNat, 16]
def k0_off366 (v1557 : BitVec 32) : Fin 3 → Nat :=
  let v1558 : Index := Scalar.indexCast v1557
  let c16_823 : Index := 16#32
  let c0_824 : Index := 0#32
  ![v1558.toNat, 16, 0]

def k0_chk177 (v1557 : BitVec 32) : Prop :=
  (∀ a, (k0_off366 v1557) a + S1x1x512.size a ≤ S128x32x512.size a)
theorem k0_off366_inb : ∀ (v1557 : BitVec 32) (k0_hw177 : k0_chk177 v1557), ∀ a, (k0_off366 v1557) a + S1x1x512.size a ≤ S128x32x512.size a := fun v1557 k0_hw177 => k0_hw177

def k0_off367 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1561 : Index := Scalar.indexCast v1394
  let c17_825 : Index := 17#32
  ![v1561.toNat, 17]
def k0_off368 (v1562 : BitVec 32) : Fin 3 → Nat :=
  let v1563 : Index := Scalar.indexCast v1562
  let c17_826 : Index := 17#32
  let c0_827 : Index := 0#32
  ![v1563.toNat, 17, 0]

def k0_chk178 (v1562 : BitVec 32) : Prop :=
  (∀ a, (k0_off368 v1562) a + S1x1x512.size a ≤ S128x32x512.size a)
theorem k0_off368_inb : ∀ (v1562 : BitVec 32) (k0_hw178 : k0_chk178 v1562), ∀ a, (k0_off368 v1562) a + S1x1x512.size a ≤ S128x32x512.size a := fun v1562 k0_hw178 => k0_hw178

def k0_off369 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1566 : Index := Scalar.indexCast v1394
  let c18_828 : Index := 18#32
  ![v1566.toNat, 18]
def k0_off370 (v1567 : BitVec 32) : Fin 3 → Nat :=
  let v1568 : Index := Scalar.indexCast v1567
  let c18_829 : Index := 18#32
  let c0_830 : Index := 0#32
  ![v1568.toNat, 18, 0]

def k0_chk179 (v1567 : BitVec 32) : Prop :=
  (∀ a, (k0_off370 v1567) a + S1x1x512.size a ≤ S128x32x512.size a)
theorem k0_off370_inb : ∀ (v1567 : BitVec 32) (k0_hw179 : k0_chk179 v1567), ∀ a, (k0_off370 v1567) a + S1x1x512.size a ≤ S128x32x512.size a := fun v1567 k0_hw179 => k0_hw179

def k0_off371 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1571 : Index := Scalar.indexCast v1394
  let c19_831 : Index := 19#32
  ![v1571.toNat, 19]
def k0_off372 (v1572 : BitVec 32) : Fin 3 → Nat :=
  let v1573 : Index := Scalar.indexCast v1572
  let c19_832 : Index := 19#32
  let c0_833 : Index := 0#32
  ![v1573.toNat, 19, 0]

def k0_chk180 (v1572 : BitVec 32) : Prop :=
  (∀ a, (k0_off372 v1572) a + S1x1x512.size a ≤ S128x32x512.size a)
theorem k0_off372_inb : ∀ (v1572 : BitVec 32) (k0_hw180 : k0_chk180 v1572), ∀ a, (k0_off372 v1572) a + S1x1x512.size a ≤ S128x32x512.size a := fun v1572 k0_hw180 => k0_hw180

def k0_off373 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1576 : Index := Scalar.indexCast v1394
  let c20_834 : Index := 20#32
  ![v1576.toNat, 20]
def k0_off374 (v1577 : BitVec 32) : Fin 3 → Nat :=
  let v1578 : Index := Scalar.indexCast v1577
  let c20_835 : Index := 20#32
  let c0_836 : Index := 0#32
  ![v1578.toNat, 20, 0]

def k0_chk181 (v1577 : BitVec 32) : Prop :=
  (∀ a, (k0_off374 v1577) a + S1x1x512.size a ≤ S128x32x512.size a)
theorem k0_off374_inb : ∀ (v1577 : BitVec 32) (k0_hw181 : k0_chk181 v1577), ∀ a, (k0_off374 v1577) a + S1x1x512.size a ≤ S128x32x512.size a := fun v1577 k0_hw181 => k0_hw181

def k0_off375 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1581 : Index := Scalar.indexCast v1394
  let c21_837 : Index := 21#32
  ![v1581.toNat, 21]
def k0_off376 (v1582 : BitVec 32) : Fin 3 → Nat :=
  let v1583 : Index := Scalar.indexCast v1582
  let c21_838 : Index := 21#32
  let c0_839 : Index := 0#32
  ![v1583.toNat, 21, 0]

def k0_chk182 (v1582 : BitVec 32) : Prop :=
  (∀ a, (k0_off376 v1582) a + S1x1x512.size a ≤ S128x32x512.size a)
theorem k0_off376_inb : ∀ (v1582 : BitVec 32) (k0_hw182 : k0_chk182 v1582), ∀ a, (k0_off376 v1582) a + S1x1x512.size a ≤ S128x32x512.size a := fun v1582 k0_hw182 => k0_hw182

def k0_off377 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1586 : Index := Scalar.indexCast v1394
  let c22_840 : Index := 22#32
  ![v1586.toNat, 22]
def k0_off378 (v1587 : BitVec 32) : Fin 3 → Nat :=
  let v1588 : Index := Scalar.indexCast v1587
  let c22_841 : Index := 22#32
  let c0_842 : Index := 0#32
  ![v1588.toNat, 22, 0]

def k0_chk183 (v1587 : BitVec 32) : Prop :=
  (∀ a, (k0_off378 v1587) a + S1x1x512.size a ≤ S128x32x512.size a)
theorem k0_off378_inb : ∀ (v1587 : BitVec 32) (k0_hw183 : k0_chk183 v1587), ∀ a, (k0_off378 v1587) a + S1x1x512.size a ≤ S128x32x512.size a := fun v1587 k0_hw183 => k0_hw183

def k0_off379 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1591 : Index := Scalar.indexCast v1394
  let c23_843 : Index := 23#32
  ![v1591.toNat, 23]
def k0_off380 (v1592 : BitVec 32) : Fin 3 → Nat :=
  let v1593 : Index := Scalar.indexCast v1592
  let c23_844 : Index := 23#32
  let c0_845 : Index := 0#32
  ![v1593.toNat, 23, 0]

def k0_chk184 (v1592 : BitVec 32) : Prop :=
  (∀ a, (k0_off380 v1592) a + S1x1x512.size a ≤ S128x32x512.size a)
theorem k0_off380_inb : ∀ (v1592 : BitVec 32) (k0_hw184 : k0_chk184 v1592), ∀ a, (k0_off380 v1592) a + S1x1x512.size a ≤ S128x32x512.size a := fun v1592 k0_hw184 => k0_hw184

def k0_off381 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1596 : Index := Scalar.indexCast v1394
  let c24_846 : Index := 24#32
  ![v1596.toNat, 24]
def k0_off382 (v1597 : BitVec 32) : Fin 3 → Nat :=
  let v1598 : Index := Scalar.indexCast v1597
  let c24_847 : Index := 24#32
  let c0_848 : Index := 0#32
  ![v1598.toNat, 24, 0]

def k0_chk185 (v1597 : BitVec 32) : Prop :=
  (∀ a, (k0_off382 v1597) a + S1x1x512.size a ≤ S128x32x512.size a)
theorem k0_off382_inb : ∀ (v1597 : BitVec 32) (k0_hw185 : k0_chk185 v1597), ∀ a, (k0_off382 v1597) a + S1x1x512.size a ≤ S128x32x512.size a := fun v1597 k0_hw185 => k0_hw185

def k0_off383 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1601 : Index := Scalar.indexCast v1394
  let c25_849 : Index := 25#32
  ![v1601.toNat, 25]
def k0_off384 (v1602 : BitVec 32) : Fin 3 → Nat :=
  let v1603 : Index := Scalar.indexCast v1602
  let c25_850 : Index := 25#32
  let c0_851 : Index := 0#32
  ![v1603.toNat, 25, 0]

def k0_chk186 (v1602 : BitVec 32) : Prop :=
  (∀ a, (k0_off384 v1602) a + S1x1x512.size a ≤ S128x32x512.size a)
theorem k0_off384_inb : ∀ (v1602 : BitVec 32) (k0_hw186 : k0_chk186 v1602), ∀ a, (k0_off384 v1602) a + S1x1x512.size a ≤ S128x32x512.size a := fun v1602 k0_hw186 => k0_hw186

def k0_off385 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1606 : Index := Scalar.indexCast v1394
  let c26_852 : Index := 26#32
  ![v1606.toNat, 26]
def k0_off386 (v1607 : BitVec 32) : Fin 3 → Nat :=
  let v1608 : Index := Scalar.indexCast v1607
  let c26_853 : Index := 26#32
  let c0_854 : Index := 0#32
  ![v1608.toNat, 26, 0]

def k0_chk187 (v1607 : BitVec 32) : Prop :=
  (∀ a, (k0_off386 v1607) a + S1x1x512.size a ≤ S128x32x512.size a)
theorem k0_off386_inb : ∀ (v1607 : BitVec 32) (k0_hw187 : k0_chk187 v1607), ∀ a, (k0_off386 v1607) a + S1x1x512.size a ≤ S128x32x512.size a := fun v1607 k0_hw187 => k0_hw187

def k0_off387 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1611 : Index := Scalar.indexCast v1394
  let c27_855 : Index := 27#32
  ![v1611.toNat, 27]
def k0_off388 (v1612 : BitVec 32) : Fin 3 → Nat :=
  let v1613 : Index := Scalar.indexCast v1612
  let c27_856 : Index := 27#32
  let c0_857 : Index := 0#32
  ![v1613.toNat, 27, 0]

def k0_chk188 (v1612 : BitVec 32) : Prop :=
  (∀ a, (k0_off388 v1612) a + S1x1x512.size a ≤ S128x32x512.size a)
theorem k0_off388_inb : ∀ (v1612 : BitVec 32) (k0_hw188 : k0_chk188 v1612), ∀ a, (k0_off388 v1612) a + S1x1x512.size a ≤ S128x32x512.size a := fun v1612 k0_hw188 => k0_hw188

def k0_off389 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1616 : Index := Scalar.indexCast v1394
  let c28_858 : Index := 28#32
  ![v1616.toNat, 28]
def k0_off390 (v1617 : BitVec 32) : Fin 3 → Nat :=
  let v1618 : Index := Scalar.indexCast v1617
  let c28_859 : Index := 28#32
  let c0_860 : Index := 0#32
  ![v1618.toNat, 28, 0]

def k0_chk189 (v1617 : BitVec 32) : Prop :=
  (∀ a, (k0_off390 v1617) a + S1x1x512.size a ≤ S128x32x512.size a)
theorem k0_off390_inb : ∀ (v1617 : BitVec 32) (k0_hw189 : k0_chk189 v1617), ∀ a, (k0_off390 v1617) a + S1x1x512.size a ≤ S128x32x512.size a := fun v1617 k0_hw189 => k0_hw189

def k0_off391 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1621 : Index := Scalar.indexCast v1394
  let c29_861 : Index := 29#32
  ![v1621.toNat, 29]
def k0_off392 (v1622 : BitVec 32) : Fin 3 → Nat :=
  let v1623 : Index := Scalar.indexCast v1622
  let c29_862 : Index := 29#32
  let c0_863 : Index := 0#32
  ![v1623.toNat, 29, 0]

def k0_chk190 (v1622 : BitVec 32) : Prop :=
  (∀ a, (k0_off392 v1622) a + S1x1x512.size a ≤ S128x32x512.size a)
theorem k0_off392_inb : ∀ (v1622 : BitVec 32) (k0_hw190 : k0_chk190 v1622), ∀ a, (k0_off392 v1622) a + S1x1x512.size a ≤ S128x32x512.size a := fun v1622 k0_hw190 => k0_hw190

def k0_off393 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1626 : Index := Scalar.indexCast v1394
  let c30_864 : Index := 30#32
  ![v1626.toNat, 30]
def k0_off394 (v1627 : BitVec 32) : Fin 3 → Nat :=
  let v1628 : Index := Scalar.indexCast v1627
  let c30_865 : Index := 30#32
  let c0_866 : Index := 0#32
  ![v1628.toNat, 30, 0]

def k0_chk191 (v1627 : BitVec 32) : Prop :=
  (∀ a, (k0_off394 v1627) a + S1x1x512.size a ≤ S128x32x512.size a)
theorem k0_off394_inb : ∀ (v1627 : BitVec 32) (k0_hw191 : k0_chk191 v1627), ∀ a, (k0_off394 v1627) a + S1x1x512.size a ≤ S128x32x512.size a := fun v1627 k0_hw191 => k0_hw191

def k0_off395 (i : grid0.Coords) : Fin 2 → Nat :=
  let arg1 : BitVec 32 := BitVec.ofNat 32 (i 1).val
  let c8_i32_736 : BitVec 32 := 8#32
  let v1393 : BitVec 32 := Scalar.muli arg1 c8_i32_736
  let c5_i32 : BitVec 32 := 5#32
  let v1394 : BitVec 32 := Scalar.addi v1393 c5_i32
  let v1631 : Index := Scalar.indexCast v1394
  let c31_867 : Index := 31#32
  ![v1631.toNat, 31]
def k0_off396 (v1632 : BitVec 32) : Fin 3 → Nat :=
  let v1633 : Index := Scalar.indexCast v1632
  let c31_868 : Index := 31#32
  let c0_869 : Index := 0#32
  ![v1633.toNat, 31, 0]

def k0_chk192 (v1632 : BitVec 32) : Prop :=
  (∀ a, (k0_off396 v1632) a + S1x1x512.size a ≤ S128x32x512.size a)
theorem k0_off396_inb : ∀ (v1632 : BitVec 32) (k0_hw192 : k0_chk192 v1632), ∀ a, (k0_off396 v1632) a + S1x1x512.size a ≤ S128x32x512.size a := fun v1632 k0_hw192 => k0_hw192

def k0_off397 (i : grid0.Coords) : Fin 3 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let c1_i32_894 : BitVec 32 := 1#32
  let v1683 : BitVec 32 := Scalar.subi v1674 c1_i32_894
  let v1684 : Index := Scalar.indexCast v1683
  let c0_895 : Index := 0#32
  let c0_896 : Index := 0#32
  ![v1684.toNat, 0, 0]
def k0_off398 (i : grid0.Coords) : Fin 3 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let c1_i32_899 : BitVec 32 := 1#32
  let v1692 : BitVec 32 := Scalar.subi v1674 c1_i32_899
  let v1693 : Index := Scalar.indexCast v1692
  let c0_900 : Index := 0#32
  let c0_901 : Index := 0#32
  ![v1693.toNat, 0, 0]
def k0_off399 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1756 : Index := Scalar.indexCast v1674
  let c0_928 : Index := 0#32
  ![v1756.toNat, 0]
def k0_off400 (v1757 : BitVec 32) : Fin 3 → Nat :=
  let v1758 : Index := Scalar.indexCast v1757
  let c0_929 : Index := 0#32
  let c0_930 : Index := 0#32
  ![v1758.toNat, 0, 0]

def k0_chk193 (v1757 : BitVec 32) : Prop :=
  (∀ a, (k0_off400 v1757) a + S1x1x512.size a ≤ S128x32x512.size a)
theorem k0_off400_inb : ∀ (v1757 : BitVec 32) (k0_hw193 : k0_chk193 v1757), ∀ a, (k0_off400 v1757) a + S1x1x512.size a ≤ S128x32x512.size a := fun v1757 k0_hw193 => k0_hw193

def k0_off401 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1761 : Index := Scalar.indexCast v1674
  let c1_931 : Index := 1#32
  ![v1761.toNat, 1]
def k0_off402 (v1762 : BitVec 32) : Fin 3 → Nat :=
  let v1763 : Index := Scalar.indexCast v1762
  let c1_932 : Index := 1#32
  let c0_933 : Index := 0#32
  ![v1763.toNat, 1, 0]

def k0_chk194 (v1762 : BitVec 32) : Prop :=
  (∀ a, (k0_off402 v1762) a + S1x1x512.size a ≤ S128x32x512.size a)
theorem k0_off402_inb : ∀ (v1762 : BitVec 32) (k0_hw194 : k0_chk194 v1762), ∀ a, (k0_off402 v1762) a + S1x1x512.size a ≤ S128x32x512.size a := fun v1762 k0_hw194 => k0_hw194

def k0_off403 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1766 : Index := Scalar.indexCast v1674
  let c2_934 : Index := 2#32
  ![v1766.toNat, 2]
def k0_off404 (v1767 : BitVec 32) : Fin 3 → Nat :=
  let v1768 : Index := Scalar.indexCast v1767
  let c2_935 : Index := 2#32
  let c0_936 : Index := 0#32
  ![v1768.toNat, 2, 0]

def k0_chk195 (v1767 : BitVec 32) : Prop :=
  (∀ a, (k0_off404 v1767) a + S1x1x512.size a ≤ S128x32x512.size a)
theorem k0_off404_inb : ∀ (v1767 : BitVec 32) (k0_hw195 : k0_chk195 v1767), ∀ a, (k0_off404 v1767) a + S1x1x512.size a ≤ S128x32x512.size a := fun v1767 k0_hw195 => k0_hw195

def k0_off405 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1771 : Index := Scalar.indexCast v1674
  let c3_937 : Index := 3#32
  ![v1771.toNat, 3]
def k0_off406 (v1772 : BitVec 32) : Fin 3 → Nat :=
  let v1773 : Index := Scalar.indexCast v1772
  let c3_938 : Index := 3#32
  let c0_939 : Index := 0#32
  ![v1773.toNat, 3, 0]

def k0_chk196 (v1772 : BitVec 32) : Prop :=
  (∀ a, (k0_off406 v1772) a + S1x1x512.size a ≤ S128x32x512.size a)
theorem k0_off406_inb : ∀ (v1772 : BitVec 32) (k0_hw196 : k0_chk196 v1772), ∀ a, (k0_off406 v1772) a + S1x1x512.size a ≤ S128x32x512.size a := fun v1772 k0_hw196 => k0_hw196

def k0_off407 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1776 : Index := Scalar.indexCast v1674
  let c4_940 : Index := 4#32
  ![v1776.toNat, 4]
def k0_off408 (v1777 : BitVec 32) : Fin 3 → Nat :=
  let v1778 : Index := Scalar.indexCast v1777
  let c4_941 : Index := 4#32
  let c0_942 : Index := 0#32
  ![v1778.toNat, 4, 0]

def k0_chk197 (v1777 : BitVec 32) : Prop :=
  (∀ a, (k0_off408 v1777) a + S1x1x512.size a ≤ S128x32x512.size a)
theorem k0_off408_inb : ∀ (v1777 : BitVec 32) (k0_hw197 : k0_chk197 v1777), ∀ a, (k0_off408 v1777) a + S1x1x512.size a ≤ S128x32x512.size a := fun v1777 k0_hw197 => k0_hw197

def k0_off409 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1781 : Index := Scalar.indexCast v1674
  let c5_943 : Index := 5#32
  ![v1781.toNat, 5]
def k0_off410 (v1782 : BitVec 32) : Fin 3 → Nat :=
  let v1783 : Index := Scalar.indexCast v1782
  let c5_944 : Index := 5#32
  let c0_945 : Index := 0#32
  ![v1783.toNat, 5, 0]

def k0_chk198 (v1782 : BitVec 32) : Prop :=
  (∀ a, (k0_off410 v1782) a + S1x1x512.size a ≤ S128x32x512.size a)
theorem k0_off410_inb : ∀ (v1782 : BitVec 32) (k0_hw198 : k0_chk198 v1782), ∀ a, (k0_off410 v1782) a + S1x1x512.size a ≤ S128x32x512.size a := fun v1782 k0_hw198 => k0_hw198

def k0_off411 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1786 : Index := Scalar.indexCast v1674
  let c6_946 : Index := 6#32
  ![v1786.toNat, 6]
def k0_off412 (v1787 : BitVec 32) : Fin 3 → Nat :=
  let v1788 : Index := Scalar.indexCast v1787
  let c6_947 : Index := 6#32
  let c0_948 : Index := 0#32
  ![v1788.toNat, 6, 0]

def k0_chk199 (v1787 : BitVec 32) : Prop :=
  (∀ a, (k0_off412 v1787) a + S1x1x512.size a ≤ S128x32x512.size a)
theorem k0_off412_inb : ∀ (v1787 : BitVec 32) (k0_hw199 : k0_chk199 v1787), ∀ a, (k0_off412 v1787) a + S1x1x512.size a ≤ S128x32x512.size a := fun v1787 k0_hw199 => k0_hw199

def k0_off413 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1791 : Index := Scalar.indexCast v1674
  let c7_949 : Index := 7#32
  ![v1791.toNat, 7]
def k0_off414 (v1792 : BitVec 32) : Fin 3 → Nat :=
  let v1793 : Index := Scalar.indexCast v1792
  let c7_950 : Index := 7#32
  let c0_951 : Index := 0#32
  ![v1793.toNat, 7, 0]

def k0_chk200 (v1792 : BitVec 32) : Prop :=
  (∀ a, (k0_off414 v1792) a + S1x1x512.size a ≤ S128x32x512.size a)
theorem k0_off414_inb : ∀ (v1792 : BitVec 32) (k0_hw200 : k0_chk200 v1792), ∀ a, (k0_off414 v1792) a + S1x1x512.size a ≤ S128x32x512.size a := fun v1792 k0_hw200 => k0_hw200

def k0_off415 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1796 : Index := Scalar.indexCast v1674
  let c8_952 : Index := 8#32
  ![v1796.toNat, 8]
def k0_off416 (v1797 : BitVec 32) : Fin 3 → Nat :=
  let v1798 : Index := Scalar.indexCast v1797
  let c8_953 : Index := 8#32
  let c0_954 : Index := 0#32
  ![v1798.toNat, 8, 0]

def k0_chk201 (v1797 : BitVec 32) : Prop :=
  (∀ a, (k0_off416 v1797) a + S1x1x512.size a ≤ S128x32x512.size a)
theorem k0_off416_inb : ∀ (v1797 : BitVec 32) (k0_hw201 : k0_chk201 v1797), ∀ a, (k0_off416 v1797) a + S1x1x512.size a ≤ S128x32x512.size a := fun v1797 k0_hw201 => k0_hw201

def k0_off417 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1801 : Index := Scalar.indexCast v1674
  let c9_955 : Index := 9#32
  ![v1801.toNat, 9]
def k0_off418 (v1802 : BitVec 32) : Fin 3 → Nat :=
  let v1803 : Index := Scalar.indexCast v1802
  let c9_956 : Index := 9#32
  let c0_957 : Index := 0#32
  ![v1803.toNat, 9, 0]

def k0_chk202 (v1802 : BitVec 32) : Prop :=
  (∀ a, (k0_off418 v1802) a + S1x1x512.size a ≤ S128x32x512.size a)
theorem k0_off418_inb : ∀ (v1802 : BitVec 32) (k0_hw202 : k0_chk202 v1802), ∀ a, (k0_off418 v1802) a + S1x1x512.size a ≤ S128x32x512.size a := fun v1802 k0_hw202 => k0_hw202

def k0_off419 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1806 : Index := Scalar.indexCast v1674
  let c10_958 : Index := 10#32
  ![v1806.toNat, 10]
def k0_off420 (v1807 : BitVec 32) : Fin 3 → Nat :=
  let v1808 : Index := Scalar.indexCast v1807
  let c10_959 : Index := 10#32
  let c0_960 : Index := 0#32
  ![v1808.toNat, 10, 0]

def k0_chk203 (v1807 : BitVec 32) : Prop :=
  (∀ a, (k0_off420 v1807) a + S1x1x512.size a ≤ S128x32x512.size a)
theorem k0_off420_inb : ∀ (v1807 : BitVec 32) (k0_hw203 : k0_chk203 v1807), ∀ a, (k0_off420 v1807) a + S1x1x512.size a ≤ S128x32x512.size a := fun v1807 k0_hw203 => k0_hw203

def k0_off421 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1811 : Index := Scalar.indexCast v1674
  let c11_961 : Index := 11#32
  ![v1811.toNat, 11]
def k0_off422 (v1812 : BitVec 32) : Fin 3 → Nat :=
  let v1813 : Index := Scalar.indexCast v1812
  let c11_962 : Index := 11#32
  let c0_963 : Index := 0#32
  ![v1813.toNat, 11, 0]

def k0_chk204 (v1812 : BitVec 32) : Prop :=
  (∀ a, (k0_off422 v1812) a + S1x1x512.size a ≤ S128x32x512.size a)
theorem k0_off422_inb : ∀ (v1812 : BitVec 32) (k0_hw204 : k0_chk204 v1812), ∀ a, (k0_off422 v1812) a + S1x1x512.size a ≤ S128x32x512.size a := fun v1812 k0_hw204 => k0_hw204

def k0_off423 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1816 : Index := Scalar.indexCast v1674
  let c12_964 : Index := 12#32
  ![v1816.toNat, 12]
def k0_off424 (v1817 : BitVec 32) : Fin 3 → Nat :=
  let v1818 : Index := Scalar.indexCast v1817
  let c12_965 : Index := 12#32
  let c0_966 : Index := 0#32
  ![v1818.toNat, 12, 0]

def k0_chk205 (v1817 : BitVec 32) : Prop :=
  (∀ a, (k0_off424 v1817) a + S1x1x512.size a ≤ S128x32x512.size a)
theorem k0_off424_inb : ∀ (v1817 : BitVec 32) (k0_hw205 : k0_chk205 v1817), ∀ a, (k0_off424 v1817) a + S1x1x512.size a ≤ S128x32x512.size a := fun v1817 k0_hw205 => k0_hw205

def k0_off425 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1821 : Index := Scalar.indexCast v1674
  let c13_967 : Index := 13#32
  ![v1821.toNat, 13]
def k0_off426 (v1822 : BitVec 32) : Fin 3 → Nat :=
  let v1823 : Index := Scalar.indexCast v1822
  let c13_968 : Index := 13#32
  let c0_969 : Index := 0#32
  ![v1823.toNat, 13, 0]

def k0_chk206 (v1822 : BitVec 32) : Prop :=
  (∀ a, (k0_off426 v1822) a + S1x1x512.size a ≤ S128x32x512.size a)
theorem k0_off426_inb : ∀ (v1822 : BitVec 32) (k0_hw206 : k0_chk206 v1822), ∀ a, (k0_off426 v1822) a + S1x1x512.size a ≤ S128x32x512.size a := fun v1822 k0_hw206 => k0_hw206

def k0_off427 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1826 : Index := Scalar.indexCast v1674
  let c14_970 : Index := 14#32
  ![v1826.toNat, 14]
def k0_off428 (v1827 : BitVec 32) : Fin 3 → Nat :=
  let v1828 : Index := Scalar.indexCast v1827
  let c14_971 : Index := 14#32
  let c0_972 : Index := 0#32
  ![v1828.toNat, 14, 0]

def k0_chk207 (v1827 : BitVec 32) : Prop :=
  (∀ a, (k0_off428 v1827) a + S1x1x512.size a ≤ S128x32x512.size a)
theorem k0_off428_inb : ∀ (v1827 : BitVec 32) (k0_hw207 : k0_chk207 v1827), ∀ a, (k0_off428 v1827) a + S1x1x512.size a ≤ S128x32x512.size a := fun v1827 k0_hw207 => k0_hw207

def k0_off429 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1831 : Index := Scalar.indexCast v1674
  let c15_973 : Index := 15#32
  ![v1831.toNat, 15]
def k0_off430 (v1832 : BitVec 32) : Fin 3 → Nat :=
  let v1833 : Index := Scalar.indexCast v1832
  let c15_974 : Index := 15#32
  let c0_975 : Index := 0#32
  ![v1833.toNat, 15, 0]

def k0_chk208 (v1832 : BitVec 32) : Prop :=
  (∀ a, (k0_off430 v1832) a + S1x1x512.size a ≤ S128x32x512.size a)
theorem k0_off430_inb : ∀ (v1832 : BitVec 32) (k0_hw208 : k0_chk208 v1832), ∀ a, (k0_off430 v1832) a + S1x1x512.size a ≤ S128x32x512.size a := fun v1832 k0_hw208 => k0_hw208

def k0_off431 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1836 : Index := Scalar.indexCast v1674
  let c16_976 : Index := 16#32
  ![v1836.toNat, 16]
def k0_off432 (v1837 : BitVec 32) : Fin 3 → Nat :=
  let v1838 : Index := Scalar.indexCast v1837
  let c16_977 : Index := 16#32
  let c0_978 : Index := 0#32
  ![v1838.toNat, 16, 0]

def k0_chk209 (v1837 : BitVec 32) : Prop :=
  (∀ a, (k0_off432 v1837) a + S1x1x512.size a ≤ S128x32x512.size a)
theorem k0_off432_inb : ∀ (v1837 : BitVec 32) (k0_hw209 : k0_chk209 v1837), ∀ a, (k0_off432 v1837) a + S1x1x512.size a ≤ S128x32x512.size a := fun v1837 k0_hw209 => k0_hw209

def k0_off433 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1841 : Index := Scalar.indexCast v1674
  let c17_979 : Index := 17#32
  ![v1841.toNat, 17]
def k0_off434 (v1842 : BitVec 32) : Fin 3 → Nat :=
  let v1843 : Index := Scalar.indexCast v1842
  let c17_980 : Index := 17#32
  let c0_981 : Index := 0#32
  ![v1843.toNat, 17, 0]

def k0_chk210 (v1842 : BitVec 32) : Prop :=
  (∀ a, (k0_off434 v1842) a + S1x1x512.size a ≤ S128x32x512.size a)
theorem k0_off434_inb : ∀ (v1842 : BitVec 32) (k0_hw210 : k0_chk210 v1842), ∀ a, (k0_off434 v1842) a + S1x1x512.size a ≤ S128x32x512.size a := fun v1842 k0_hw210 => k0_hw210

def k0_off435 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1846 : Index := Scalar.indexCast v1674
  let c18_982 : Index := 18#32
  ![v1846.toNat, 18]
def k0_off436 (v1847 : BitVec 32) : Fin 3 → Nat :=
  let v1848 : Index := Scalar.indexCast v1847
  let c18_983 : Index := 18#32
  let c0_984 : Index := 0#32
  ![v1848.toNat, 18, 0]

def k0_chk211 (v1847 : BitVec 32) : Prop :=
  (∀ a, (k0_off436 v1847) a + S1x1x512.size a ≤ S128x32x512.size a)
theorem k0_off436_inb : ∀ (v1847 : BitVec 32) (k0_hw211 : k0_chk211 v1847), ∀ a, (k0_off436 v1847) a + S1x1x512.size a ≤ S128x32x512.size a := fun v1847 k0_hw211 => k0_hw211

def k0_off437 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1851 : Index := Scalar.indexCast v1674
  let c19_985 : Index := 19#32
  ![v1851.toNat, 19]
def k0_off438 (v1852 : BitVec 32) : Fin 3 → Nat :=
  let v1853 : Index := Scalar.indexCast v1852
  let c19_986 : Index := 19#32
  let c0_987 : Index := 0#32
  ![v1853.toNat, 19, 0]

def k0_chk212 (v1852 : BitVec 32) : Prop :=
  (∀ a, (k0_off438 v1852) a + S1x1x512.size a ≤ S128x32x512.size a)
theorem k0_off438_inb : ∀ (v1852 : BitVec 32) (k0_hw212 : k0_chk212 v1852), ∀ a, (k0_off438 v1852) a + S1x1x512.size a ≤ S128x32x512.size a := fun v1852 k0_hw212 => k0_hw212

def k0_off439 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1856 : Index := Scalar.indexCast v1674
  let c20_988 : Index := 20#32
  ![v1856.toNat, 20]
def k0_off440 (v1857 : BitVec 32) : Fin 3 → Nat :=
  let v1858 : Index := Scalar.indexCast v1857
  let c20_989 : Index := 20#32
  let c0_990 : Index := 0#32
  ![v1858.toNat, 20, 0]

def k0_chk213 (v1857 : BitVec 32) : Prop :=
  (∀ a, (k0_off440 v1857) a + S1x1x512.size a ≤ S128x32x512.size a)
theorem k0_off440_inb : ∀ (v1857 : BitVec 32) (k0_hw213 : k0_chk213 v1857), ∀ a, (k0_off440 v1857) a + S1x1x512.size a ≤ S128x32x512.size a := fun v1857 k0_hw213 => k0_hw213

def k0_off441 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1861 : Index := Scalar.indexCast v1674
  let c21_991 : Index := 21#32
  ![v1861.toNat, 21]
def k0_off442 (v1862 : BitVec 32) : Fin 3 → Nat :=
  let v1863 : Index := Scalar.indexCast v1862
  let c21_992 : Index := 21#32
  let c0_993 : Index := 0#32
  ![v1863.toNat, 21, 0]

def k0_chk214 (v1862 : BitVec 32) : Prop :=
  (∀ a, (k0_off442 v1862) a + S1x1x512.size a ≤ S128x32x512.size a)
theorem k0_off442_inb : ∀ (v1862 : BitVec 32) (k0_hw214 : k0_chk214 v1862), ∀ a, (k0_off442 v1862) a + S1x1x512.size a ≤ S128x32x512.size a := fun v1862 k0_hw214 => k0_hw214

def k0_off443 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1866 : Index := Scalar.indexCast v1674
  let c22_994 : Index := 22#32
  ![v1866.toNat, 22]
def k0_off444 (v1867 : BitVec 32) : Fin 3 → Nat :=
  let v1868 : Index := Scalar.indexCast v1867
  let c22_995 : Index := 22#32
  let c0_996 : Index := 0#32
  ![v1868.toNat, 22, 0]

def k0_chk215 (v1867 : BitVec 32) : Prop :=
  (∀ a, (k0_off444 v1867) a + S1x1x512.size a ≤ S128x32x512.size a)
theorem k0_off444_inb : ∀ (v1867 : BitVec 32) (k0_hw215 : k0_chk215 v1867), ∀ a, (k0_off444 v1867) a + S1x1x512.size a ≤ S128x32x512.size a := fun v1867 k0_hw215 => k0_hw215

def k0_off445 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1871 : Index := Scalar.indexCast v1674
  let c23_997 : Index := 23#32
  ![v1871.toNat, 23]
def k0_off446 (v1872 : BitVec 32) : Fin 3 → Nat :=
  let v1873 : Index := Scalar.indexCast v1872
  let c23_998 : Index := 23#32
  let c0_999 : Index := 0#32
  ![v1873.toNat, 23, 0]

def k0_chk216 (v1872 : BitVec 32) : Prop :=
  (∀ a, (k0_off446 v1872) a + S1x1x512.size a ≤ S128x32x512.size a)
theorem k0_off446_inb : ∀ (v1872 : BitVec 32) (k0_hw216 : k0_chk216 v1872), ∀ a, (k0_off446 v1872) a + S1x1x512.size a ≤ S128x32x512.size a := fun v1872 k0_hw216 => k0_hw216

def k0_off447 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1876 : Index := Scalar.indexCast v1674
  let c24_1000 : Index := 24#32
  ![v1876.toNat, 24]
def k0_off448 (v1877 : BitVec 32) : Fin 3 → Nat :=
  let v1878 : Index := Scalar.indexCast v1877
  let c24_1001 : Index := 24#32
  let c0_1002 : Index := 0#32
  ![v1878.toNat, 24, 0]

def k0_chk217 (v1877 : BitVec 32) : Prop :=
  (∀ a, (k0_off448 v1877) a + S1x1x512.size a ≤ S128x32x512.size a)
theorem k0_off448_inb : ∀ (v1877 : BitVec 32) (k0_hw217 : k0_chk217 v1877), ∀ a, (k0_off448 v1877) a + S1x1x512.size a ≤ S128x32x512.size a := fun v1877 k0_hw217 => k0_hw217

def k0_off449 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1881 : Index := Scalar.indexCast v1674
  let c25_1003 : Index := 25#32
  ![v1881.toNat, 25]
def k0_off450 (v1882 : BitVec 32) : Fin 3 → Nat :=
  let v1883 : Index := Scalar.indexCast v1882
  let c25_1004 : Index := 25#32
  let c0_1005 : Index := 0#32
  ![v1883.toNat, 25, 0]

def k0_chk218 (v1882 : BitVec 32) : Prop :=
  (∀ a, (k0_off450 v1882) a + S1x1x512.size a ≤ S128x32x512.size a)
theorem k0_off450_inb : ∀ (v1882 : BitVec 32) (k0_hw218 : k0_chk218 v1882), ∀ a, (k0_off450 v1882) a + S1x1x512.size a ≤ S128x32x512.size a := fun v1882 k0_hw218 => k0_hw218

def k0_off451 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1886 : Index := Scalar.indexCast v1674
  let c26_1006 : Index := 26#32
  ![v1886.toNat, 26]
def k0_off452 (v1887 : BitVec 32) : Fin 3 → Nat :=
  let v1888 : Index := Scalar.indexCast v1887
  let c26_1007 : Index := 26#32
  let c0_1008 : Index := 0#32
  ![v1888.toNat, 26, 0]

def k0_chk219 (v1887 : BitVec 32) : Prop :=
  (∀ a, (k0_off452 v1887) a + S1x1x512.size a ≤ S128x32x512.size a)
theorem k0_off452_inb : ∀ (v1887 : BitVec 32) (k0_hw219 : k0_chk219 v1887), ∀ a, (k0_off452 v1887) a + S1x1x512.size a ≤ S128x32x512.size a := fun v1887 k0_hw219 => k0_hw219

def k0_off453 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1891 : Index := Scalar.indexCast v1674
  let c27_1009 : Index := 27#32
  ![v1891.toNat, 27]
def k0_off454 (v1892 : BitVec 32) : Fin 3 → Nat :=
  let v1893 : Index := Scalar.indexCast v1892
  let c27_1010 : Index := 27#32
  let c0_1011 : Index := 0#32
  ![v1893.toNat, 27, 0]

def k0_chk220 (v1892 : BitVec 32) : Prop :=
  (∀ a, (k0_off454 v1892) a + S1x1x512.size a ≤ S128x32x512.size a)
theorem k0_off454_inb : ∀ (v1892 : BitVec 32) (k0_hw220 : k0_chk220 v1892), ∀ a, (k0_off454 v1892) a + S1x1x512.size a ≤ S128x32x512.size a := fun v1892 k0_hw220 => k0_hw220

def k0_off455 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1896 : Index := Scalar.indexCast v1674
  let c28_1012 : Index := 28#32
  ![v1896.toNat, 28]
def k0_off456 (v1897 : BitVec 32) : Fin 3 → Nat :=
  let v1898 : Index := Scalar.indexCast v1897
  let c28_1013 : Index := 28#32
  let c0_1014 : Index := 0#32
  ![v1898.toNat, 28, 0]

def k0_chk221 (v1897 : BitVec 32) : Prop :=
  (∀ a, (k0_off456 v1897) a + S1x1x512.size a ≤ S128x32x512.size a)
theorem k0_off456_inb : ∀ (v1897 : BitVec 32) (k0_hw221 : k0_chk221 v1897), ∀ a, (k0_off456 v1897) a + S1x1x512.size a ≤ S128x32x512.size a := fun v1897 k0_hw221 => k0_hw221

def k0_off457 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1901 : Index := Scalar.indexCast v1674
  let c29_1015 : Index := 29#32
  ![v1901.toNat, 29]
def k0_off458 (v1902 : BitVec 32) : Fin 3 → Nat :=
  let v1903 : Index := Scalar.indexCast v1902
  let c29_1016 : Index := 29#32
  let c0_1017 : Index := 0#32
  ![v1903.toNat, 29, 0]

def k0_chk222 (v1902 : BitVec 32) : Prop :=
  (∀ a, (k0_off458 v1902) a + S1x1x512.size a ≤ S128x32x512.size a)
theorem k0_off458_inb : ∀ (v1902 : BitVec 32) (k0_hw222 : k0_chk222 v1902), ∀ a, (k0_off458 v1902) a + S1x1x512.size a ≤ S128x32x512.size a := fun v1902 k0_hw222 => k0_hw222

def k0_off459 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1906 : Index := Scalar.indexCast v1674
  let c30_1018 : Index := 30#32
  ![v1906.toNat, 30]
def k0_off460 (v1907 : BitVec 32) : Fin 3 → Nat :=
  let v1908 : Index := Scalar.indexCast v1907
  let c30_1019 : Index := 30#32
  let c0_1020 : Index := 0#32
  ![v1908.toNat, 30, 0]

def k0_chk223 (v1907 : BitVec 32) : Prop :=
  (∀ a, (k0_off460 v1907) a + S1x1x512.size a ≤ S128x32x512.size a)
theorem k0_off460_inb : ∀ (v1907 : BitVec 32) (k0_hw223 : k0_chk223 v1907), ∀ a, (k0_off460 v1907) a + S1x1x512.size a ≤ S128x32x512.size a := fun v1907 k0_hw223 => k0_hw223

def k0_off461 (i : grid0.Coords) : Fin 2 → Nat :=
  let arg1 : BitVec 32 := BitVec.ofNat 32 (i 1).val
  let c8_i32_890 : BitVec 32 := 8#32
  let v1673 : BitVec 32 := Scalar.muli arg1 c8_i32_890
  let c6_i32 : BitVec 32 := 6#32
  let v1674 : BitVec 32 := Scalar.addi v1673 c6_i32
  let v1911 : Index := Scalar.indexCast v1674
  let c31_1021 : Index := 31#32
  ![v1911.toNat, 31]
def k0_off462 (v1912 : BitVec 32) : Fin 3 → Nat :=
  let v1913 : Index := Scalar.indexCast v1912
  let c31_1022 : Index := 31#32
  let c0_1023 : Index := 0#32
  ![v1913.toNat, 31, 0]

def k0_chk224 (v1912 : BitVec 32) : Prop :=
  (∀ a, (k0_off462 v1912) a + S1x1x512.size a ≤ S128x32x512.size a)
theorem k0_off462_inb : ∀ (v1912 : BitVec 32) (k0_hw224 : k0_chk224 v1912), ∀ a, (k0_off462 v1912) a + S1x1x512.size a ≤ S128x32x512.size a := fun v1912 k0_hw224 => k0_hw224

def k0_off463 (i : grid0.Coords) : Fin 3 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let c1_i32_1048 : BitVec 32 := 1#32
  let v1963 : BitVec 32 := Scalar.subi v1954 c1_i32_1048
  let v1964 : Index := Scalar.indexCast v1963
  let c0_1049 : Index := 0#32
  let c0_1050 : Index := 0#32
  ![v1964.toNat, 0, 0]
def k0_off464 (i : grid0.Coords) : Fin 3 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let c1_i32_1053 : BitVec 32 := 1#32
  let v1972 : BitVec 32 := Scalar.subi v1954 c1_i32_1053
  let v1973 : Index := Scalar.indexCast v1972
  let c0_1054 : Index := 0#32
  let c0_1055 : Index := 0#32
  ![v1973.toNat, 0, 0]
def k0_off465 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2036 : Index := Scalar.indexCast v1954
  let c0_1082 : Index := 0#32
  ![v2036.toNat, 0]
def k0_off466 (v2037 : BitVec 32) : Fin 3 → Nat :=
  let v2038 : Index := Scalar.indexCast v2037
  let c0_1083 : Index := 0#32
  let c0_1084 : Index := 0#32
  ![v2038.toNat, 0, 0]

def k0_chk225 (v2037 : BitVec 32) : Prop :=
  (∀ a, (k0_off466 v2037) a + S1x1x512.size a ≤ S128x32x512.size a)
theorem k0_off466_inb : ∀ (v2037 : BitVec 32) (k0_hw225 : k0_chk225 v2037), ∀ a, (k0_off466 v2037) a + S1x1x512.size a ≤ S128x32x512.size a := fun v2037 k0_hw225 => k0_hw225

def k0_off467 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2041 : Index := Scalar.indexCast v1954
  let c1_1085 : Index := 1#32
  ![v2041.toNat, 1]
def k0_off468 (v2042 : BitVec 32) : Fin 3 → Nat :=
  let v2043 : Index := Scalar.indexCast v2042
  let c1_1086 : Index := 1#32
  let c0_1087 : Index := 0#32
  ![v2043.toNat, 1, 0]

def k0_chk226 (v2042 : BitVec 32) : Prop :=
  (∀ a, (k0_off468 v2042) a + S1x1x512.size a ≤ S128x32x512.size a)
theorem k0_off468_inb : ∀ (v2042 : BitVec 32) (k0_hw226 : k0_chk226 v2042), ∀ a, (k0_off468 v2042) a + S1x1x512.size a ≤ S128x32x512.size a := fun v2042 k0_hw226 => k0_hw226

def k0_off469 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2046 : Index := Scalar.indexCast v1954
  let c2_1088 : Index := 2#32
  ![v2046.toNat, 2]
def k0_off470 (v2047 : BitVec 32) : Fin 3 → Nat :=
  let v2048 : Index := Scalar.indexCast v2047
  let c2_1089 : Index := 2#32
  let c0_1090 : Index := 0#32
  ![v2048.toNat, 2, 0]

def k0_chk227 (v2047 : BitVec 32) : Prop :=
  (∀ a, (k0_off470 v2047) a + S1x1x512.size a ≤ S128x32x512.size a)
theorem k0_off470_inb : ∀ (v2047 : BitVec 32) (k0_hw227 : k0_chk227 v2047), ∀ a, (k0_off470 v2047) a + S1x1x512.size a ≤ S128x32x512.size a := fun v2047 k0_hw227 => k0_hw227

def k0_off471 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2051 : Index := Scalar.indexCast v1954
  let c3_1091 : Index := 3#32
  ![v2051.toNat, 3]
def k0_off472 (v2052 : BitVec 32) : Fin 3 → Nat :=
  let v2053 : Index := Scalar.indexCast v2052
  let c3_1092 : Index := 3#32
  let c0_1093 : Index := 0#32
  ![v2053.toNat, 3, 0]

def k0_chk228 (v2052 : BitVec 32) : Prop :=
  (∀ a, (k0_off472 v2052) a + S1x1x512.size a ≤ S128x32x512.size a)
theorem k0_off472_inb : ∀ (v2052 : BitVec 32) (k0_hw228 : k0_chk228 v2052), ∀ a, (k0_off472 v2052) a + S1x1x512.size a ≤ S128x32x512.size a := fun v2052 k0_hw228 => k0_hw228

def k0_off473 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2056 : Index := Scalar.indexCast v1954
  let c4_1094 : Index := 4#32
  ![v2056.toNat, 4]
def k0_off474 (v2057 : BitVec 32) : Fin 3 → Nat :=
  let v2058 : Index := Scalar.indexCast v2057
  let c4_1095 : Index := 4#32
  let c0_1096 : Index := 0#32
  ![v2058.toNat, 4, 0]

def k0_chk229 (v2057 : BitVec 32) : Prop :=
  (∀ a, (k0_off474 v2057) a + S1x1x512.size a ≤ S128x32x512.size a)
theorem k0_off474_inb : ∀ (v2057 : BitVec 32) (k0_hw229 : k0_chk229 v2057), ∀ a, (k0_off474 v2057) a + S1x1x512.size a ≤ S128x32x512.size a := fun v2057 k0_hw229 => k0_hw229

def k0_off475 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2061 : Index := Scalar.indexCast v1954
  let c5_1097 : Index := 5#32
  ![v2061.toNat, 5]
def k0_off476 (v2062 : BitVec 32) : Fin 3 → Nat :=
  let v2063 : Index := Scalar.indexCast v2062
  let c5_1098 : Index := 5#32
  let c0_1099 : Index := 0#32
  ![v2063.toNat, 5, 0]

def k0_chk230 (v2062 : BitVec 32) : Prop :=
  (∀ a, (k0_off476 v2062) a + S1x1x512.size a ≤ S128x32x512.size a)
theorem k0_off476_inb : ∀ (v2062 : BitVec 32) (k0_hw230 : k0_chk230 v2062), ∀ a, (k0_off476 v2062) a + S1x1x512.size a ≤ S128x32x512.size a := fun v2062 k0_hw230 => k0_hw230

def k0_off477 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2066 : Index := Scalar.indexCast v1954
  let c6_1100 : Index := 6#32
  ![v2066.toNat, 6]
def k0_off478 (v2067 : BitVec 32) : Fin 3 → Nat :=
  let v2068 : Index := Scalar.indexCast v2067
  let c6_1101 : Index := 6#32
  let c0_1102 : Index := 0#32
  ![v2068.toNat, 6, 0]

def k0_chk231 (v2067 : BitVec 32) : Prop :=
  (∀ a, (k0_off478 v2067) a + S1x1x512.size a ≤ S128x32x512.size a)
theorem k0_off478_inb : ∀ (v2067 : BitVec 32) (k0_hw231 : k0_chk231 v2067), ∀ a, (k0_off478 v2067) a + S1x1x512.size a ≤ S128x32x512.size a := fun v2067 k0_hw231 => k0_hw231

def k0_off479 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2071 : Index := Scalar.indexCast v1954
  let c7_1103 : Index := 7#32
  ![v2071.toNat, 7]
def k0_off480 (v2072 : BitVec 32) : Fin 3 → Nat :=
  let v2073 : Index := Scalar.indexCast v2072
  let c7_1104 : Index := 7#32
  let c0_1105 : Index := 0#32
  ![v2073.toNat, 7, 0]

def k0_chk232 (v2072 : BitVec 32) : Prop :=
  (∀ a, (k0_off480 v2072) a + S1x1x512.size a ≤ S128x32x512.size a)
theorem k0_off480_inb : ∀ (v2072 : BitVec 32) (k0_hw232 : k0_chk232 v2072), ∀ a, (k0_off480 v2072) a + S1x1x512.size a ≤ S128x32x512.size a := fun v2072 k0_hw232 => k0_hw232

def k0_off481 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2076 : Index := Scalar.indexCast v1954
  let c8_1106 : Index := 8#32
  ![v2076.toNat, 8]
def k0_off482 (v2077 : BitVec 32) : Fin 3 → Nat :=
  let v2078 : Index := Scalar.indexCast v2077
  let c8_1107 : Index := 8#32
  let c0_1108 : Index := 0#32
  ![v2078.toNat, 8, 0]

def k0_chk233 (v2077 : BitVec 32) : Prop :=
  (∀ a, (k0_off482 v2077) a + S1x1x512.size a ≤ S128x32x512.size a)
theorem k0_off482_inb : ∀ (v2077 : BitVec 32) (k0_hw233 : k0_chk233 v2077), ∀ a, (k0_off482 v2077) a + S1x1x512.size a ≤ S128x32x512.size a := fun v2077 k0_hw233 => k0_hw233

def k0_off483 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2081 : Index := Scalar.indexCast v1954
  let c9_1109 : Index := 9#32
  ![v2081.toNat, 9]
def k0_off484 (v2082 : BitVec 32) : Fin 3 → Nat :=
  let v2083 : Index := Scalar.indexCast v2082
  let c9_1110 : Index := 9#32
  let c0_1111 : Index := 0#32
  ![v2083.toNat, 9, 0]

def k0_chk234 (v2082 : BitVec 32) : Prop :=
  (∀ a, (k0_off484 v2082) a + S1x1x512.size a ≤ S128x32x512.size a)
theorem k0_off484_inb : ∀ (v2082 : BitVec 32) (k0_hw234 : k0_chk234 v2082), ∀ a, (k0_off484 v2082) a + S1x1x512.size a ≤ S128x32x512.size a := fun v2082 k0_hw234 => k0_hw234

def k0_off485 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2086 : Index := Scalar.indexCast v1954
  let c10_1112 : Index := 10#32
  ![v2086.toNat, 10]
def k0_off486 (v2087 : BitVec 32) : Fin 3 → Nat :=
  let v2088 : Index := Scalar.indexCast v2087
  let c10_1113 : Index := 10#32
  let c0_1114 : Index := 0#32
  ![v2088.toNat, 10, 0]

def k0_chk235 (v2087 : BitVec 32) : Prop :=
  (∀ a, (k0_off486 v2087) a + S1x1x512.size a ≤ S128x32x512.size a)
theorem k0_off486_inb : ∀ (v2087 : BitVec 32) (k0_hw235 : k0_chk235 v2087), ∀ a, (k0_off486 v2087) a + S1x1x512.size a ≤ S128x32x512.size a := fun v2087 k0_hw235 => k0_hw235

def k0_off487 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2091 : Index := Scalar.indexCast v1954
  let c11_1115 : Index := 11#32
  ![v2091.toNat, 11]
def k0_off488 (v2092 : BitVec 32) : Fin 3 → Nat :=
  let v2093 : Index := Scalar.indexCast v2092
  let c11_1116 : Index := 11#32
  let c0_1117 : Index := 0#32
  ![v2093.toNat, 11, 0]

def k0_chk236 (v2092 : BitVec 32) : Prop :=
  (∀ a, (k0_off488 v2092) a + S1x1x512.size a ≤ S128x32x512.size a)
theorem k0_off488_inb : ∀ (v2092 : BitVec 32) (k0_hw236 : k0_chk236 v2092), ∀ a, (k0_off488 v2092) a + S1x1x512.size a ≤ S128x32x512.size a := fun v2092 k0_hw236 => k0_hw236

def k0_off489 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2096 : Index := Scalar.indexCast v1954
  let c12_1118 : Index := 12#32
  ![v2096.toNat, 12]
def k0_off490 (v2097 : BitVec 32) : Fin 3 → Nat :=
  let v2098 : Index := Scalar.indexCast v2097
  let c12_1119 : Index := 12#32
  let c0_1120 : Index := 0#32
  ![v2098.toNat, 12, 0]

def k0_chk237 (v2097 : BitVec 32) : Prop :=
  (∀ a, (k0_off490 v2097) a + S1x1x512.size a ≤ S128x32x512.size a)
theorem k0_off490_inb : ∀ (v2097 : BitVec 32) (k0_hw237 : k0_chk237 v2097), ∀ a, (k0_off490 v2097) a + S1x1x512.size a ≤ S128x32x512.size a := fun v2097 k0_hw237 => k0_hw237

def k0_off491 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2101 : Index := Scalar.indexCast v1954
  let c13_1121 : Index := 13#32
  ![v2101.toNat, 13]
def k0_off492 (v2102 : BitVec 32) : Fin 3 → Nat :=
  let v2103 : Index := Scalar.indexCast v2102
  let c13_1122 : Index := 13#32
  let c0_1123 : Index := 0#32
  ![v2103.toNat, 13, 0]

def k0_chk238 (v2102 : BitVec 32) : Prop :=
  (∀ a, (k0_off492 v2102) a + S1x1x512.size a ≤ S128x32x512.size a)
theorem k0_off492_inb : ∀ (v2102 : BitVec 32) (k0_hw238 : k0_chk238 v2102), ∀ a, (k0_off492 v2102) a + S1x1x512.size a ≤ S128x32x512.size a := fun v2102 k0_hw238 => k0_hw238

def k0_off493 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2106 : Index := Scalar.indexCast v1954
  let c14_1124 : Index := 14#32
  ![v2106.toNat, 14]
def k0_off494 (v2107 : BitVec 32) : Fin 3 → Nat :=
  let v2108 : Index := Scalar.indexCast v2107
  let c14_1125 : Index := 14#32
  let c0_1126 : Index := 0#32
  ![v2108.toNat, 14, 0]

def k0_chk239 (v2107 : BitVec 32) : Prop :=
  (∀ a, (k0_off494 v2107) a + S1x1x512.size a ≤ S128x32x512.size a)
theorem k0_off494_inb : ∀ (v2107 : BitVec 32) (k0_hw239 : k0_chk239 v2107), ∀ a, (k0_off494 v2107) a + S1x1x512.size a ≤ S128x32x512.size a := fun v2107 k0_hw239 => k0_hw239

def k0_off495 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2111 : Index := Scalar.indexCast v1954
  let c15_1127 : Index := 15#32
  ![v2111.toNat, 15]
def k0_off496 (v2112 : BitVec 32) : Fin 3 → Nat :=
  let v2113 : Index := Scalar.indexCast v2112
  let c15_1128 : Index := 15#32
  let c0_1129 : Index := 0#32
  ![v2113.toNat, 15, 0]

def k0_chk240 (v2112 : BitVec 32) : Prop :=
  (∀ a, (k0_off496 v2112) a + S1x1x512.size a ≤ S128x32x512.size a)
theorem k0_off496_inb : ∀ (v2112 : BitVec 32) (k0_hw240 : k0_chk240 v2112), ∀ a, (k0_off496 v2112) a + S1x1x512.size a ≤ S128x32x512.size a := fun v2112 k0_hw240 => k0_hw240

def k0_off497 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2116 : Index := Scalar.indexCast v1954
  let c16_1130 : Index := 16#32
  ![v2116.toNat, 16]
def k0_off498 (v2117 : BitVec 32) : Fin 3 → Nat :=
  let v2118 : Index := Scalar.indexCast v2117
  let c16_1131 : Index := 16#32
  let c0_1132 : Index := 0#32
  ![v2118.toNat, 16, 0]

def k0_chk241 (v2117 : BitVec 32) : Prop :=
  (∀ a, (k0_off498 v2117) a + S1x1x512.size a ≤ S128x32x512.size a)
theorem k0_off498_inb : ∀ (v2117 : BitVec 32) (k0_hw241 : k0_chk241 v2117), ∀ a, (k0_off498 v2117) a + S1x1x512.size a ≤ S128x32x512.size a := fun v2117 k0_hw241 => k0_hw241

def k0_off499 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2121 : Index := Scalar.indexCast v1954
  let c17_1133 : Index := 17#32
  ![v2121.toNat, 17]
def k0_off500 (v2122 : BitVec 32) : Fin 3 → Nat :=
  let v2123 : Index := Scalar.indexCast v2122
  let c17_1134 : Index := 17#32
  let c0_1135 : Index := 0#32
  ![v2123.toNat, 17, 0]

def k0_chk242 (v2122 : BitVec 32) : Prop :=
  (∀ a, (k0_off500 v2122) a + S1x1x512.size a ≤ S128x32x512.size a)
theorem k0_off500_inb : ∀ (v2122 : BitVec 32) (k0_hw242 : k0_chk242 v2122), ∀ a, (k0_off500 v2122) a + S1x1x512.size a ≤ S128x32x512.size a := fun v2122 k0_hw242 => k0_hw242

def k0_off501 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2126 : Index := Scalar.indexCast v1954
  let c18_1136 : Index := 18#32
  ![v2126.toNat, 18]
def k0_off502 (v2127 : BitVec 32) : Fin 3 → Nat :=
  let v2128 : Index := Scalar.indexCast v2127
  let c18_1137 : Index := 18#32
  let c0_1138 : Index := 0#32
  ![v2128.toNat, 18, 0]

def k0_chk243 (v2127 : BitVec 32) : Prop :=
  (∀ a, (k0_off502 v2127) a + S1x1x512.size a ≤ S128x32x512.size a)
theorem k0_off502_inb : ∀ (v2127 : BitVec 32) (k0_hw243 : k0_chk243 v2127), ∀ a, (k0_off502 v2127) a + S1x1x512.size a ≤ S128x32x512.size a := fun v2127 k0_hw243 => k0_hw243

def k0_off503 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2131 : Index := Scalar.indexCast v1954
  let c19_1139 : Index := 19#32
  ![v2131.toNat, 19]
def k0_off504 (v2132 : BitVec 32) : Fin 3 → Nat :=
  let v2133 : Index := Scalar.indexCast v2132
  let c19_1140 : Index := 19#32
  let c0_1141 : Index := 0#32
  ![v2133.toNat, 19, 0]

def k0_chk244 (v2132 : BitVec 32) : Prop :=
  (∀ a, (k0_off504 v2132) a + S1x1x512.size a ≤ S128x32x512.size a)
theorem k0_off504_inb : ∀ (v2132 : BitVec 32) (k0_hw244 : k0_chk244 v2132), ∀ a, (k0_off504 v2132) a + S1x1x512.size a ≤ S128x32x512.size a := fun v2132 k0_hw244 => k0_hw244

def k0_off505 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2136 : Index := Scalar.indexCast v1954
  let c20_1142 : Index := 20#32
  ![v2136.toNat, 20]
def k0_off506 (v2137 : BitVec 32) : Fin 3 → Nat :=
  let v2138 : Index := Scalar.indexCast v2137
  let c20_1143 : Index := 20#32
  let c0_1144 : Index := 0#32
  ![v2138.toNat, 20, 0]

def k0_chk245 (v2137 : BitVec 32) : Prop :=
  (∀ a, (k0_off506 v2137) a + S1x1x512.size a ≤ S128x32x512.size a)
theorem k0_off506_inb : ∀ (v2137 : BitVec 32) (k0_hw245 : k0_chk245 v2137), ∀ a, (k0_off506 v2137) a + S1x1x512.size a ≤ S128x32x512.size a := fun v2137 k0_hw245 => k0_hw245

def k0_off507 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2141 : Index := Scalar.indexCast v1954
  let c21_1145 : Index := 21#32
  ![v2141.toNat, 21]
def k0_off508 (v2142 : BitVec 32) : Fin 3 → Nat :=
  let v2143 : Index := Scalar.indexCast v2142
  let c21_1146 : Index := 21#32
  let c0_1147 : Index := 0#32
  ![v2143.toNat, 21, 0]

def k0_chk246 (v2142 : BitVec 32) : Prop :=
  (∀ a, (k0_off508 v2142) a + S1x1x512.size a ≤ S128x32x512.size a)
theorem k0_off508_inb : ∀ (v2142 : BitVec 32) (k0_hw246 : k0_chk246 v2142), ∀ a, (k0_off508 v2142) a + S1x1x512.size a ≤ S128x32x512.size a := fun v2142 k0_hw246 => k0_hw246

def k0_off509 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2146 : Index := Scalar.indexCast v1954
  let c22_1148 : Index := 22#32
  ![v2146.toNat, 22]
def k0_off510 (v2147 : BitVec 32) : Fin 3 → Nat :=
  let v2148 : Index := Scalar.indexCast v2147
  let c22_1149 : Index := 22#32
  let c0_1150 : Index := 0#32
  ![v2148.toNat, 22, 0]

def k0_chk247 (v2147 : BitVec 32) : Prop :=
  (∀ a, (k0_off510 v2147) a + S1x1x512.size a ≤ S128x32x512.size a)
theorem k0_off510_inb : ∀ (v2147 : BitVec 32) (k0_hw247 : k0_chk247 v2147), ∀ a, (k0_off510 v2147) a + S1x1x512.size a ≤ S128x32x512.size a := fun v2147 k0_hw247 => k0_hw247

def k0_off511 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2151 : Index := Scalar.indexCast v1954
  let c23_1151 : Index := 23#32
  ![v2151.toNat, 23]
def k0_off512 (v2152 : BitVec 32) : Fin 3 → Nat :=
  let v2153 : Index := Scalar.indexCast v2152
  let c23_1152 : Index := 23#32
  let c0_1153 : Index := 0#32
  ![v2153.toNat, 23, 0]

def k0_chk248 (v2152 : BitVec 32) : Prop :=
  (∀ a, (k0_off512 v2152) a + S1x1x512.size a ≤ S128x32x512.size a)
theorem k0_off512_inb : ∀ (v2152 : BitVec 32) (k0_hw248 : k0_chk248 v2152), ∀ a, (k0_off512 v2152) a + S1x1x512.size a ≤ S128x32x512.size a := fun v2152 k0_hw248 => k0_hw248

def k0_off513 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2156 : Index := Scalar.indexCast v1954
  let c24_1154 : Index := 24#32
  ![v2156.toNat, 24]
def k0_off514 (v2157 : BitVec 32) : Fin 3 → Nat :=
  let v2158 : Index := Scalar.indexCast v2157
  let c24_1155 : Index := 24#32
  let c0_1156 : Index := 0#32
  ![v2158.toNat, 24, 0]

def k0_chk249 (v2157 : BitVec 32) : Prop :=
  (∀ a, (k0_off514 v2157) a + S1x1x512.size a ≤ S128x32x512.size a)
theorem k0_off514_inb : ∀ (v2157 : BitVec 32) (k0_hw249 : k0_chk249 v2157), ∀ a, (k0_off514 v2157) a + S1x1x512.size a ≤ S128x32x512.size a := fun v2157 k0_hw249 => k0_hw249

def k0_off515 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2161 : Index := Scalar.indexCast v1954
  let c25_1157 : Index := 25#32
  ![v2161.toNat, 25]
def k0_off516 (v2162 : BitVec 32) : Fin 3 → Nat :=
  let v2163 : Index := Scalar.indexCast v2162
  let c25_1158 : Index := 25#32
  let c0_1159 : Index := 0#32
  ![v2163.toNat, 25, 0]

def k0_chk250 (v2162 : BitVec 32) : Prop :=
  (∀ a, (k0_off516 v2162) a + S1x1x512.size a ≤ S128x32x512.size a)
theorem k0_off516_inb : ∀ (v2162 : BitVec 32) (k0_hw250 : k0_chk250 v2162), ∀ a, (k0_off516 v2162) a + S1x1x512.size a ≤ S128x32x512.size a := fun v2162 k0_hw250 => k0_hw250

def k0_off517 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2166 : Index := Scalar.indexCast v1954
  let c26_1160 : Index := 26#32
  ![v2166.toNat, 26]
def k0_off518 (v2167 : BitVec 32) : Fin 3 → Nat :=
  let v2168 : Index := Scalar.indexCast v2167
  let c26_1161 : Index := 26#32
  let c0_1162 : Index := 0#32
  ![v2168.toNat, 26, 0]

def k0_chk251 (v2167 : BitVec 32) : Prop :=
  (∀ a, (k0_off518 v2167) a + S1x1x512.size a ≤ S128x32x512.size a)
theorem k0_off518_inb : ∀ (v2167 : BitVec 32) (k0_hw251 : k0_chk251 v2167), ∀ a, (k0_off518 v2167) a + S1x1x512.size a ≤ S128x32x512.size a := fun v2167 k0_hw251 => k0_hw251

def k0_off519 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2171 : Index := Scalar.indexCast v1954
  let c27_1163 : Index := 27#32
  ![v2171.toNat, 27]
def k0_off520 (v2172 : BitVec 32) : Fin 3 → Nat :=
  let v2173 : Index := Scalar.indexCast v2172
  let c27_1164 : Index := 27#32
  let c0_1165 : Index := 0#32
  ![v2173.toNat, 27, 0]

def k0_chk252 (v2172 : BitVec 32) : Prop :=
  (∀ a, (k0_off520 v2172) a + S1x1x512.size a ≤ S128x32x512.size a)
theorem k0_off520_inb : ∀ (v2172 : BitVec 32) (k0_hw252 : k0_chk252 v2172), ∀ a, (k0_off520 v2172) a + S1x1x512.size a ≤ S128x32x512.size a := fun v2172 k0_hw252 => k0_hw252

def k0_off521 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2176 : Index := Scalar.indexCast v1954
  let c28_1166 : Index := 28#32
  ![v2176.toNat, 28]
def k0_off522 (v2177 : BitVec 32) : Fin 3 → Nat :=
  let v2178 : Index := Scalar.indexCast v2177
  let c28_1167 : Index := 28#32
  let c0_1168 : Index := 0#32
  ![v2178.toNat, 28, 0]

def k0_chk253 (v2177 : BitVec 32) : Prop :=
  (∀ a, (k0_off522 v2177) a + S1x1x512.size a ≤ S128x32x512.size a)
theorem k0_off522_inb : ∀ (v2177 : BitVec 32) (k0_hw253 : k0_chk253 v2177), ∀ a, (k0_off522 v2177) a + S1x1x512.size a ≤ S128x32x512.size a := fun v2177 k0_hw253 => k0_hw253

def k0_off523 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2181 : Index := Scalar.indexCast v1954
  let c29_1169 : Index := 29#32
  ![v2181.toNat, 29]
def k0_off524 (v2182 : BitVec 32) : Fin 3 → Nat :=
  let v2183 : Index := Scalar.indexCast v2182
  let c29_1170 : Index := 29#32
  let c0_1171 : Index := 0#32
  ![v2183.toNat, 29, 0]

def k0_chk254 (v2182 : BitVec 32) : Prop :=
  (∀ a, (k0_off524 v2182) a + S1x1x512.size a ≤ S128x32x512.size a)
theorem k0_off524_inb : ∀ (v2182 : BitVec 32) (k0_hw254 : k0_chk254 v2182), ∀ a, (k0_off524 v2182) a + S1x1x512.size a ≤ S128x32x512.size a := fun v2182 k0_hw254 => k0_hw254

def k0_off525 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2186 : Index := Scalar.indexCast v1954
  let c30_1172 : Index := 30#32
  ![v2186.toNat, 30]
def k0_off526 (v2187 : BitVec 32) : Fin 3 → Nat :=
  let v2188 : Index := Scalar.indexCast v2187
  let c30_1173 : Index := 30#32
  let c0_1174 : Index := 0#32
  ![v2188.toNat, 30, 0]

def k0_chk255 (v2187 : BitVec 32) : Prop :=
  (∀ a, (k0_off526 v2187) a + S1x1x512.size a ≤ S128x32x512.size a)
theorem k0_off526_inb : ∀ (v2187 : BitVec 32) (k0_hw255 : k0_chk255 v2187), ∀ a, (k0_off526 v2187) a + S1x1x512.size a ≤ S128x32x512.size a := fun v2187 k0_hw255 => k0_hw255

def k0_off527 (i : grid0.Coords) : Fin 2 → Nat :=
  let arg1 : BitVec 32 := BitVec.ofNat 32 (i 1).val
  let c8_i32_1044 : BitVec 32 := 8#32
  let v1953 : BitVec 32 := Scalar.muli arg1 c8_i32_1044
  let c7_i32 : BitVec 32 := 7#32
  let v1954 : BitVec 32 := Scalar.addi v1953 c7_i32
  let v2191 : Index := Scalar.indexCast v1954
  let c31_1175 : Index := 31#32
  ![v2191.toNat, 31]
def k0_off528 (v2192 : BitVec 32) : Fin 3 → Nat :=
  let v2193 : Index := Scalar.indexCast v2192
  let c31_1176 : Index := 31#32
  let c0_1177 : Index := 0#32
  ![v2193.toNat, 31, 0]

def k0_chk256 (v2192 : BitVec 32) : Prop :=
  (∀ a, (k0_off528 v2192) a + S1x1x512.size a ≤ S128x32x512.size a)
theorem k0_off528_inb : ∀ (v2192 : BitVec 32) (k0_hw256 : k0_chk256 v2192), ∀ a, (k0_off528 v2192) a + S1x1x512.size a ≤ S128x32x512.size a := fun v2192 k0_hw256 => k0_hw256

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x64x32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S32x128x512 : Shape := ⟨3, ![32, 128, 512]⟩
abbrev S32x64x512 : Shape := ⟨3, ![32, 64, 512]⟩
abbrev S32x512 : Shape := ⟨2, ![32, 512]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S_ : Shape := ⟨0, ![]⟩
abbrev S32x128 : Shape := ⟨2, ![32, 128]⟩
abbrev S32x128x2048 : Shape := ⟨3, ![32, 128, 2048]⟩
abbrev S1x1x2048 : Shape := ⟨3, ![1, 1, 2048]⟩
abbrev S32x64x128 : Shape := ⟨3, ![32, 64, 128]⟩
abbrev S1x1x128 : Shape := ⟨3, ![1, 1, 128]⟩
abbrev S128x32x2048 : Shape := ⟨3, ![128, 32, 2048]⟩
abbrev S128x32 : Shape := ⟨2, ![128, 32]⟩
abbrev S128x32x512 : Shape := ⟨3, ![128, 32, 512]⟩
abbrev S1x32x2048 : Shape := ⟨3, ![1, 32, 2048]⟩
abbrev S32x2048 : Shape := ⟨2, ![32, 2048]⟩
abbrev S1x32 : Shape := ⟨2, ![1, 32]⟩
abbrev S32 : Shape := ⟨1, ![32]⟩
abbrev S1 : Shape := ⟨1, ![1]⟩
abbrev S512x128 : Shape := ⟨2, ![512, 128]⟩
abbrev S32x1x128 : Shape := ⟨3, ![32, 1, 128]⟩
abbrev S32x64 : Shape := ⟨2, ![32, 64]⟩
abbrev S32x1 : Shape := ⟨2, ![32, 1]⟩
abbrev S32x128x128 : Shape := ⟨3, ![32, 128, 128]⟩
abbrev S32x1x1 : Shape := ⟨3, ![32, 1, 1]⟩
abbrev S1x1x1 : Shape := ⟨3, ![1, 1, 1]⟩
abbrev S32x1x512 : Shape := ⟨3, ![32, 1, 512]⟩
abbrev S512x2048 : Shape := ⟨2, ![512, 2048]⟩
abbrev S1x32x512 : Shape := ⟨3, ![1, 32, 512]⟩

abbrev nBuf : Space → Nat
  | .hbm => 216
  | .vmem => 0
  | .smem => 0
  | _ => 0

abbrev hbmTy0_0 (i : Nat) : BufTy := match i % 128 with
  | 0 => ⟨S32x128x512, .f32⟩
  | 1 => ⟨S32x64x512, .f32⟩
  | 2 => ⟨S32x512, .f32⟩
  | 3 => ⟨S2048x512, .f32⟩
  | 4 => ⟨S2048, .f32⟩
  | 5 => ⟨S2048x512, .f32⟩
  | 6 => ⟨S2048x512, .f32⟩
  | 7 => ⟨S2048x512, .f32⟩
  | 8 => ⟨S2048x512, .f32⟩
  | 9 => ⟨S128x512, .f32⟩
  | 10 => ⟨S128, .f32⟩
  | 11 => ⟨S128x512, .f32⟩
  | 12 => ⟨S128, .f32⟩
  | 13 => ⟨S_, .f32⟩
  | 14 => ⟨S128x512, .f32⟩
  | 15 => ⟨S128, .f32⟩
  | 16 => ⟨S128x512, .f32⟩
  | 17 => ⟨S128, .f32⟩
  | 18 => ⟨S_, .f32⟩
  | 19 => ⟨S32x128, .i32⟩
  | 20 => ⟨S32x128x2048, .f32⟩
  | 21 => ⟨S1x1x2048, .f32⟩
  | 22 => ⟨S32x128x2048, .f32⟩
  | 23 => ⟨S32x128x2048, .f32⟩
  | 24 => ⟨S32x64x128, .f32⟩
  | 25 => ⟨S1x1x128, .f32⟩
  | 26 => ⟨S32x64x128, .f32⟩
  | 27 => ⟨S32x64x128, .f32⟩
  | 28 => ⟨S_, .f32⟩
  | 29 => ⟨S32x128x512, .f32⟩
  | 30 => ⟨S_, .f32⟩
  | 31 => ⟨S32x512, .f32⟩
  | 32 => ⟨S128x32x2048, .f32⟩
  | 33 => ⟨S128x32, .i32⟩
  | 34 => ⟨S128, .i32⟩
  | 35 => ⟨S_, .f32⟩
  | 36 => ⟨S128x32x512, .f32⟩
  | 37 => ⟨S_, .i32⟩
  | 38 => ⟨S128x32x2048, .f32⟩
  | 39 => ⟨S128x32, .i32⟩
  | 40 => ⟨S128, .i32⟩
  | 41 => ⟨S128x512, .f32⟩
  | 42 => ⟨S32x64x128, .f32⟩
  | 43 => ⟨S128, .f32⟩
  | 44 => ⟨S_, .f32⟩
  | 45 => ⟨S32x64x512, .f32⟩
  | 46 => ⟨S128x512, .f32⟩
  | 47 => ⟨S128, .f32⟩
  | 48 => ⟨S128x512, .f32⟩
  | 49 => ⟨S128, .f32⟩
  | 50 => ⟨S_, .f32⟩
  | 51 => ⟨S2048x512, .f32⟩
  | 52 => ⟨S2048x512, .f32⟩
  | 53 => ⟨S2048x512, .f32⟩
  | 54 => ⟨S2048x512, .f32⟩
  | 55 => ⟨S_, .i32⟩
  | 56 => ⟨S32x512, .f32⟩
  | 57 => ⟨S32x512, .f32⟩
  | 58 => ⟨S32x128x512, .f32⟩
  | 59 => ⟨S128x32x512, .f32⟩
  | 60 => ⟨S_, .i32⟩
  | 61 => ⟨S_, .i1⟩
  | 62 => ⟨S_, .i32⟩
  | 63 => ⟨S_, .i32⟩
  | 64 => ⟨S1x32x2048, .f32⟩
  | 65 => ⟨S32x2048, .f32⟩
  | 66 => ⟨S_, .i32⟩
  | 67 => ⟨S1x32, .i32⟩
  | 68 => ⟨S32, .i32⟩
  | 69 => ⟨S1, .i32⟩
  | 70 => ⟨S_, .i32⟩
  | 71 => ⟨S512x128, .f32⟩
  | 72 => ⟨S32x128, .f32⟩
  | 73 => ⟨S32x1x128, .f32⟩
  | 74 => ⟨S32x64x128, .f32⟩
  | 75 => ⟨S32x64x128, .f32⟩
  | 76 => ⟨S32x64x128, .f32⟩
  | 77 => ⟨S32x64, .f32⟩
  | 78 => ⟨S32x64, .f32⟩
  | 79 => ⟨S32x64, .f32⟩
  | 80 => ⟨S_, .f32⟩
  | 81 => ⟨S32, .f32⟩
  | 82 => ⟨S_, .f32⟩
  | 83 => ⟨S32, .f32⟩
  | 84 => ⟨S32, .f32⟩
  | 85 => ⟨S32x1, .f32⟩
  | 86 => ⟨S32x64, .f32⟩
  | 87 => ⟨S32x64, .f32⟩
  | 88 => ⟨S32x64, .f32⟩
  | 89 => ⟨S_, .f32⟩
  | 90 => ⟨S32, .f32⟩
  | 91 => ⟨S32x1, .f32⟩
  | 92 => ⟨S32x64, .f32⟩
  | 93 => ⟨S32x64, .f32⟩
  | 94 => ⟨S32x512, .f32⟩
  | 95 => ⟨S32x128x128, .f32⟩
  | 96 => ⟨S1x1x128, .f32⟩
  | 97 => ⟨S32x128x128, .f32⟩
  | 98 => ⟨S32x128x128, .f32⟩
  | 99 => ⟨S512x128, .f32⟩
  | 100 => ⟨S32x128, .f32⟩
  | 101 => ⟨S32x1x128, .f32⟩
  | 102 => ⟨S32x128x128, .f32⟩
  | 103 => ⟨S32x128x128, .f32⟩
  | 104 => ⟨S32x128x128, .f32⟩
  | 105 => ⟨S32x128, .f32⟩
  | 106 => ⟨S32x128, .f32⟩
  | 107 => ⟨S32x128, .f32⟩
  | 108 => ⟨S_, .f32⟩
  | 109 => ⟨S32, .f32⟩
  | 110 => ⟨S32x1, .f32⟩
  | 111 => ⟨S32x128, .f32⟩
  | 112 => ⟨S32x128, .f32⟩
  | 113 => ⟨S32x128, .f32⟩
  | 114 => ⟨S_, .f32⟩
  | 115 => ⟨S32, .f32⟩
  | 116 => ⟨S32x1, .f32⟩
  | 117 => ⟨S_, .f32⟩
  | 118 => ⟨S32x1, .f32⟩
  | 119 => ⟨S32x1, .f32⟩
  | 120 => ⟨S32x128, .f32⟩
  | 121 => ⟨S32x128, .f32⟩
  | 122 => ⟨S_, .i32⟩
  | 123 => ⟨S_, .i1⟩
  | 124 => ⟨S_, .f32⟩
  | 125 => ⟨S32x512, .f32⟩
  | 126 => ⟨S32x512, .f32⟩
  | 127 => ⟨S32x512, .f32⟩
  | _ => ⟨S32x128x512, .f32⟩

abbrev hbmTy0_1 (i : Nat) : BufTy := match i % 128 with
  | 0 => ⟨S32x1x1, .i32⟩
  | 1 => ⟨S_, .i32⟩
  | 2 => ⟨S32x1x1, .i32⟩
  | 3 => ⟨S32x1x1, .i1⟩
  | 4 => ⟨S_, .i32⟩
  | 5 => ⟨S32x1x1, .i32⟩
  | 6 => ⟨S32x1x1, .i32⟩
  | 7 => ⟨S32x1x1, .i32⟩
  | 8 => ⟨S1, .i32⟩
  | 9 => ⟨S_, .i32⟩
  | 10 => ⟨S32x1x1, .i32⟩
  | 11 => ⟨S32x1x1, .i1⟩
  | 12 => ⟨S1x1x1, .i32⟩
  | 13 => ⟨S32x1x1, .i32⟩
  | 14 => ⟨S32x1x1, .i1⟩
  | 15 => ⟨S32x1x1, .i1⟩
  | 16 => ⟨S_, .i1⟩
  | 17 => ⟨S32x1, .i1⟩
  | 18 => ⟨S32x1x512, .f32⟩
  | 19 => ⟨S32x1x512, .i1⟩
  | 20 => ⟨S_, .f32⟩
  | 21 => ⟨S32x1x512, .f32⟩
  | 22 => ⟨S32x1x512, .f32⟩
  | 23 => ⟨S32x512, .f32⟩
  | 24 => ⟨S32x512, .f32⟩
  | 25 => ⟨S32x512, .f32⟩
  | 26 => ⟨S512x2048, .f32⟩
  | 27 => ⟨S32x2048, .f32⟩
  | 28 => ⟨S32x2048, .f32⟩
  | 29 => ⟨S512x2048, .f32⟩
  | 30 => ⟨S32x2048, .f32⟩
  | 31 => ⟨S32x2048, .f32⟩
  | 32 => ⟨S512x2048, .f32⟩
  | 33 => ⟨S32x2048, .f32⟩
  | 34 => ⟨S32x2048, .f32⟩
  | 35 => ⟨S512x2048, .f32⟩
  | 36 => ⟨S32x2048, .f32⟩
  | 37 => ⟨S32x2048, .f32⟩
  | 38 => ⟨S32x512, .f32⟩
  | 39 => ⟨S32x512, .f32⟩
  | 40 => ⟨S32x512, .f32⟩
  | 41 => ⟨S32x512, .f32⟩
  | 42 => ⟨S32x512, .f32⟩
  | 43 => ⟨S32x512, .f32⟩
  | 44 => ⟨S_, .f32⟩
  | 45 => ⟨S32x512, .f32⟩
  | 46 => ⟨S32x512, .f32⟩
  | 47 => ⟨S_, .f32⟩
  | 48 => ⟨S32x512, .f32⟩
  | 49 => ⟨S32x512, .f32⟩
  | 50 => ⟨S32x512, .f32⟩
  | 51 => ⟨S32x512, .f32⟩
  | 52 => ⟨S32x512, .f32⟩
  | 53 => ⟨S_, .f32⟩
  | 54 => ⟨S32x512, .f32⟩
  | 55 => ⟨S32x512, .f32⟩
  | 56 => ⟨S_, .f32⟩
  | 57 => ⟨S32x512, .f32⟩
  | 58 => ⟨S32x512, .f32⟩
  | 59 => ⟨S32x512, .f32⟩
  | 60 => ⟨S32x512, .f32⟩
  | 61 => ⟨S32x512, .f32⟩
  | 62 => ⟨S32x512, .f32⟩
  | 63 => ⟨S32x512, .f32⟩
  | 64 => ⟨S_, .f32⟩
  | 65 => ⟨S32x512, .f32⟩
  | 66 => ⟨S32x512, .f32⟩
  | 67 => ⟨S_, .f32⟩
  | 68 => ⟨S32x512, .f32⟩
  | 69 => ⟨S32x512, .f32⟩
  | 70 => ⟨S32x512, .f32⟩
  | 71 => ⟨S32x512, .f32⟩
  | 72 => ⟨S32x1x512, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S32x128x512, .f32⟩
  | 81 => ⟨S1x32x512, .f32⟩
  | 82 => ⟨S_, .i32⟩
  | 83 => ⟨S_, .i32⟩
  | 84 => ⟨S128x32x512, .f32⟩
  | 85 => ⟨S_, .i32⟩
  | 86 => ⟨S_, .i32⟩
  | 87 => ⟨S32x128x512, .f32⟩
  | _ => ⟨S32x128x512, .f32⟩

abbrev hbmTy (i : Nat) : BufTy := match i / 128 with
  | 0 => hbmTy0_0 i
  | 1 => hbmTy0_1 i
  | _ => ⟨S32x128x512, .f32⟩

abbrev bufTy : (tb : Table) → Fin (tcTables nBuf tb) → BufTy
  | .hbm, ⟨i, _⟩ => hbmTy i
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_c : Ref sig .tc := ⟨.hbm, 37, rfl⟩
abbrev main_v14_0 : Ref sig .tc := ⟨.hbm, 38, rfl⟩
abbrev main_v14_1 : Ref sig .tc := ⟨.hbm, 39, rfl⟩
abbrev main_v14_2 : Ref sig .tc := ⟨.hbm, 40, rfl⟩
abbrev main_v14_3 : Ref sig .tc := ⟨.hbm, 41, rfl⟩
abbrev main_v14_4 : Ref sig .tc := ⟨.hbm, 42, rfl⟩
abbrev main_v14_5 : Ref sig .tc := ⟨.hbm, 43, rfl⟩
abbrev main_v14_6 : Ref sig .tc := ⟨.hbm, 44, rfl⟩
abbrev main_v14_7 : Ref sig .tc := ⟨.hbm, 45, rfl⟩
abbrev main_v14_8 : Ref sig .tc := ⟨.hbm, 46, rfl⟩
abbrev main_v14_9 : Ref sig .tc := ⟨.hbm, 47, rfl⟩
abbrev main_v14_10 : Ref sig .tc := ⟨.hbm, 48, rfl⟩
abbrev main_v14_11 : Ref sig .tc := ⟨.hbm, 49, rfl⟩
abbrev main_v14_12 : Ref sig .tc := ⟨.hbm, 50, rfl⟩
abbrev main_v14_13 : Ref sig .tc := ⟨.hbm, 51, rfl⟩
abbrev main_v14_14 : Ref sig .tc := ⟨.hbm, 52, rfl⟩
abbrev main_v14_15 : Ref sig .tc := ⟨.hbm, 53, rfl⟩
abbrev main_v14_16 : Ref sig .tc := ⟨.hbm, 54, rfl⟩
abbrev main_v14_17 : Ref sig .tc := ⟨.hbm, 55, rfl⟩
abbrev main_v14_18 : Ref sig .tc := ⟨.hbm, 56, rfl⟩
abbrev main_v14_19 : Ref sig .tc := ⟨.hbm, 57, rfl⟩
abbrev main_v14_20 : Ref sig .tc := ⟨.hbm, 58, rfl⟩
abbrev main_v14_21 : Ref sig .tc := ⟨.hbm, 59, rfl⟩
abbrev main_while0c_c_23 : Ref sig .tc := ⟨.hbm, 60, rfl⟩
abbrev main_while0c_v16 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_v0 : Ref sig .tc := ⟨.hbm, 64, rfl⟩
abbrev main_while0b_v16 : Ref sig .tc := ⟨.hbm, 65, rfl⟩
abbrev main_while0b_call1_c : Ref sig .tc := ⟨.hbm, 66, rfl⟩
abbrev main_while0b_call1_v0 : Ref sig .tc := ⟨.hbm, 67, rfl⟩
abbrev main_while0b_v17 : Ref sig .tc := ⟨.hbm, 68, rfl⟩
abbrev main_while0b_call2_v0 : Ref sig .tc := ⟨.hbm, 69, rfl⟩
abbrev main_while0b_v18 : Ref sig .tc := ⟨.hbm, 70, rfl⟩
abbrev main_while0b_v19 : Ref sig .tc := ⟨.hbm, 71, rfl⟩
abbrev main_while0b_v20 : Ref sig .tc := ⟨.hbm, 72, rfl⟩
abbrev main_while0b_v21 : Ref sig .tc := ⟨.hbm, 73, rfl⟩
abbrev main_while0b_v22 : Ref sig .tc := ⟨.hbm, 74, rfl⟩
abbrev main_while0b_v23 : Ref sig .tc := ⟨.hbm, 75, rfl⟩
abbrev main_while0b_v24 : Ref sig .tc := ⟨.hbm, 76, rfl⟩
abbrev main_while0b_v25 : Ref sig .tc := ⟨.hbm, 77, rfl⟩
abbrev main_while0b_v26 : Ref sig .tc := ⟨.hbm, 78, rfl⟩
abbrev main_while0b_v27 : Ref sig .tc := ⟨.hbm, 79, rfl⟩
abbrev main_while0b_cst_23 : Ref sig .tc := ⟨.hbm, 80, rfl⟩
abbrev main_while0b_v28 : Ref sig .tc := ⟨.hbm, 81, rfl⟩
abbrev main_while0b_cst_24 : Ref sig .tc := ⟨.hbm, 82, rfl⟩
abbrev main_while0b_v29 : Ref sig .tc := ⟨.hbm, 83, rfl⟩
abbrev main_while0b_v30 : Ref sig .tc := ⟨.hbm, 84, rfl⟩
abbrev main_while0b_v31 : Ref sig .tc := ⟨.hbm, 85, rfl⟩
abbrev main_while0b_v32 : Ref sig .tc := ⟨.hbm, 86, rfl⟩
abbrev main_while0b_v33 : Ref sig .tc := ⟨.hbm, 87, rfl⟩
abbrev main_while0b_v34 : Ref sig .tc := ⟨.hbm, 88, rfl⟩
abbrev main_while0b_cst_25 : Ref sig .tc := ⟨.hbm, 89, rfl⟩
abbrev main_while0b_v35 : Ref sig .tc := ⟨.hbm, 90, rfl⟩
abbrev main_while0b_v36 : Ref sig .tc := ⟨.hbm, 91, rfl⟩
abbrev main_while0b_v37 : Ref sig .tc := ⟨.hbm, 92, rfl⟩
abbrev main_while0b_v38 : Ref sig .tc := ⟨.hbm, 93, rfl⟩
abbrev main_while0b_v39 : Ref sig .tc := ⟨.hbm, 94, rfl⟩
abbrev main_while0b_v40 : Ref sig .tc := ⟨.hbm, 95, rfl⟩
abbrev main_while0b_v41 : Ref sig .tc := ⟨.hbm, 96, rfl⟩
abbrev main_while0b_v42 : Ref sig .tc := ⟨.hbm, 97, rfl⟩
abbrev main_while0b_v43 : Ref sig .tc := ⟨.hbm, 98, rfl⟩
abbrev main_while0b_v44 : Ref sig .tc := ⟨.hbm, 99, rfl⟩
abbrev main_while0b_v45 : Ref sig .tc := ⟨.hbm, 100, rfl⟩
abbrev main_while0b_v46 : Ref sig .tc := ⟨.hbm, 101, rfl⟩
abbrev main_while0b_v47 : Ref sig .tc := ⟨.hbm, 102, rfl⟩
abbrev main_while0b_v48 : Ref sig .tc := ⟨.hbm, 103, rfl⟩
abbrev main_while0b_v49 : Ref sig .tc := ⟨.hbm, 104, rfl⟩
abbrev main_while0b_v50 : Ref sig .tc := ⟨.hbm, 105, rfl⟩
abbrev main_while0b_v51 : Ref sig .tc := ⟨.hbm, 106, rfl⟩
abbrev main_while0b_v52 : Ref sig .tc := ⟨.hbm, 107, rfl⟩
abbrev main_while0b_cst_26 : Ref sig .tc := ⟨.hbm, 108, rfl⟩
abbrev main_while0b_v53 : Ref sig .tc := ⟨.hbm, 109, rfl⟩
abbrev main_while0b_v54 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_cst_27 : Ref sig .tc := ⟨.hbm, 114, rfl⟩
abbrev main_while0b_v58 : Ref sig .tc := ⟨.hbm, 115, rfl⟩
abbrev main_while0b_v59 : Ref sig .tc := ⟨.hbm, 116, rfl⟩
abbrev main_while0b_cst_28 : Ref sig .tc := ⟨.hbm, 117, rfl⟩
abbrev main_while0b_v60 : Ref sig .tc := ⟨.hbm, 118, rfl⟩
abbrev main_while0b_v61 : Ref sig .tc := ⟨.hbm, 119, rfl⟩
abbrev main_while0b_v62 : Ref sig .tc := ⟨.hbm, 120, rfl⟩
abbrev main_while0b_v63 : Ref sig .tc := ⟨.hbm, 121, rfl⟩
abbrev main_while0b_c_29 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_v68 : Ref sig .tc := ⟨.hbm, 127, rfl⟩
abbrev main_while0b_v69 : Ref sig .tc := ⟨.hbm, 128, rfl⟩
abbrev main_while0b_call3_c : Ref sig .tc := ⟨.hbm, 129, rfl⟩
abbrev main_while0b_call3_v0 : Ref sig .tc := ⟨.hbm, 130, rfl⟩
abbrev main_while0b_call3_v1 : Ref sig .tc := ⟨.hbm, 131, rfl⟩
abbrev main_while0b_call3_c_0 : Ref sig .tc := ⟨.hbm, 132, rfl⟩
abbrev main_while0b_call3_v2 : Ref sig .tc := ⟨.hbm, 133, rfl⟩
abbrev main_while0b_call3_v3 : Ref sig .tc := ⟨.hbm, 134, rfl⟩
abbrev main_while0b_call3_v4 : Ref sig .tc := ⟨.hbm, 135, rfl⟩
abbrev main_while0b_call3_c_1 : Ref sig .tc := ⟨.hbm, 136, rfl⟩
abbrev main_while0b_call3_c_2 : Ref sig .tc := ⟨.hbm, 137, rfl⟩
abbrev main_while0b_call3_v5 : Ref sig .tc := ⟨.hbm, 138, rfl⟩
abbrev main_while0b_call3_v6 : Ref sig .tc := ⟨.hbm, 139, rfl⟩
abbrev main_while0b_call3_v7 : Ref sig .tc := ⟨.hbm, 140, rfl⟩
abbrev main_while0b_call3_v8 : Ref sig .tc := ⟨.hbm, 141, rfl⟩
abbrev main_while0b_call3_v9 : Ref sig .tc := ⟨.hbm, 142, rfl⟩
abbrev main_while0b_call3_v10 : Ref sig .tc := ⟨.hbm, 143, rfl⟩
abbrev main_while0b_call3_c_3 : Ref sig .tc := ⟨.hbm, 144, rfl⟩
abbrev main_while0b_call3_v11 : Ref sig .tc := ⟨.hbm, 145, rfl⟩
abbrev main_while0b_call3_v12 : Ref sig .tc := ⟨.hbm, 146, rfl⟩
abbrev main_while0b_call3_v13 : Ref sig .tc := ⟨.hbm, 147, rfl⟩
abbrev main_while0b_call3_cst : Ref sig .tc := ⟨.hbm, 148, rfl⟩
abbrev main_while0b_call3_v14 : Ref sig .tc := ⟨.hbm, 149, rfl⟩
abbrev main_while0b_v70 : Ref sig .tc := ⟨.hbm, 150, rfl⟩
abbrev main_while0b_v71 : Ref sig .tc := ⟨.hbm, 151, rfl⟩
abbrev main_while0b_v72 : Ref sig .tc := ⟨.hbm, 152, rfl⟩
abbrev main_while0b_v73 : Ref sig .tc := ⟨.hbm, 153, rfl⟩
abbrev main_while0b_v74 : Ref sig .tc := ⟨.hbm, 154, rfl⟩
abbrev main_while0b_v75 : Ref sig .tc := ⟨.hbm, 155, rfl⟩
abbrev main_while0b_v76 : Ref sig .tc := ⟨.hbm, 156, rfl⟩
abbrev main_while0b_v77 : Ref sig .tc := ⟨.hbm, 157, rfl⟩
abbrev main_while0b_v78 : Ref sig .tc := ⟨.hbm, 158, rfl⟩
abbrev main_while0b_v79 : Ref sig .tc := ⟨.hbm, 159, rfl⟩
abbrev main_while0b_v80 : Ref sig .tc := ⟨.hbm, 160, rfl⟩
abbrev main_while0b_v81 : Ref sig .tc := ⟨.hbm, 161, rfl⟩
abbrev main_while0b_v82 : Ref sig .tc := ⟨.hbm, 162, rfl⟩
abbrev main_while0b_v83 : Ref sig .tc := ⟨.hbm, 163, rfl⟩
abbrev main_while0b_v84 : Ref sig .tc := ⟨.hbm, 164, rfl⟩
abbrev main_while0b_v85 : Ref sig .tc := ⟨.hbm, 165, rfl⟩
abbrev main_while0b_v86 : Ref sig .tc := ⟨.hbm, 166, rfl⟩
abbrev main_while0b_v87 : Ref sig .tc := ⟨.hbm, 167, rfl⟩
abbrev main_while0b_v88 : Ref sig .tc := ⟨.hbm, 168, rfl⟩
abbrev main_while0b_v89 : Ref sig .tc := ⟨.hbm, 169, rfl⟩
abbrev main_while0b_v90 : Ref sig .tc := ⟨.hbm, 170, rfl⟩
abbrev main_while0b_v91 : Ref sig .tc := ⟨.hbm, 171, rfl⟩
abbrev main_while0b_cst_30 : Ref sig .tc := ⟨.hbm, 172, rfl⟩
abbrev main_while0b_v92 : Ref sig .tc := ⟨.hbm, 173, rfl⟩
abbrev main_while0b_v93 : Ref sig .tc := ⟨.hbm, 174, rfl⟩
abbrev main_while0b_cst_31 : Ref sig .tc := ⟨.hbm, 175, rfl⟩
abbrev main_while0b_v94 : Ref sig .tc := ⟨.hbm, 176, rfl⟩
abbrev main_while0b_v95 : Ref sig .tc := ⟨.hbm, 177, rfl⟩
abbrev main_while0b_v96 : Ref sig .tc := ⟨.hbm, 178, rfl⟩
abbrev main_while0b_v97 : Ref sig .tc := ⟨.hbm, 179, rfl⟩
abbrev main_while0b_v98 : Ref sig .tc := ⟨.hbm, 180, rfl⟩
abbrev main_while0b_cst_32 : Ref sig .tc := ⟨.hbm, 181, rfl⟩
abbrev main_while0b_v99 : Ref sig .tc := ⟨.hbm, 182, rfl⟩
abbrev main_while0b_v100 : Ref sig .tc := ⟨.hbm, 183, rfl⟩
abbrev main_while0b_cst_33 : Ref sig .tc := ⟨.hbm, 184, rfl⟩
abbrev main_while0b_v101 : Ref sig .tc := ⟨.hbm, 185, rfl⟩
abbrev main_while0b_v102 : Ref sig .tc := ⟨.hbm, 186, rfl⟩
abbrev main_while0b_v103 : Ref sig .tc := ⟨.hbm, 187, rfl⟩
abbrev main_while0b_v104 : Ref sig .tc := ⟨.hbm, 188, rfl⟩
abbrev main_while0b_v105 : Ref sig .tc := ⟨.hbm, 189, rfl⟩
abbrev main_while0b_v106 : Ref sig .tc := ⟨.hbm, 190, rfl⟩
abbrev main_while0b_v107 : Ref sig .tc := ⟨.hbm, 191, rfl⟩
abbrev main_while0b_cst_34 : Ref sig .tc := ⟨.hbm, 192, rfl⟩
abbrev main_while0b_v108 : Ref sig .tc := ⟨.hbm, 193, rfl⟩
abbrev main_while0b_v109 : Ref sig .tc := ⟨.hbm, 194, rfl⟩
abbrev main_while0b_cst_35 : Ref sig .tc := ⟨.hbm, 195, rfl⟩
abbrev main_while0b_v110 : Ref sig .tc := ⟨.hbm, 196, rfl⟩
abbrev main_while0b_v111 : Ref sig .tc := ⟨.hbm, 197, rfl⟩
abbrev main_while0b_v112 : Ref sig .tc := ⟨.hbm, 198, rfl⟩
abbrev main_while0b_v113 : Ref sig .tc := ⟨.hbm, 199, rfl⟩
abbrev main_while0b_v114 : Ref sig .tc := ⟨.hbm, 200, rfl⟩
abbrev main_while0b_c_36 : Ref sig .tc := ⟨.hbm, 201, rfl⟩
abbrev main_while0b_v115 : Ref sig .tc := ⟨.hbm, 202, rfl⟩
abbrev main_while0b_c_37 : Ref sig .tc := ⟨.hbm, 203, rfl⟩
abbrev main_while0b_v116 : Ref sig .tc := ⟨.hbm, 204, rfl⟩
abbrev main_while0b_v117 : Ref sig .tc := ⟨.hbm, 205, rfl⟩
abbrev main_while0b_c_38 : Ref sig .tc := ⟨.hbm, 206, rfl⟩
abbrev main_while0b_c_39 : Ref sig .tc := ⟨.hbm, 207, rfl⟩
abbrev main_while0b_v118 : Ref sig .tc := ⟨.hbm, 208, rfl⟩
abbrev main_while0b_call4_v0 : Ref sig .tc := ⟨.hbm, 209, rfl⟩
abbrev main_while0b_call4_c : Ref sig .tc := ⟨.hbm, 210, rfl⟩
abbrev main_while0b_call4_c_0 : Ref sig .tc := ⟨.hbm, 211, rfl⟩
abbrev main_while0b_v119 : Ref sig .tc := ⟨.hbm, 212, rfl⟩
abbrev main_while0b_c_40 : Ref sig .tc := ⟨.hbm, 213, rfl⟩
abbrev main_while0b_v120 : Ref sig .tc := ⟨.hbm, 214, rfl⟩
abbrev main_v15 : Ref sig .tc := ⟨.hbm, 215, rfl⟩

abbrev nD : Nat := 1
abbrev τ : Topo := Topo.v7x

variable {F : FTy → Type} [FloatOps F]

abbrev main_while0_count : Scf.Loop 32 := ⟨0#32, 128#32, 1#32⟩
-- ==== Proof.Step.lean ====
/-
  The kernel's body written once more as a chain of short programs: what the first grid point prepares, one time step with the
  step's number as a parameter, and what a grid point leaves for the next. Each is in continuation form, so that the printed body is one
  of these chains by unfolding alone.
-/
module

public import proofs.«01_k».proof.KernelIdeal
public import proofs.«01_k».proof.Proof.Gen.KernelIdeal

@[expose] public section

noncomputable section

namespace Cert.Proof.Lstm

open Idealize.ShloMosaic Idealize.ShloMosaic.TcCoe Idealize.SL.Sem
open Cert.KernelIdeal Cert.KernelIdeal.Facts₀ Cert.KernelIdeal.Facts

variable {F : FTy → Type} [FloatOps F]

/-- A program of the kernel's core. -/
abbrev Body (F : FTy → Type) (α : Type) := Prog (TpuEff nD τ sig (Elt F) Λ₀ .tc) α

/-! ## Where a step's accesses lie -/

/-- The number of the time step, as the word the kernel computes. -/
def tw (i : grid0.Coords) (k : Nat) : BitVec 32 := Scalar.addi (Scalar.muli (BitVec.ofNat 32 (i 1).val) 8#32) (BitVec.ofNat 32 k)

/-- The history row that step `k` writes: that of the step before. -/
def scOff (i : grid0.Coords) (k : Nat) : Fin 3 → Nat := ![(Scalar.indexCast (Scalar.subi (tw i k) 1#32)).toNat, 0, 0]

/-- The word of the parent table that step `k` reads for batch row `b`. -/
def wOff (i : grid0.Coords) (k b : Nat) : Fin 2 → Nat := ![(Scalar.indexCast (tw i k)).toNat, b]

/-- The history row a table word names, at batch row `b`. -/
def gOff (b : Nat) (w : BitVec 32) : Fin 3 → Nat := ![(Scalar.indexCast w).toNat, b, 0]

/-- That row lies inside the history. -/
def RowIn (b : Nat) (w : BitVec 32) : Prop := (∀ a, (gOff b w) a + S1x1x512.size a ≤ S128x32x512.size a)

instance RowIn.dec (b : Nat) (w : BitVec 32) : Decidable (RowIn b w) := decidable_of_iff' _ (Iff.of_eq (RowIn.eq_1 b w))

/-- There is a step before step `k` of grid point `i`. -/
abbrev HasPrev (i : grid0.Coords) (k : Nat) : Prop := 1 ≤ 8 * (i 1).val + k

theorem scOff_eq : ∀ (i : grid0.Coords) (k : Fin 8), HasPrev i k → scOff i k = ![8 * (i 1).val + k - 1, 0, 0] := by decide +kernel

theorem scOff_inb3 (i : grid0.Coords) (k : Nat) (hk : k < 8) (hp : HasPrev i k) (n : Nat) :
    ∀ a, (scOff i k) a + (![1, 32, n] : Fin 3 → Nat) a ≤ (![128, 32, n] : Fin 3 → Nat) a := by
  rw [scOff_eq i ⟨k, hk⟩ hp]
  have h1 : (i 1).val < 16 := (i 1).isLt
  intro a
  fin_cases a <;> simp <;> omega

theorem scOff_inb (i : grid0.Coords) (k : Nat) (hk : k < 8) (hp : HasPrev i k) :
    ∀ a, (scOff i k) a + S1x32x512.size a ≤ S128x32x512.size a := scOff_inb3 i k hk hp 512

theorem scOff_inb' (i : grid0.Coords) (k : Nat) (hk : k < 8) (hp : HasPrev i k) :
    ∀ a, (scOff i k) a + S1x32x128.size a ≤ S128x32x128.size a := scOff_inb3 i k hk hp 128

theorem packedAt : ∀ (i : grid0.Coords) (k : Fin 8) (hp : HasPrev i k),
    (Rect.unit (s := S128x32x512) (scOff i k) S1x32x512.size (scOff_inb i k k.isLt hp)).PackedRows (EltTy.packing .bf16) := by decide +kernel

theorem wOff_eq : ∀ (i : grid0.Coords) (k : Fin 8), (Scalar.indexCast (tw i k)).toNat = 8 * (i 1).val + k := by decide +kernel

theorem wOff_inb (i : grid0.Coords) (k b : Nat) (hb : b < 32) (hk : k < 8) : ∀ a, (wOff i k b) a + S1x1.size a ≤ S128x32.size a := by
  have h1 : (i 1).val < 16 := (i 1).isLt
  have h2 := wOff_eq i ⟨k, hk⟩
  intro a
  unfold wOff
  fin_cases a <;> simp at h2 ⊢ <;> omega

theorem outOff_inb (k : Nat) (hk : k < 8) : ∀ a, (![0, k, 0, 0] : Fin 4 → Nat) a + S1x1x32x512.size a ≤ S1x8x32x512.size a := by
  intro a
  fin_cases a <;> simp <;> omega

/-! ## The chains -/

variable [Facts] {α : Type}

/-- Batch row `b` of the parent states: the table word read, known to name a history row, and that row. -/
def row (i : grid0.Coords) (arg2 : Memref sig .tc .smem S128x32 .i32) (arg19 : Memref sig .tc .vmem S128x32x512 .bf16)
    (k b : Nat) (hb : b < 32) (hk : k < 8) (K : FVec F S1x512 .bf16 → Body F α) : Body F α :=
  Prog.bind (smemLoad arg2 (Rect.unit (s := S128x32) (wOff i k b) S1x1.size (wOff_inb i k b hb hk)) numel1_S1x1 rfl) fun w =>
  .op (TpuEff.assume (RowIn b w) (RowIn.dec b w)) fun hw =>
  .op (.load arg19 (Rect.unit (s := S128x32x512) (gOff b w) S1x1x512.size hw.down).toLoadRect (View.loadsAt_vmem h_S1x1x512)) fun v =>
  K (shapeCast S1x512 v shapeCasts_S1x1x512_S1x512)

/-- The 32 rows of the parent states, one under the other. -/
def gather (i : grid0.Coords) (arg2 : Memref sig .tc .smem S128x32 .i32) (arg19 : Memref sig .tc .vmem S128x32x512 .bf16)
    (k : Nat) (hk : k < 8) (K : FVec F S32x512 .bf16 → Body F α) : Body F α :=
  row i arg2 arg19 k 0 (by decide) hk fun r0 =>
  row i arg2 arg19 k 1 (by decide) hk fun r1 =>
  row i arg2 arg19 k 2 (by decide) hk fun r2 =>
  row i arg2 arg19 k 3 (by decide) hk fun r3 =>
  row i arg2 arg19 k 4 (by decide) hk fun r4 =>
  row i arg2 arg19 k 5 (by decide) hk fun r5 =>
  row i arg2 arg19 k 6 (by decide) hk fun r6 =>
  row i arg2 arg19 k 7 (by decide) hk fun r7 =>
  row i arg2 arg19 k 8 (by decide) hk fun r8 =>
  row i arg2 arg19 k 9 (by decide) hk fun r9 =>
  row i arg2 arg19 k 10 (by decide) hk fun r10 =>
  row i arg2 arg19 k 11 (by decide) hk fun r11 =>
  row i arg2 arg19 k 12 (by decide) hk fun r12 =>
  row i arg2 arg19 k 13 (by decide) hk fun r13 =>
  row i arg2 arg19 k 14 (by decide) hk fun r14 =>
  row i arg2 arg19 k 15 (by decide) hk fun r15 =>
  row i arg2 arg19 k 16 (by decide) hk fun r16 =>
  row i arg2 arg19 k 17 (by decide) hk fun r17 =>
  row i arg2 arg19 k 18 (by decide) hk fun r18 =>
  row i arg2 arg19 k 19 (by decide) hk fun r19 =>
  row i arg2 arg19 k 20 (by decide) hk fun r20 =>
  row i arg2 arg19 k 21 (by decide) hk fun r21 =>
  row i arg2 arg19 k 22 (by decide) hk fun r22 =>
  row i arg2 arg19 k 23 (by decide) hk fun r23 =>
  row i arg2 arg19 k 24 (by decide) hk fun r24 =>
  row i arg2 arg19 k 25 (by decide) hk fun r25 =>
  row i arg2 arg19 k 26 (by decide) hk fun r26 =>
  row i arg2 arg19 k 27 (by decide) hk fun r27 =>
  row i arg2 arg19 k 28 (by decide) hk fun r28 =>
  row i arg2 arg19 k 29 (by decide) hk fun r29 =>
  row i arg2 arg19 k 30 (by decide) hk fun r30 =>
  row i arg2 arg19 k 31 (by decide) hk fun r31 =>
  K (concatenate S32x512 0 [⟨S1x512, r0⟩, ⟨S1x512, r1⟩, ⟨S1x512, r2⟩, ⟨S1x512, r3⟩, ⟨S1x512, r4⟩, ⟨S1x512, r5⟩, ⟨S1x512, r6⟩, ⟨S1x512, r7⟩, ⟨S1x512, r8⟩, ⟨S1x512, r9⟩, ⟨S1x512, r10⟩, ⟨S1x512, r11⟩, ⟨S1x512, r12⟩, ⟨S1x512, r13⟩, ⟨S1x512, r14⟩, ⟨S1x512, r15⟩, ⟨S1x512, r16⟩, ⟨S1x512, r17⟩, ⟨S1x512, r18⟩, ⟨S1x512, r19⟩, ⟨S1x512, r20⟩, ⟨S1x512, r21⟩, ⟨S1x512, r22⟩, ⟨S1x512, r23⟩, ⟨S1x512, r24⟩, ⟨S1x512, r25⟩, ⟨S1x512, r26⟩, ⟨S1x512, r27⟩, ⟨S1x512, r28⟩, ⟨S1x512, r29⟩, ⟨S1x512, r30⟩, ⟨S1x512, r31⟩] concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S32x512_d0)

/-- The three products of the hidden state with the attention and history weights. -/
def q3 (h : FVec F S32x512 .f32) (w : Vec F S512x384 .bf16) : FVec F S32x384 .f32 :=
  matmul dot_S32x512_S512x384_S32x384_1_0_0_1_n_n none (truncf .bf16 h bitsLt_bf16_f32) (shapeCast S512x384 w shapeCasts_S512x384_S512x384)
    (constant S32x384 .f32 0x00000000#32)
def qA (v : FVec F S32x384 .f32) : FVec F S32x128 .f32 := extractStridedSlice S32x128 ![0, 0] v slices_S32x384_o0_0_S32x128
def qB (v : FVec F S32x384 .f32) : FVec F S32x128 .f32 := extractStridedSlice S32x128 ![0, 128] v slices_S32x384_o0_128_S32x128
def qC (v : FVec F S32x384 .f32) : FVec F S32x128 .f32 := extractStridedSlice S32x128 ![0, 256] v slices_S32x384_o0_256_S32x128

/-- The hyperbolic tangents the context scores are made of. -/
def tanhA (ca : Vec F S64x32x128 .f32) (q : FVec F S32x128 .f32) : FVec F S64x32x128 .f32 :=
  tanh (addf ca (broadcastTo S64x32x128 (shapeCast S1x32x128 q shapeCasts_S32x128_S1x32x128) broadcasts_S1x32x128_S64x32x128))

/-- The context scores. -/
def scoreA (th : FVec F S64x32x128 .f32) (wv : Vec F S1x128 .f32) : FVec F S64x32 .f32 :=
  multiReduction .add [2] S64x32 (mulf th
    (broadcastTo S64x32x128 (shapeCast S1x1x128 (shapeCast S1x128 wv shapeCasts_S1x128_S1x128) shapeCasts_S1x128_S1x1x128) broadcasts_S1x1x128_S64x32x128))
    0x00000000#32 reduces_S64x32x128_S64x32 (.inl rfl) rfl

/-- Their maximum over the context. -/
def maxA (s : FVec F S64x32 .f32) : FVec F S1x32 .f32 :=
  shapeCast S1x32 (multiReduction .maximumf [0] S32 s 0xFF800000#32 reduces_S64x32_S32 (.inl rfl) rfl) shapeCasts_S32_S1x32

/-- The exponentials of the context scores less their maximum. -/
def expA (ca : Vec F S64x32x128 .f32) (q : FVec F S32x128 .f32) (wv : Vec F S1x128 .f32) : FVec F S64x32 .f32 :=
  exp (subf (scoreA (tanhA ca q) wv) (broadcastTo S64x32 (maxA (scoreA (tanhA ca q) wv)) broadcasts_S1x32_S64x32))

/-- The sum of the exponentials. -/
def sumA (e : FVec F S64x32 .f32) : FVec F S1x32 .f32 :=
  shapeCast S1x32 (multiReduction .add [0] S32 e 0x00000000#32 reduces_S64x32_S32 (.inl rfl) rfl) shapeCasts_S32_S1x32

/-- The context vector: the context rows weighted by the exponentials over their sum. -/
def ctxV (e : FVec F S64x32 .f32) (cx : Vec F S1x64x32x512 .bf16) : FVec F S32x512 .bf16 :=
  have v38 : FVec F S64x32x1 .bf16 := shapeCast S64x32x1 (truncf .bf16 (divf e (broadcastTo S64x32 (sumA e) broadcasts_S1x32_S64x32)) bitsLt_bf16_f32) shapeCasts_S64x32_S64x32x1
  truncf .bf16 (multiReduction .add [0] S32x512 (extf .f32 (mulf (broadcastTo S64x32x512 v38 broadcasts_S64x32x1_S64x32x512) (shapeCast S64x32x512 cx shapeCasts_S1x64x32x512_S64x32x512)) bitsLt_bf16_f32)
    0x00000000#32 reduces_S64x32x512_S32x512 (.inl rfl) rfl) bitsLt_bf16_f32

/-- The exponentials of the history scores less their maximum. -/
def expB (hs : Vec F S128x32x128 .f32) (q : FVec F S32x128 .f32) (wv : Vec F S1x128 .f32) : FVec F S128x32 .f32 :=
  have v56 : FVec F S128x32 .f32 := multiReduction .add [2] S128x32 (mulf (tanh (addf hs (broadcastTo S128x32x128 (shapeCast S1x32x128 q shapeCasts_S32x128_S1x32x128) broadcasts_S1x32x128_S128x32x128)))
    (broadcastTo S128x32x128 (shapeCast S1x1x128 (shapeCast S1x128 wv shapeCasts_S1x128_S1x128) shapeCasts_S1x128_S1x1x128) broadcasts_S1x1x128_S128x32x128))
    0x00000000#32 reduces_S128x32x128_S128x32 (.inl rfl) rfl
  exp (subf v56 (broadcastTo S128x32 (shapeCast S1x32 (multiReduction .maximumf [0] S32 v56 0xFF800000#32 reduces_S128x32_S32 (.inl rfl) rfl) shapeCasts_S32_S1x32) broadcasts_S1x32_S128x32))

/-- The history vector: the history rows weighted by the exponentials over their guarded sum. -/
def hctxV (e : FVec F S128x32 .f32) (hist : Vec F S128x32x512 .bf16) : FVec F S32x512 .bf16 :=
  have v69 : FVec F S128x32x1 .bf16 := shapeCast S128x32x1 (truncf .bf16 (divf e (broadcastTo S128x32 (addf (shapeCast S1x32 (multiReduction .add [0] S32 e 0x00000000#32 reduces_S128x32_S32 (.inl rfl) rfl) shapeCasts_S32_S1x32)
    (broadcast S1x32 (Scalar.ofBits .f32 0x33D6BF95#32))) broadcasts_S1x32_S128x32)) bitsLt_bf16_f32) shapeCasts_S128x32_S128x32x1
  truncf .bf16 (multiReduction .add [0] S32x512 (extf .f32 (mulf (broadcastTo S128x32x512 v69 broadcasts_S128x32x1_S128x32x512) hist) bitsLt_bf16_f32)
    0x00000000#32 reduces_S128x32x512_S32x512 (.inl rfl) rfl) bitsLt_bf16_f32

/-- The four gates' arguments side by side. -/
def gates (h : FVec F S32x512 .f32) (cv par hc : FVec F S32x512 .bf16) (x : Vec F S1x1x32x512 .bf16) (w1 : Vec F S1024x2048 .bf16)
    (w2 : Vec F S1536x2048 .bf16) (b : Vec F S1x2048 .f32) : FVec F S32x2048 .f32 :=
  addf (addf
    (matmul dot_S32x1024_S1024x2048_S32x2048_1_0_0_1_n_n none
      (concatenate S32x1024 1 [⟨S32x512, shapeCast S32x512 x shapeCasts_S1x1x32x512_S32x512⟩, ⟨S32x512, truncf .bf16 h bitsLt_bf16_f32⟩] concatenates_S32x512_S32x512_S32x1024_d1)
      (shapeCast S1024x2048 w1 shapeCasts_S1024x2048_S1024x2048) (constant S32x2048 .f32 0x00000000#32))
    (matmul dot_S32x1536_S1536x2048_S32x2048_1_0_0_1_n_n none
      (concatenate S32x1536 1 [⟨S32x512, cv⟩, ⟨S32x512, par⟩, ⟨S32x512, hc⟩] concatenates_S32x512_S32x512_S32x512_S32x1536_d1)
      (shapeCast S1536x2048 w2 shapeCasts_S1536x2048_S1536x2048) (constant S32x2048 .f32 0x00000000#32)))
    (broadcastTo S32x2048 (shapeCast S1x2048 b shapeCasts_S1x2048_S1x2048) broadcasts_S1x2048_S32x2048)

/-- The new cell state. -/
def newC (g : FVec F S32x2048 .f32) (c : FVec F S32x512 .f32) : FVec F S32x512 .f32 :=
  addf (mulf (logistic (extractStridedSlice S32x512 ![0, 512] g slices_S32x2048_o0_512_S32x512)) c)
    (mulf (logistic (extractStridedSlice S32x512 ![0, 0] g slices_S32x2048_o0_0_S32x512)) (tanh (extractStridedSlice S32x512 ![0, 1024] g slices_S32x2048_o0_1024_S32x512)))

/-- The new hidden state, from the new cell state. -/
def newH (g : FVec F S32x2048 .f32) (c' : FVec F S32x512 .f32) : FVec F S32x512 .f32 :=
  mulf (logistic (extractStridedSlice S32x512 ![0, 1536] g slices_S32x2048_o0_1536_S32x512)) (tanh c')

section
variable (i : grid0.Coords) (arg2 : Memref sig .tc .smem S128x32 .i32) (arg3 : Memref sig .tc .vmem S1x8x32x512 .bf16)
  (arg4 : Memref sig .tc .vmem S1x32x512 .f32) (arg5 : Memref sig .tc .vmem S1x64x32x512 .bf16) (arg6 : Memref sig .tc .vmem S512x384 .bf16)
  (arg7 : Memref sig .tc .vmem S512x128 .bf16) (arg8 : Memref sig .tc .vmem S1024x2048 .bf16) (arg9 : Memref sig .tc .vmem S1536x2048 .bf16)
  (arg10 : Memref sig .tc .vmem S1x2048 .f32) (arg11 arg12 arg13 arg14 : Memref sig .tc .vmem S1x128 .f32)
  (arg15 arg16 : Memref sig .tc .vmem S1x8x32x512 .f32) (arg17 arg18 : Memref sig .tc .vmem S32x512 .f32)
  (arg19 : Memref sig .tc .vmem S128x32x512 .bf16) (harg19 : arg19.IsWhole) (arg20 : Memref sig .tc .vmem S128x32x128 .f32)
  (arg21 : Memref sig .tc .vmem S64x32x128 .f32)

/-- The hidden state of the step before, rounded, as a row of the history. -/
def histRow (h : FVec F S32x512 .f32) : FVec F S1x32x512 .bf16 := shapeCast S1x32x512 (truncf .bf16 h bitsLt_bf16_f32) shapeCasts_S32x512_S1x32x512

/-- Its product with the history weights, and the bias. -/
def hsSum (q : FVec F S32x128 .f32) (b : Vec F S1x128 .f32) : FVec F S32x128 .f32 :=
  addf q (broadcastTo S32x128 (shapeCast S1x128 b shapeCasts_S1x128_S1x128) broadcasts_S1x128_S32x128)

def scatA (k : Nat) (hk : k < 8) (hp : HasPrev i k) (K : Body F α) : Body F α :=
  .op (.load arg19 (Rect.unit (s := S128x32x512) (scOff i k) S1x32x512.size (scOff_inb i k hk hp)).toLoadRect (View.loadsAt_vmem h_S1x32x512)) fun _ => K

def scatB (k : Nat) (hk : k < 8) (hp : HasPrev i k) (r : FVec F S1x32x512 .bf16) (K : Vec F S1x128 .f32 → Body F α) : Body F α :=
  .op (.store arg19 (Rect.unit (s := S128x32x512) (scOff i k) S1x32x512.size (scOff_inb i k hk hp)) r Finset.univ
    (View.stores_vmem h_S1x32x512 (harg19.storeExact_slice rfl _ (packedAt i ⟨k, hk⟩ hp)) (fun _ => rfl)) (.inl rfl)) fun _ =>
  .op (.load arg12 (Rect.unit (s := S1x128) ![0, 0] S1x128.size inb_S1x128_S1x128_0_0).toLoadRect (View.loadsAt_vmem h_S1x128)) K

def scatC (k : Nat) (hk : k < 8) (hp : HasPrev i k) (r : FVec F S32x128 .f32) (K : Body F α) : Body F α :=
  .op (.load arg20 (Rect.unit (s := S128x32x128) (scOff i k) S1x32x128.size (scOff_inb' i k hk hp)).toLoadRect (View.loadsAt_vmem h_S1x32x128)) fun _ =>
  .op (.store arg20 (Rect.unit (s := S128x32x128) (scOff i k) S1x32x128.size (scOff_inb' i k hk hp))
    (shapeCast S1x32x128 r shapeCasts_S32x128_S1x32x128) Finset.univ
    (View.stores_vmem_bits_univ h_S1x32x128 rfl) (.inl rfl)) fun _ =>
  K

/-- Entering the hidden state of the step before into the history and its product into the history scores. -/
def scatter (k : Nat) (hk : k < 8) (hp : HasPrev i k) (h : FVec F S32x512 .f32) (q : FVec F S32x384 .f32) (K : Body F α) : Body F α :=
  scatA i arg19 k hk hp <| scatB i arg12 arg19 harg19 k hk hp (histRow h) fun b => scatC i arg20 k hk hp (hsSum (qC q) b) K

/-- The weights the step multiplies the hidden state with. -/
def stepHead (K : Vec F S512x384 .bf16 → Body F α) : Body F α :=
  .op (.load arg6 (Rect.unit (s := S512x384) ![0, 0] S512x384.size inb_S512x384_S512x384_0_0).toLoadRect (View.loadsAt_vmem h_S512x384)) K

/-- What the context scores are made of. -/
def attA (K : Vec F S64x32x128 .f32 → Vec F S1x128 .f32 → Body F α) : Body F α :=
  .op (.load arg21 (Rect.unit (s := S64x32x128) ![0, 0, 0] S64x32x128.size inb_S64x32x128_S64x32x128_0_0_0).toLoadRect (View.loadsAt_vmem h_S64x32x128)) fun (ca : Vec F S64x32x128 .f32) =>
  .op (.load arg13 (Rect.unit (s := S1x128) ![0, 0] S1x128.size inb_S1x128_S1x128_0_0).toLoadRect (View.loadsAt_vmem h_S1x128)) fun (wa : Vec F S1x128 .f32) =>
  K ca wa

/-- The context vector, and the attention over the history. -/
def attB (e : FVec F S64x32 .f32) (qb : FVec F S32x128 .f32) (K : FVec F S32x512 .bf16 → FVec F S32x512 .bf16 → Body F α) : Body F α :=
  .op (.load arg5 (Rect.unit (s := S1x64x32x512) ![0, 0, 0, 0] S1x64x32x512.size inb_S1x64x32x512_S1x64x32x512_0_0_0_0).toLoadRect (View.loadsAt_vmem h_S1x64x32x512)) fun cx =>
  .op (.load arg20 (Rect.unit (s := S128x32x128) ![0, 0, 0] S128x32x128.size inb_S128x32x128_S128x32x128_0_0_0).toLoadRect (View.loadsAt_vmem h_S128x32x128)) fun hs =>
  .op (.load arg14 (Rect.unit (s := S1x128) ![0, 0] S1x128.size inb_S1x128_S1x128_0_0).toLoadRect (View.loadsAt_vmem h_S1x128)) fun wh =>
  .op (.load arg19 (Rect.unit (s := S128x32x512) ![0, 0, 0] S128x32x512.size inb_S128x32x512_S128x32x512_0_0_0).toLoadRect (View.loadsAt_vmem h_S128x32x512)) fun hist =>
  K (ctxV e cx) (hctxV (expB hs qb wh) hist)

/-- The cell: the gates, the new states, and the two results' rows of this step. -/
def stepCell (k : Nat) (hk : k < 8) (h c : FVec F S32x512 .f32) (cv par hc : FVec F S32x512 .bf16)
    (K : FVec F S32x512 .f32 → FVec F S32x512 .f32 → Body F α) : Body F α :=
  .op (.load arg3 (Rect.unit (s := S1x8x32x512) ![0, k, 0, 0] S1x1x32x512.size (outOff_inb k hk)).toLoadRect (View.loadsAt_vmem h_S1x1x32x512)) fun x =>
  .op (.load arg8 (Rect.unit (s := S1024x2048) ![0, 0] S1024x2048.size inb_S1024x2048_S1024x2048_0_0).toLoadRect (View.loadsAt_vmem h_S1024x2048)) fun w1 =>
  .op (.load arg9 (Rect.unit (s := S1536x2048) ![0, 0] S1536x2048.size inb_S1536x2048_S1536x2048_0_0).toLoadRect (View.loadsAt_vmem h_S1536x2048)) fun w2 =>
  .op (.load arg10 (Rect.unit (s := S1x2048) ![0, 0] S1x2048.size inb_S1x2048_S1x2048_0_0).toLoadRect (View.loadsAt_vmem h_S1x2048)) fun b =>
  have g : FVec F S32x2048 .f32 := gates h cv par hc x w1 w2 b
  have c' : FVec F S32x512 .f32 := newC g c
  have h' : FVec F S32x512 .f32 := newH g c'
  .op (.load arg15 (Rect.unit (s := S1x8x32x512) ![0, k, 0, 0] S1x1x32x512.size (outOff_inb k hk)).toLoadRect (View.loadsAt_vmem h_S1x1x32x512)) fun _ =>
  .op (.store arg15 (Rect.unit (s := S1x8x32x512) ![0, k, 0, 0] S1x1x32x512.size (outOff_inb k hk)) (shapeCast S1x1x32x512 h' shapeCasts_S32x512_S1x1x32x512) Finset.univ
    (View.stores_vmem_bits_univ h_S1x1x32x512 rfl) (.inl rfl)) fun _ =>
  .op (.load arg16 (Rect.unit (s := S1x8x32x512) ![0, k, 0, 0] S1x1x32x512.size (outOff_inb k hk)).toLoadRect (View.loadsAt_vmem h_S1x1x32x512)) fun _ =>
  .op (.store arg16 (Rect.unit (s := S1x8x32x512) ![0, k, 0, 0] S1x1x32x512.size (outOff_inb k hk))
    (shapeCast S1x1x32x512 (extf .f32 cv bitsLt_bf16_f32) shapeCasts_S32x512_S1x1x32x512) Finset.univ
    (View.stores_vmem_bits_univ h_S1x1x32x512 rfl) (.inl rfl)) fun _ =>
  K h' c'

/-- The rest of a step after the context scores. -/
def stepRest (k : Nat) (hk : k < 8) (h c : FVec F S32x512 .f32) (e : FVec F S64x32 .f32) (qb : FVec F S32x128 .f32)
    (K : FVec F S32x512 .f32 → FVec F S32x512 .f32 → Body F α) : Body F α :=
  attB arg5 arg14 arg19 arg20 e qb fun cv hc =>
  gather i arg2 arg19 k hk fun par =>
  stepCell arg3 arg8 arg9 arg10 arg15 arg16 k hk h c cv par hc K

/-- The rest of a step, once the history is up to date. -/
def stepTail (k : Nat) (hk : k < 8) (h c : FVec F S32x512 .f32) (q : FVec F S32x384 .f32)
    (K : FVec F S32x512 .f32 → FVec F S32x512 .f32 → Body F α) : Body F α :=
  attA arg13 arg21 fun ca wa =>
  stepRest i arg2 arg3 arg5 arg8 arg9 arg10 arg14 arg15 arg16 arg19 arg20 k hk h c (expA ca (qA q) wa) (qB q) K

/-- One time step that has a step before it. -/
def step (k : Nat) (hk : k < 8) (hp : HasPrev i k) (h c : FVec F S32x512 .f32)
    (K : FVec F S32x512 .f32 → FVec F S32x512 .f32 → Body F α) : Body F α :=
  stepHead arg6 fun w =>
  scatter i arg12 arg19 harg19 arg20 k hk hp h (q3 h w)
    (stepTail i arg2 arg3 arg5 arg8 arg9 arg10 arg13 arg14 arg15 arg16 arg19 arg20 arg21 k hk h c (q3 h w) K)

/-- The first time step. -/
def step0 (h c : FVec F S32x512 .f32) (K : FVec F S32x512 .f32 → FVec F S32x512 .f32 → Body F α) : Body F α :=
  stepHead arg6 fun w =>
    stepTail i arg2 arg3 arg5 arg8 arg9 arg10 arg13 arg14 arg15 arg16 arg19 arg20 arg21 0 (by decide) h c (q3 h w) K

/-- Reading the two states the point before left. -/
def enter (K : FVec F S32x512 .f32 → FVec F S32x512 .f32 → Body F α) : Body F α :=
  .op (.load arg17 (Rect.unit (s := S32x512) ![0, 0] S32x512.size inb_S32x512_S32x512_0_0).toLoadRect (View.loadsAt_vmem h_S32x512)) fun (h : Vec F S32x512 .f32) =>
  .op (.load arg18 (Rect.unit (s := S32x512) ![0, 0] S32x512.size inb_S32x512_S32x512_0_0).toLoadRect (View.loadsAt_vmem h_S32x512)) fun (c : Vec F S32x512 .f32) =>
  K h c

/-- Leaving the two states to the next point. -/
def leave (h c : FVec F S32x512 .f32) : Body F PUnit :=
  .op (.load arg17 (Rect.unit (s := S32x512) ![0, 0] S32x512.size inb_S32x512_S32x512_0_0).toLoadRect (View.loadsAt_vmem h_S32x512)) fun _ =>
  .op (.store arg17 (Rect.unit (s := S32x512) ![0, 0] S32x512.size inb_S32x512_S32x512_0_0) (shapeCast S32x512 h shapeCasts_S32x512_S32x512) Finset.univ
    (View.stores_vmem_bits_univ h_S32x512 rfl) (.inl rfl)) fun _ =>
  .op (.load arg18 (Rect.unit (s := S32x512) ![0, 0] S32x512.size inb_S32x512_S32x512_0_0).toLoadRect (View.loadsAt_vmem h_S32x512)) fun _ =>
  .op (.store arg18 (Rect.unit (s := S32x512) ![0, 0] S32x512.size inb_S32x512_S32x512_0_0) (shapeCast S32x512 c shapeCasts_S32x512_S32x512) Finset.univ
    (View.stores_vmem_bits_univ h_S32x512 rfl) (.inl rfl)) fun _ =>
  .ret ⟨⟩

/-- The steps of a grid point from step `1` on, then the end. -/
def steps17 (h c : FVec F S32x512 .f32) : Body F PUnit :=
  have hp (k : Nat) (h : 1 ≤ k) : HasPrev i k := Nat.le_trans h (Nat.le_add_left _ _)
  step i arg2 arg3 arg5 arg6 arg8 arg9 arg10 arg12 arg13 arg14 arg15 arg16 arg19 harg19 arg20 arg21 1 (by decide) (hp 1 (by decide)) h c fun h c =>
  step i arg2 arg3 arg5 arg6 arg8 arg9 arg10 arg12 arg13 arg14 arg15 arg16 arg19 harg19 arg20 arg21 2 (by decide) (hp 2 (by decide)) h c fun h c =>
  step i arg2 arg3 arg5 arg6 arg8 arg9 arg10 arg12 arg13 arg14 arg15 arg16 arg19 harg19 arg20 arg21 3 (by decide) (hp 3 (by decide)) h c fun h c =>
  step i arg2 arg3 arg5 arg6 arg8 arg9 arg10 arg12 arg13 arg14 arg15 arg16 arg19 harg19 arg20 arg21 4 (by decide) (hp 4 (by decide)) h c fun h c =>
  step i arg2 arg3 arg5 arg6 arg8 arg9 arg10 arg12 arg13 arg14 arg15 arg16 arg19 harg19 arg20 arg21 5 (by decide) (hp 5 (by decide)) h c fun h c =>
  step i arg2 arg3 arg5 arg6 arg8 arg9 arg10 arg12 arg13 arg14 arg15 arg16 arg19 harg19 arg20 arg21 6 (by decide) (hp 6 (by decide)) h c fun h c =>
  step i arg2 arg3 arg5 arg6 arg8 arg9 arg10 arg12 arg13 arg14 arg15 arg16 arg19 harg19 arg20 arg21 7 (by decide) (hp 7 (by decide)) h c fun h c =>
  leave arg17 arg18 h c

/-- The history scores of an empty history: the bias alone. -/
def hs0 (b : Vec F S1x128 .f32) : FVec F S128x32x128 .f32 :=
  broadcastTo S128x32x128 (shapeCast S1x1x128 (shapeCast S1x1x128 (shapeCast S1x128 b shapeCasts_S1x128_S1x128) shapeCasts_S1x128_S1x1x128) shapeCasts_S1x1x128_S1x1x128) broadcasts_S1x1x128_S128x32x128

/-- The context's products with the attention weights, and their bias. -/
def ca0 (cx : Vec F S1x64x32x512 .bf16) (w : Vec F S512x128 .bf16) (b : Vec F S1x128 .f32) : FVec F S64x32x128 .f32 :=
  addf (shapeCast S64x32x128 (matmul dot_S2048x512_S512x128_S2048x128_1_0_0_1_n_n none
      (shapeCast S2048x512 (shapeCast S64x32x512 cx shapeCasts_S1x64x32x512_S64x32x512) shapeCasts_S64x32x512_S2048x512)
      (shapeCast S512x128 w shapeCasts_S512x128_S512x128) (constant S2048x128 .f32 0x00000000#32)) shapeCasts_S2048x128_S64x32x128)
    (broadcastTo S64x32x128 (shapeCast S1x1x128 (shapeCast S1x128 b shapeCasts_S1x128_S1x128) shapeCasts_S1x128_S1x1x128) broadcasts_S1x1x128_S64x32x128)

/-- What the first grid point prepares: the states, an empty history, the context's scores. -/
def prepare (K : Body F α) : Body F α :=
  .op (.load arg4 (Rect.unit (s := S1x32x512) ![0, 0, 0] S1x32x512.size inb_S1x32x512_S1x32x512_0_0_0).toLoadRect (View.loadsAt_vmem h_S1x32x512)) fun h0 =>
  .op (.load arg17 (Rect.unit (s := S32x512) ![0, 0] S32x512.size inb_S32x512_S32x512_0_0).toLoadRect (View.loadsAt_vmem h_S32x512)) fun _ =>
  .op (.store arg17 (Rect.unit (s := S32x512) ![0, 0] S32x512.size inb_S32x512_S32x512_0_0)
    (shapeCast S32x512 (shapeCast S32x512 h0 shapeCasts_S1x32x512_S32x512) shapeCasts_S32x512_S32x512) Finset.univ (View.stores_vmem_bits_univ h_S32x512 rfl) (.inl rfl)) fun _ =>
  .op (.load arg18 (Rect.unit (s := S32x512) ![0, 0] S32x512.size inb_S32x512_S32x512_0_0).toLoadRect (View.loadsAt_vmem h_S32x512)) fun _ =>
  .op (.store arg18 (Rect.unit (s := S32x512) ![0, 0] S32x512.size inb_S32x512_S32x512_0_0)
    (shapeCast S32x512 (broadcast S32x512 (Scalar.ofBits .f32 0x00000000#32 : F .f32)) shapeCasts_S32x512_S32x512) Finset.univ (View.stores_vmem_bits_univ h_S32x512 rfl) (.inl rfl)) fun _ =>
  .op (.load arg19 (Rect.unit (s := S128x32x512) ![0, 0, 0] S128x32x512.size inb_S128x32x512_S128x32x512_0_0_0).toLoadRect (View.loadsAt_vmem h_S128x32x512)) fun _ =>
  .op (.store arg19 (Rect.unit (s := S128x32x512) ![0, 0, 0] S128x32x512.size inb_S128x32x512_S128x32x512_0_0_0)
    (shapeCast S128x32x512 (broadcast S128x32x512 (Scalar.ofBits .bf16 0x0000#16 : F .bf16)) shapeCasts_S128x32x512_S128x32x512) Finset.univ
    (View.stores_vmem h_S128x32x512 (harg19.storeExact_slice rfl _ packedbf16_S128x32x512_S128x32x512_0_0_0) (fun _ => rfl)) (.inl rfl)) fun _ =>
  .op (.load arg12 (Rect.unit (s := S1x128) ![0, 0] S1x128.size inb_S1x128_S1x128_0_0).toLoadRect (View.loadsAt_vmem h_S1x128)) fun bh =>
  .op (.load arg20 (Rect.unit (s := S128x32x128) ![0, 0, 0] S128x32x128.size inb_S128x32x128_S128x32x128_0_0_0).toLoadRect (View.loadsAt_vmem h_S128x32x128)) fun _ =>
  .op (.store arg20 (Rect.unit (s := S128x32x128) ![0, 0, 0] S128x32x128.size inb_S128x32x128_S128x32x128_0_0_0)
    (shapeCast S128x32x128 (hs0 bh) shapeCasts_S128x32x128_S128x32x128) Finset.univ (View.stores_vmem_bits_univ h_S128x32x128 rfl) (.inl rfl)) fun _ =>
  .op (.load arg5 (Rect.unit (s := S1x64x32x512) ![0, 0, 0, 0] S1x64x32x512.size inb_S1x64x32x512_S1x64x32x512_0_0_0_0).toLoadRect (View.loadsAt_vmem h_S1x64x32x512)) fun cx =>
  .op (.load arg7 (Rect.unit (s := S512x128) ![0, 0] S512x128.size inb_S512x128_S512x128_0_0).toLoadRect (View.loadsAt_vmem h_S512x128)) fun w =>
  .op (.load arg11 (Rect.unit (s := S1x128) ![0, 0] S1x128.size inb_S1x128_S1x128_0_0).toLoadRect (View.loadsAt_vmem h_S1x128)) fun b =>
  .op (.load arg21 (Rect.unit (s := S64x32x128) ![0, 0, 0] S64x32x128.size inb_S64x32x128_S64x32x128_0_0_0).toLoadRect (View.loadsAt_vmem h_S64x32x128)) fun _ =>
  .op (.store arg21 (Rect.unit (s := S64x32x128) ![0, 0, 0] S64x32x128.size inb_S64x32x128_S64x32x128_0_0_0)
    (shapeCast S64x32x128 (ca0 cx w b) shapeCasts_S64x32x128_S64x32x128) Finset.univ (View.stores_vmem_bits_univ h_S64x32x128 rfl) (.inl rfl)) fun _ =>
  K

/-- The body at the first grid point. -/
def bodyFirst : Body F PUnit :=
  prepare arg4 arg5 arg7 arg11 arg12 arg17 arg18 arg19 harg19 arg20 arg21 <|
  enter arg17 arg18 fun h c =>
  step0 i arg2 arg3 arg5 arg6 arg8 arg9 arg10 arg13 arg14 arg15 arg16 arg19 arg20 arg21 h c fun h c =>
  steps17 i arg2 arg3 arg5 arg6 arg8 arg9 arg10 arg12 arg13 arg14 arg15 arg16 arg17 arg18 arg19 harg19 arg20 arg21 h c

/-- The body at a later grid point. -/
def bodyLater (hi : HasPrev i 0) : Body F PUnit :=
  enter arg17 arg18 fun h c =>
  step i arg2 arg3 arg5 arg6 arg8 arg9 arg10 arg12 arg13 arg14 arg15 arg16 arg19 harg19 arg20 arg21 0 (by decide) hi h c fun h c =>
  steps17 i arg2 arg3 arg5 arg6 arg8 arg9 arg10 arg12 arg13 arg14 arg15 arg16 arg17 arg18 arg19 harg19 arg20 arg21 h c

end

end Cert.Proof.Lstm

end
-- ==== Proof.Own.lean ====
/-
  What a core holds while the body runs: every memref the body names, at known contents. The loads, stores and table
  words of the body as rules over that: a load continues at what is held, a store changes the contents it goes to.
-/
module

public import proofs.«01_k».proof.Proof.Step
public import Idealize.ShloMosaic.Lib.Tactic
public import Idealize.ShloMosaic.Lib.VecWindow
public import Idealize.ShloMosaic.Lib.Pipeline.Kit

@[expose] public section

noncomputable section

namespace Cert.Proof.Lstm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] {α : Type}

/-- The core's assertions. -/
abbrev Pr (F : FTy → Type) := sProp (MT nD τ sig Unit (Elt F) ℕ (UR sig nD τ) ℕ)

/-- The memrefs the body is given. -/
structure Mem where
  a2 : Memref sig .tc .smem S128x32 .i32
  a3 : Memref sig .tc .vmem S1x8x32x512 .bf16
  a4 : Memref sig .tc .vmem S1x32x512 .f32
  a5 : Memref sig .tc .vmem S1x64x32x512 .bf16
  a6 : Memref sig .tc .vmem S512x384 .bf16
  a7 : Memref sig .tc .vmem S512x128 .bf16
  a8 : Memref sig .tc .vmem S1024x2048 .bf16
  a9 : Memref sig .tc .vmem S1536x2048 .bf16
  a10 : Memref sig .tc .vmem S1x2048 .f32
  a11 : Memref sig .tc .vmem S1x128 .f32
  a12 : Memref sig .tc .vmem S1x128 .f32
  a13 : Memref sig .tc .vmem S1x128 .f32
  a14 : Memref sig .tc .vmem S1x128 .f32
  a15 : Memref sig .tc .vmem S1x8x32x512 .f32
  a16 : Memref sig .tc .vmem S1x8x32x512 .f32
  a17 : Memref sig .tc .vmem S32x512 .f32
  a18 : Memref sig .tc .vmem S32x512 .f32
  a19 : Memref sig .tc .vmem S128x32x512 .bf16
  a20 : Memref sig .tc .vmem S128x32x128 .f32
  a21 : Memref sig .tc .vmem S64x32x128 .f32
  w19 : a19.IsWhole

/-- What the body only reads and what is the same at every grid point. -/
structure Ins (F : FTy → Type) where
  tab : Vec F S128x32 .i32
  h0 : Vec F S1x32x512 .f32
  cx : Vec F S1x64x32x512 .bf16
  wq : Vec F S512x384 .bf16
  wc : Vec F S512x128 .bf16
  w1 : Vec F S1024x2048 .bf16
  w2 : Vec F S1536x2048 .bf16
  bx : Vec F S1x2048 .f32
  bac : Vec F S1x128 .f32
  bhh : Vec F S1x128 .f32
  wa : Vec F S1x128 .f32
  wha : Vec F S1x128 .f32

/-- The recurrence's state: the two states, the history and the history's scores. -/
structure Rec (F : FTy → Type) where
  h : FVec F S32x512 .f32
  c : FVec F S32x512 .f32
  hist : Vec F S128x32x512 .bf16
  hs : Vec F S128x32x128 .f32

/-- The rest of what the body writes: the two results' blocks, the states kept between points, the context's scores. -/
structure St (F : FTy → Type) where
  o : Vec F S1x8x32x512 .f32
  oc : Vec F S1x8x32x512 .f32
  sh : Vec F S32x512 .f32
  sc : Vec F S32x512 .f32
  ca : Vec F S64x32x128 .f32

variable [Facts] (d : Dev nD) (M : Mem) (q : PosShare TreeShare) (A : Ins F) (x : Vec F S1x8x32x512 .bf16) (r : Rec F) (s : St F) (R : Pr F)

/-- The core holds all of them, the table at share `q`, beside `R`. -/
def Held : Pr F := iprop(
  owns (d : Thread nD τ) M.a2 q A.tab ∗
  owns (d : Thread nD τ) M.a3 fullShare x ∗
  owns (d : Thread nD τ) M.a4 fullShare A.h0 ∗
  owns (d : Thread nD τ) M.a5 fullShare A.cx ∗
  owns (d : Thread nD τ) M.a6 fullShare A.wq ∗
  owns (d : Thread nD τ) M.a7 fullShare A.wc ∗
  owns (d : Thread nD τ) M.a8 fullShare A.w1 ∗
  owns (d : Thread nD τ) M.a9 fullShare A.w2 ∗
  owns (d : Thread nD τ) M.a10 fullShare A.bx ∗
  owns (d : Thread nD τ) M.a11 fullShare A.bac ∗
  owns (d : Thread nD τ) M.a12 fullShare A.bhh ∗
  owns (d : Thread nD τ) M.a13 fullShare A.wa ∗
  owns (d : Thread nD τ) M.a14 fullShare A.wha ∗
  owns (d : Thread nD τ) M.a15 fullShare s.o ∗
  owns (d : Thread nD τ) M.a16 fullShare s.oc ∗
  owns (d : Thread nD τ) M.a17 fullShare s.sh ∗
  owns (d : Thread nD τ) M.a18 fullShare s.sc ∗
  owns (d : Thread nD τ) M.a19 fullShare r.hist ∗
  owns (d : Thread nD τ) M.a20 fullShare r.hs ∗
  owns (d : Thread nD τ) M.a21 fullShare s.ca ∗
  R)

/-- A program of the core, run to `Q`. -/
abbrev Wp (Q : α → Pr F) (p : Body F α) : Pr F := wp frame (wpE (defs₀ (F := F)) Variants.none (d : Thread nD τ) none) Set.univ p Q

theorem held2 : Held d M q A x r s R ⊢ iprop(owns (d : Thread nD τ) M.a2 q A.tab ∗ (owns (d : Thread nD τ) M.a2 q A.tab -∗ Held d M q A x r s R)) := by
  unfold Held; iintro ⟨H2, H3, H4, H5, H6, H7, H8, H9, H10, H11, H12, H13, H14, H15, H16, H17, H18, H19, H20, H21, HR⟩
  isplitl [H2]; · iexact H2
  iintro H2
  iframe ∗
theorem held3 : Held d M q A x r s R ⊢ iprop(owns (d : Thread nD τ) M.a3 fullShare x ∗ (owns (d : Thread nD τ) M.a3 fullShare x -∗ Held d M q A x r s R)) := by
  unfold Held; iintro ⟨H2, H3, H4, H5, H6, H7, H8, H9, H10, H11, H12, H13, H14, H15, H16, H17, H18, H19, H20, H21, HR⟩
  isplitl [H3]; · iexact H3
  iintro H3
  iframe ∗
theorem held4 : Held d M q A x r s R ⊢ iprop(owns (d : Thread nD τ) M.a4 fullShare A.h0 ∗ (owns (d : Thread nD τ) M.a4 fullShare A.h0 -∗ Held d M q A x r s R)) := by
  unfold Held; iintro ⟨H2, H3, H4, H5, H6, H7, H8, H9, H10, H11, H12, H13, H14, H15, H16, H17, H18, H19, H20, H21, HR⟩
  isplitl [H4]; · iexact H4
  iintro H4
  iframe ∗
theorem held5 : Held d M q A x r s R ⊢ iprop(owns (d : Thread nD τ) M.a5 fullShare A.cx ∗ (owns (d : Thread nD τ) M.a5 fullShare A.cx -∗ Held d M q A x r s R)) := by
  unfold Held; iintro ⟨H2, H3, H4, H5, H6, H7, H8, H9, H10, H11, H12, H13, H14, H15, H16, H17, H18, H19, H20, H21, HR⟩
  isplitl [H5]; · iexact H5
  iintro H5
  iframe ∗
theorem held6 : Held d M q A x r s R ⊢ iprop(owns (d : Thread nD τ) M.a6 fullShare A.wq ∗ (owns (d : Thread nD τ) M.a6 fullShare A.wq -∗ Held d M q A x r s R)) := by
  unfold Held; iintro ⟨H2, H3, H4, H5, H6, H7, H8, H9, H10, H11, H12, H13, H14, H15, H16, H17, H18, H19, H20, H21, HR⟩
  isplitl [H6]; · iexact H6
  iintro H6
  iframe ∗
theorem held7 : Held d M q A x r s R ⊢ iprop(owns (d : Thread nD τ) M.a7 fullShare A.wc ∗ (owns (d : Thread nD τ) M.a7 fullShare A.wc -∗ Held d M q A x r s R)) := by
  unfold Held; iintro ⟨H2, H3, H4, H5, H6, H7, H8, H9, H10, H11, H12, H13, H14, H15, H16, H17, H18, H19, H20, H21, HR⟩
  isplitl [H7]; · iexact H7
  iintro H7
  iframe ∗
theorem held8 : Held d M q A x r s R ⊢ iprop(owns (d : Thread nD τ) M.a8 fullShare A.w1 ∗ (owns (d : Thread nD τ) M.a8 fullShare A.w1 -∗ Held d M q A x r s R)) := by
  unfold Held; iintro ⟨H2, H3, H4, H5, H6, H7, H8, H9, H10, H11, H12, H13, H14, H15, H16, H17, H18, H19, H20, H21, HR⟩
  isplitl [H8]; · iexact H8
  iintro H8
  iframe ∗
theorem held9 : Held d M q A x r s R ⊢ iprop(owns (d : Thread nD τ) M.a9 fullShare A.w2 ∗ (owns (d : Thread nD τ) M.a9 fullShare A.w2 -∗ Held d M q A x r s R)) := by
  unfold Held; iintro ⟨H2, H3, H4, H5, H6, H7, H8, H9, H10, H11, H12, H13, H14, H15, H16, H17, H18, H19, H20, H21, HR⟩
  isplitl [H9]; · iexact H9
  iintro H9
  iframe ∗
theorem held10 : Held d M q A x r s R ⊢ iprop(owns (d : Thread nD τ) M.a10 fullShare A.bx ∗ (owns (d : Thread nD τ) M.a10 fullShare A.bx -∗ Held d M q A x r s R)) := by
  unfold Held; iintro ⟨H2, H3, H4, H5, H6, H7, H8, H9, H10, H11, H12, H13, H14, H15, H16, H17, H18, H19, H20, H21, HR⟩
  isplitl [H10]; · iexact H10
  iintro H10
  iframe ∗
theorem held11 : Held d M q A x r s R ⊢ iprop(owns (d : Thread nD τ) M.a11 fullShare A.bac ∗ (owns (d : Thread nD τ) M.a11 fullShare A.bac -∗ Held d M q A x r s R)) := by
  unfold Held; iintro ⟨H2, H3, H4, H5, H6, H7, H8, H9, H10, H11, H12, H13, H14, H15, H16, H17, H18, H19, H20, H21, HR⟩
  isplitl [H11]; · iexact H11
  iintro H11
  iframe ∗
theorem held12 : Held d M q A x r s R ⊢ iprop(owns (d : Thread nD τ) M.a12 fullShare A.bhh ∗ (owns (d : Thread nD τ) M.a12 fullShare A.bhh -∗ Held d M q A x r s R)) := by
  unfold Held; iintro ⟨H2, H3, H4, H5, H6, H7, H8, H9, H10, H11, H12, H13, H14, H15, H16, H17, H18, H19, H20, H21, HR⟩
  isplitl [H12]; · iexact H12
  iintro H12
  iframe ∗
theorem held13 : Held d M q A x r s R ⊢ iprop(owns (d : Thread nD τ) M.a13 fullShare A.wa ∗ (owns (d : Thread nD τ) M.a13 fullShare A.wa -∗ Held d M q A x r s R)) := by
  unfold Held; iintro ⟨H2, H3, H4, H5, H6, H7, H8, H9, H10, H11, H12, H13, H14, H15, H16, H17, H18, H19, H20, H21, HR⟩
  isplitl [H13]; · iexact H13
  iintro H13
  iframe ∗
theorem held14 : Held d M q A x r s R ⊢ iprop(owns (d : Thread nD τ) M.a14 fullShare A.wha ∗ (owns (d : Thread nD τ) M.a14 fullShare A.wha -∗ Held d M q A x r s R)) := by
  unfold Held; iintro ⟨H2, H3, H4, H5, H6, H7, H8, H9, H10, H11, H12, H13, H14, H15, H16, H17, H18, H19, H20, H21, HR⟩
  isplitl [H14]; · iexact H14
  iintro H14
  iframe ∗
theorem held15 : Held d M q A x r s R ⊢ iprop(owns (d : Thread nD τ) M.a15 fullShare s.o ∗ ∀ Y, owns (d : Thread nD τ) M.a15 fullShare Y -∗ (Held d M q A x r { s with o := Y } R)) := by
  unfold Held; iintro ⟨H2, H3, H4, H5, H6, H7, H8, H9, H10, H11, H12, H13, H14, H15, H16, H17, H18, H19, H20, H21, HR⟩
  isplitl [H15]; · iexact H15
  iintro %Y H15
  iframe ∗
theorem held16 : Held d M q A x r s R ⊢ iprop(owns (d : Thread nD τ) M.a16 fullShare s.oc ∗ ∀ Y, owns (d : Thread nD τ) M.a16 fullShare Y -∗ (Held d M q A x r { s with oc := Y } R)) := by
  unfold Held; iintro ⟨H2, H3, H4, H5, H6, H7, H8, H9, H10, H11, H12, H13, H14, H15, H16, H17, H18, H19, H20, H21, HR⟩
  isplitl [H16]; · iexact H16
  iintro %Y H16
  iframe ∗
theorem held17 : Held d M q A x r s R ⊢ iprop(owns (d : Thread nD τ) M.a17 fullShare s.sh ∗ ∀ Y, owns (d : Thread nD τ) M.a17 fullShare Y -∗ (Held d M q A x r { s with sh := Y } R)) := by
  unfold Held; iintro ⟨H2, H3, H4, H5, H6, H7, H8, H9, H10, H11, H12, H13, H14, H15, H16, H17, H18, H19, H20, H21, HR⟩
  isplitl [H17]; · iexact H17
  iintro %Y H17
  iframe ∗
theorem held18 : Held d M q A x r s R ⊢ iprop(owns (d : Thread nD τ) M.a18 fullShare s.sc ∗ ∀ Y, owns (d : Thread nD τ) M.a18 fullShare Y -∗ (Held d M q A x r { s with sc := Y } R)) := by
  unfold Held; iintro ⟨H2, H3, H4, H5, H6, H7, H8, H9, H10, H11, H12, H13, H14, H15, H16, H17, H18, H19, H20, H21, HR⟩
  isplitl [H18]; · iexact H18
  iintro %Y H18
  iframe ∗
theorem held19 : Held d M q A x r s R ⊢ iprop(owns (d : Thread nD τ) M.a19 fullShare r.hist ∗ ∀ Y, owns (d : Thread nD τ) M.a19 fullShare Y -∗ (Held d M q A x { r with hist := Y } s R)) := by
  unfold Held; iintro ⟨H2, H3, H4, H5, H6, H7, H8, H9, H10, H11, H12, H13, H14, H15, H16, H17, H18, H19, H20, H21, HR⟩
  isplitl [H19]; · iexact H19
  iintro %Y H19
  iframe ∗
theorem held20 : Held d M q A x r s R ⊢ iprop(owns (d : Thread nD τ) M.a20 fullShare r.hs ∗ ∀ Y, owns (d : Thread nD τ) M.a20 fullShare Y -∗ (Held d M q A x { r with hs := Y } s R)) := by
  unfold Held; iintro ⟨H2, H3, H4, H5, H6, H7, H8, H9, H10, H11, H12, H13, H14, H15, H16, H17, H18, H19, H20, H21, HR⟩
  isplitl [H20]; · iexact H20
  iintro %Y H20
  iframe ∗
theorem held21 : Held d M q A x r s R ⊢ iprop(owns (d : Thread nD τ) M.a21 fullShare s.ca ∗ ∀ Y, owns (d : Thread nD τ) M.a21 fullShare Y -∗ (Held d M q A x r { s with ca := Y } R)) := by
  unfold Held; iintro ⟨H2, H3, H4, H5, H6, H7, H8, H9, H10, H11, H12, H13, H14, H15, H16, H17, H18, H19, H20, H21, HR⟩
  isplitl [H21]; · iexact H21
  iintro %Y H21
  iframe ∗

/-! ## Rules for any assertion that holds the memref -/

section
variable {d} {Q : α → Pr F} {P P' : Pr F} {sp : CoreSpace} {sh : Shape} {e : EltTy} {m : Memref sig .tc sp sh e} {X : sh.Idx → Elt F e} {q} {Z : (sh.Idx → Elt F e) → Pr F}

/-- A load goes on at what the memref reads. -/
theorem ld_of {t : Rect sh} {hl : m.view.LoadsAt t} {K : (t.shape.Idx → Elt F e) → Body F α}
    (hP : P ⊢ iprop(owns (d : Thread nD τ) m q X ∗ (owns (d : Thread nD τ) m q X -∗ P))) (hK : P ⊢ Wp d Q (K (View.ld X t))) :
    P ⊢ Wp d Q (.op (.load m t.toLoadRect hl) K) := by
  refine hP.trans ?_
  iintro ⟨H, Hw⟩
  unfold owns
  icases H with ⟨%f, %hf, Hm⟩
  subst hf
  iapply (wp_load Variants.none (d : Thread nD τ) none Set.univ (m := m) (S := m.view.set) (m.view.setOn_subset_set _)) $$ Hm
  iintro Hm
  iapply hK
  iapply Hw
  iexists f
  isplitr
  · ipureintro; rfl
  iexact Hm

/-- A load of the memref's whole shape goes on at what the memref reads. -/
theorem ldAll_of {off : Fin sh.rank → ℕ} {inb : ∀ a, off a + sh.size a ≤ sh.size a} {hl : m.view.LoadsAt (Rect.unit off sh.size inb).toLoadRect} {K : (sh.Idx → Elt F e) → Body F α}
    (hP : P ⊢ iprop(owns (d : Thread nD τ) m q X ∗ (owns (d : Thread nD τ) m q X -∗ P))) (hK : P ⊢ Wp d Q (K X)) :
    P ⊢ Wp d Q (.op (.load m (Rect.unit off sh.size inb).toLoadRect hl) K) := by
  refine ld_of (t := Rect.unit off sh.size inb) hP ?_
  have e : View.ld X (Rect.unit off sh.size inb) = X := by
    funext y
    exact congrArg X (funext fun a => Fin.ext (by show off a + 1 * (y a).val = (y a).val; have := inb a; omega))
  rw [e]; exact hK

/-- A store goes on with the payload put in place. -/
theorem st_of {off off' size : Fin sh.rank → ℕ} {inb : ∀ a, off a + size a ≤ sh.size a} {w : (Rect.unit off size inb).shape.Idx → Elt F e} {hx hm}
    {K : PUnit → Body F α} (ho : off = off')
    (hP : P ⊢ iprop(owns (d : Thread nD τ) m fullShare X ∗ ∀ Y, owns (d : Thread nD τ) m fullShare Y -∗ Z Y)) (hK : Z (VecWindow.put X off' size w) ⊢ Wp d Q (K ⟨⟩)) :
    P ⊢ Wp d Q (.op (.store m (Rect.unit off size inb) w Finset.univ hx hm) K) := by
  refine hP.trans ?_
  iintro ⟨H, Hw⟩
  unfold owns
  icases H with ⟨%f, %hf, Hm⟩
  subst hf
  iapply (wp_store Variants.none (d : Thread nD τ) none Set.univ (m := m) (r := Rect.unit off size inb) (S := m.view.set) (m.setOn_access_subset _ _)) $$ Hm
  iintro Hm
  iapply hK
  iapply Hw
  iexists _
  isplitr [Hm]
  swap
  · iexact Hm
  ipureintro
  exact m.view.read_writes_cons_put f inb w [] ho

/-- A store of the memref's whole shape goes on with the payload. -/
theorem stAll_of {off : Fin sh.rank → ℕ} {inb : ∀ a, off a + sh.size a ≤ sh.size a} {w : sh.Idx → Elt F e} {hx hm}
    {K : PUnit → Body F α}
    (hP : P ⊢ iprop(owns (d : Thread nD τ) m fullShare X ∗ ∀ Y, owns (d : Thread nD τ) m fullShare Y -∗ Z Y)) (hK : Z w ⊢ Wp d Q (K ⟨⟩)) :
    P ⊢ Wp d Q (.op (.store m (Rect.unit off sh.size inb) w Finset.univ hx hm) K) := by
  refine st_of rfl hP ?_
  have e : VecWindow.put X off sh.size w = w := by
    funext y
    have h : ∀ a, off a ≤ (y a).val ∧ (y a).val < off a + sh.size a := fun a => by have := inb a; have := (y a).isLt; omega
    unfold VecWindow.put
    rw [dif_pos h]
    exact congrArg w (funext fun a => Fin.ext (by show (y a).val - off a = (y a).val; have := inb a; omega))
  rw [e]; exact hK

/-- A word of a table goes on at the table's entry. -/
theorem word_of {m : Memref sig .tc .smem sh e} {t : Rect sh} {h1 : t.shape.numel = 1} {hp} {K : Elt F e → Body F α}
    (hP : P ⊢ iprop(owns (d : Thread nD τ) m q X ∗ (owns (d : Thread nD τ) m q X -∗ P)))
    (hK : P ⊢ Wp d Q (K (View.ld X t (Shape.Idx.first (h1.symm ▸ Nat.one_pos))))) :
    P ⊢ Wp d Q (Prog.bind (smemLoad m t h1 hp) K) :=
  ld_of (t := t) hP hK

/-- A check that holds is passed. -/
theorem assume_of {C : Prop} {hd : Decidable C} {K : PLift C → Body F α} (h : C) (hK : P ⊢ Wp d Q (K ⟨h⟩)) :
    P ⊢ Wp d Q (.op (.assume C hd) K) :=
  hK.trans (wp_assume Variants.none (d : Thread nD τ) none Set.univ h)

end

end Cert.Proof.Lstm

end
-- ==== Proof.Steps.lean ====
/-
  What the body's pieces do to what the core holds: the rows of the parent states, entering the step before into the history, one
  step, the first grid point's preparation, and the states read and left. Each piece is a rule: run from what is held, it goes on at the
  new contents, which are named as functions of the old ones.
-/
module

public import proofs.«01_k».proof.Proof.Own
public import Idealize.ShloMosaic.Lib.Pointwise
public import Idealize.ShloMosaic.Lib.Pipeline.ValueKit

@[expose] public section

noncomputable section

namespace Cert.Proof.Lstm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] {α : Type}

/-- Every word of the parent table names a history row. -/
def TabIn (T : Vec F S128x32 .i32) : Prop := ∀ j, (T j : BitVec 32).toNat < 128

/-- The history row that the parent table names for step `t` and batch row `b`. -/
def parRow (T : Vec F S128x32 .i32) (t : ℕ) (b : Fin 32) : Fin 128 := Fin.ofNat 128 (T (ix2 (Fin.ofNat 128 t) b) : BitVec 32).toNat

/-- The parent states of step `t`. -/
def parV (T : Vec F S128x32 .i32) (hist : Vec F S128x32x512 .bf16) (t : ℕ) : FVec F S32x512 .bf16 :=
  fun j => hist (ix3 (parRow (F := F) T t (j 0)) (j 0 : Fin 32) (j 1 : Fin 512))

/-- One row of them. -/
def rowV (T : Vec F S128x32 .i32) (hist : Vec F S128x32x512 .bf16) (t : ℕ) (b : Fin 32) : FVec F S1x512 .bf16 :=
  fun j => hist (ix3 (parRow (F := F) T t b) b (j 1 : Fin 512))

theorem row_cast (v : Vec F S1x1x512 .bf16) : shapeCast S1x512 v shapeCasts_S1x1x512_S1x512 = fun j => v (ix3 (0 : Fin 1) (0 : Fin 1) (j 1 : Fin 512)) := by
  funext j
  pointwise

/-- The 32 rows under one another are the parent states. -/
theorem rows_concat (T : Vec F S128x32 .i32) (hist : Vec F S128x32x512 .bf16) (t : ℕ) (h) :
    concatenate S32x512 0 (List.ofFn fun n : Fin 32 => (⟨S1x512, rowV T hist t n⟩ : (s : Shape) × (s.Idx → F .bf16))) h = parV T hist t := by
  funext j
  refine concatenate_ofFn_unit_eq 0 _ h j _ rfl rfl fun n i hn _ hb => ?_
  have e1 : (j 0 : Fin 32) = n := Fin.ext hn
  have e2 : (i 1 : Fin 512) = j 1 := Fin.ext (hb 1 (by decide))
  unfold rowV parV
  rw [e1, e2]

/-! ## Reading what is written elsewhere -/

section
variable [Facts]
theorem fixed15 {d : Dev nD} {M : Mem} {q : PosShare TreeShare} {A : Ins F} {x : Vec F S1x8x32x512 .bf16} {r : Rec F} {s : St F} {R : Pr F} :
    Held d M q A x r s R ⊢ iprop(owns (d : Thread nD τ) M.a15 fullShare s.o ∗ (owns (d : Thread nD τ) M.a15 fullShare s.o -∗ Held d M q A x r s R)) := by
  refine (held15 d M q A x r s R).trans ?_
  iintro ⟨H, Hw⟩
  isplitl [H]; · iexact H
  iintro H
  iapply Hw
  iexact H
theorem fixed16 {d : Dev nD} {M : Mem} {q : PosShare TreeShare} {A : Ins F} {x : Vec F S1x8x32x512 .bf16} {r : Rec F} {s : St F} {R : Pr F} :
    Held d M q A x r s R ⊢ iprop(owns (d : Thread nD τ) M.a16 fullShare s.oc ∗ (owns (d : Thread nD τ) M.a16 fullShare s.oc -∗ Held d M q A x r s R)) := by
  refine (held16 d M q A x r s R).trans ?_
  iintro ⟨H, Hw⟩
  isplitl [H]; · iexact H
  iintro H
  iapply Hw
  iexact H
theorem fixed17 {d : Dev nD} {M : Mem} {q : PosShare TreeShare} {A : Ins F} {x : Vec F S1x8x32x512 .bf16} {r : Rec F} {s : St F} {R : Pr F} :
    Held d M q A x r s R ⊢ iprop(owns (d : Thread nD τ) M.a17 fullShare s.sh ∗ (owns (d : Thread nD τ) M.a17 fullShare s.sh -∗ Held d M q A x r s R)) := by
  refine (held17 d M q A x r s R).trans ?_
  iintro ⟨H, Hw⟩
  isplitl [H]; · iexact H
  iintro H
  iapply Hw
  iexact H
theorem fixed18 {d : Dev nD} {M : Mem} {q : PosShare TreeShare} {A : Ins F} {x : Vec F S1x8x32x512 .bf16} {r : Rec F} {s : St F} {R : Pr F} :
    Held d M q A x r s R ⊢ iprop(owns (d : Thread nD τ) M.a18 fullShare s.sc ∗ (owns (d : Thread nD τ) M.a18 fullShare s.sc -∗ Held d M q A x r s R)) := by
  refine (held18 d M q A x r s R).trans ?_
  iintro ⟨H, Hw⟩
  isplitl [H]; · iexact H
  iintro H
  iapply Hw
  iexact H
theorem fixed19 {d : Dev nD} {M : Mem} {q : PosShare TreeShare} {A : Ins F} {x : Vec F S1x8x32x512 .bf16} {r : Rec F} {s : St F} {R : Pr F} :
    Held d M q A x r s R ⊢ iprop(owns (d : Thread nD τ) M.a19 fullShare r.hist ∗ (owns (d : Thread nD τ) M.a19 fullShare r.hist -∗ Held d M q A x r s R)) := by
  refine (held19 d M q A x r s R).trans ?_
  iintro ⟨H, Hw⟩
  isplitl [H]; · iexact H
  iintro H
  iapply Hw
  iexact H
theorem fixed20 {d : Dev nD} {M : Mem} {q : PosShare TreeShare} {A : Ins F} {x : Vec F S1x8x32x512 .bf16} {r : Rec F} {s : St F} {R : Pr F} :
    Held d M q A x r s R ⊢ iprop(owns (d : Thread nD τ) M.a20 fullShare r.hs ∗ (owns (d : Thread nD τ) M.a20 fullShare r.hs -∗ Held d M q A x r s R)) := by
  refine (held20 d M q A x r s R).trans ?_
  iintro ⟨H, Hw⟩
  isplitl [H]; · iexact H
  iintro H
  iapply Hw
  iexact H
theorem fixed21 {d : Dev nD} {M : Mem} {q : PosShare TreeShare} {A : Ins F} {x : Vec F S1x8x32x512 .bf16} {r : Rec F} {s : St F} {R : Pr F} :
    Held d M q A x r s R ⊢ iprop(owns (d : Thread nD τ) M.a21 fullShare s.ca ∗ (owns (d : Thread nD τ) M.a21 fullShare s.ca -∗ Held d M q A x r s R)) := by
  refine (held21 d M q A x r s R).trans ?_
  iintro ⟨H, Hw⟩
  isplitl [H]; · iexact H
  iintro H
  iapply Hw
  iexact H
end

variable [Facts] {d : Dev nD} {M : Mem} {q : PosShare TreeShare} {A : Ins F} {x : Vec F S1x8x32x512 .bf16} {r : Rec F} {s : St F} {R : Pr F} {Q : α → Pr F} {i : grid0.Coords}

/-- One row: the word is read, found to name a history row, and that row goes on. -/
theorem row_of {k b : Nat} {hb : b < 32} {hk : k < 8} {K : FVec F S1x512 .bf16 → Body F α} (hT : TabIn (F := F) A.tab)
    (hK : Held d M q A x r s R ⊢ Wp d Q (K (rowV A.tab r.hist (8 * (i 1).val + k) ⟨b, hb⟩))) :
    Held d M q A x r s R ⊢ Wp d Q (row i M.a2 M.a19 k b hb hk K) := by
  have h1 : (i 1).val < 16 := (i 1).isLt
  have h2 := wOff_eq i ⟨k, hk⟩
  refine word_of (held2 d M q A x r s R) ?_
  have ew : View.ld A.tab (Rect.unit (s := S128x32) (wOff i k b) S1x1.size (wOff_inb i k b hb hk)) (Shape.Idx.first (numel1_S1x1.symm ▸ Nat.one_pos))
      = A.tab (ix2 (Fin.ofNat 128 (8 * (i 1).val + k)) (⟨b, hb⟩ : Fin 32)) := by
    refine congrArg A.tab (funext fun a => Fin.ext ?_)
    fin_cases a
    · show (Scalar.indexCast (tw i k)).toNat + 1 * 0 = (8 * (i 1).val + k) % 128
      rw [h2, Nat.mod_eq_of_lt (by omega)]; rfl
    · show b + 1 * 0 = b
      rfl
  rw [ew]
  generalize hw : A.tab (ix2 (Fin.ofNat 128 (8 * (i 1).val + k)) (⟨b, hb⟩ : Fin 32)) = w
  have hlt : (w : BitVec 32).toNat < 128 := hw ▸ hT _
  have hi : (Scalar.indexCast w).toNat = (w : BitVec 32).toNat := rfl
  refine assume_of (fun a => ?_) ?_
  · unfold gOff
    rw [hi]
    fin_cases a <;> simp <;> omega
  refine ld_of (fixed19) ?_
  rw [row_cast]
  have er : (fun j : S1x512.Idx => View.ld r.hist (Rect.unit (s := S128x32x512) (gOff b w) S1x1x512.size (by
      intro a; unfold gOff; rw [hi]; fin_cases a <;> simp <;> omega)) (ix3 (0 : Fin 1) (0 : Fin 1) (j 1 : Fin 512)))
      = rowV A.tab r.hist (8 * (i 1).val + k) ⟨b, hb⟩ := by
    funext j
    unfold rowV parRow
    rw [hw]
    refine congrArg r.hist (funext fun a => Fin.ext ?_)
    fin_cases a
    · show (Scalar.indexCast w).toNat + 1 * 0 = (w : BitVec 32).toNat % 128
      rw [hi, Nat.mod_eq_of_lt hlt]; rfl
    · show b + 1 * 0 = b
      rfl
    · show 0 + 1 * (j 1).val = (j 1).val
      omega
  exact Eq.mp (congrArg (fun v => Held d M q A x r s R ⊢ Wp d Q (K v)) er.symm) hK

/-- All 32 rows: the parent states go on. -/
theorem gather_of {k : Nat} {hk : k < 8} {K : FVec F S32x512 .bf16 → Body F α} (hT : TabIn (F := F) A.tab)
    (hK : Held d M q A x r s R ⊢ Wp d Q (K (parV A.tab r.hist (8 * (i 1).val + k)))) :
    Held d M q A x r s R ⊢ Wp d Q (gather i M.a2 M.a19 k hk K) := by
  unfold gather
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  refine row_of hT ?_
  exact Eq.mp (congrArg (fun v => Held d M q A x r s R ⊢ Wp d Q (K v)) (rows_concat A.tab r.hist (8 * (i 1).val + k)
    concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S32x512_d0).symm) hK

/-! ## One step's new contents -/

/-- A step's rows of the input block. -/
def xRow (x : Vec F S1x8x32x512 .bf16) (k : ℕ) : Vec F S1x1x32x512 .bf16 := fun j => x (ix4 (0 : Fin 1) (Fin.ofNat 8 k) (j 2 : Fin 32) (j 3 : Fin 512))

/-- The step before entered into the history, and its product into the history's scores. -/
def scatRec (A : Ins F) (t : ℕ) (r : Rec F) : Rec F :=
  { r with
    hist := VecWindow.put r.hist ![t - 1, 0, 0] S1x32x512.size (histRow r.h)
    hs := VecWindow.put r.hs ![t - 1, 0, 0] S1x32x128.size (shapeCast S1x32x128 (hsSum (qC (q3 r.h A.wq)) A.bhh) shapeCasts_S32x128_S1x32x128) }

/-- A step's context vector. -/
def cvOf (A : Ins F) (ca : Vec F S64x32x128 .f32) (h : FVec F S32x512 .f32) : FVec F S32x512 .bf16 := ctxV (expA ca (qA (q3 h A.wq)) A.wa) A.cx

/-- A step's gates' arguments. -/
def gatesOf (A : Ins F) (t : ℕ) (x : Vec F S1x1x32x512 .bf16) (ca : Vec F S64x32x128 .f32) (r : Rec F) : FVec F S32x2048 .f32 :=
  gates r.h (cvOf A ca r.h) (parV A.tab r.hist t) (hctxV (expB r.hs (qB (q3 r.h A.wq)) A.wha) r.hist) x A.w1 A.w2 A.bx

/-- The new states. -/
def cellRec (A : Ins F) (t : ℕ) (x : Vec F S1x1x32x512 .bf16) (ca : Vec F S64x32x128 .f32) (r : Rec F) : Rec F :=
  { r with h := newH (gatesOf A t x ca r) (newC (gatesOf A t x ca r) r.c), c := newC (gatesOf A t x ca r) r.c }

/-- The step's two result rows in their blocks. -/
def cellSt (k : ℕ) (h : FVec F S32x512 .f32) (cv : FVec F S32x512 .bf16) (s : St F) : St F :=
  { s with
    o := VecWindow.put s.o ![0, k, 0, 0] S1x1x32x512.size (shapeCast S1x1x32x512 h shapeCasts_S32x512_S1x1x32x512)
    oc := VecWindow.put s.oc ![0, k, 0, 0] S1x1x32x512.size (shapeCast S1x1x32x512 (extf .f32 cv bitsLt_bf16_f32) shapeCasts_S32x512_S1x1x32x512) }

theorem scatter_of {k : Nat} {hk : k < 8} {hp : HasPrev i k} {K : Body F α}
    (hK : Held d M q A x (scatRec A (8 * (i 1).val + k) r) s R ⊢ Wp d Q K) :
    Held d M q A x r s R ⊢ Wp d Q (scatter i M.a12 M.a19 M.w19 M.a20 k hk hp r.h (q3 r.h A.wq) K) := by
  unfold scatter scatA scatB scatC
  refine ld_of fixed19 ?_
  refine st_of (scOff_eq i ⟨k, hk⟩ hp) (held19 d M q A x r s R) ?_
  refine ldAll_of (held12 d M q A x _ s R) ?_
  refine ld_of fixed20 ?_
  exact st_of (scOff_eq i ⟨k, hk⟩ hp) (held20 d M q A x _ s R) hK

theorem cell_of {k : Nat} {hk : k < 8} {cv par hc} {K : FVec F S32x512 .f32 → FVec F S32x512 .f32 → Body F α} {h c : FVec F S32x512 .f32}
    (hK : ∀ g, g = gates h cv par hc (xRow x k) A.w1 A.w2 A.bx → Held d M q A x r (cellSt k (newH g (newC g c)) cv s) R ⊢ Wp d Q (K (newH g (newC g c)) (newC g c))) :
    Held d M q A x r s R ⊢ Wp d Q (stepCell M.a3 M.a8 M.a9 M.a10 M.a15 M.a16 k hk h c cv par hc K) := by
  unfold stepCell
  refine ld_of (held3 d M q A x r s R) ?_
  have ex : View.ld x (Rect.unit (s := S1x8x32x512) ![0, k, 0, 0] S1x1x32x512.size (outOff_inb k hk)) = xRow x k := by
    funext j
    refine congrArg x (funext fun a => Fin.ext ?_)
    fin_cases a
    · show 0 + 1 * (j 0).val = 0
      have : (j 0).val < 1 := (j 0).isLt
      omega
    · show k + 1 * (j 1).val = k % 8
      have : (j 1).val < 1 := (j 1).isLt
      omega
    · show 0 + 1 * (j 2).val = (j 2).val
      omega
    · show 0 + 1 * (j 3).val = (j 3).val
      omega
  rw [ex]
  refine ldAll_of (held8 d M q A x r s R) ?_
  refine ldAll_of (held9 d M q A x r s R) ?_
  refine ldAll_of (held10 d M q A x r s R) ?_
  refine ld_of fixed15 ?_
  refine st_of rfl (held15 d M q A x r s R) ?_
  refine ld_of fixed16 ?_
  refine st_of rfl (held16 d M q A x r _ R) ?_
  exact hK _ rfl

theorem rest_of {k : Nat} {hk : k < 8} {K : FVec F S32x512 .f32 → FVec F S32x512 .f32 → Body F α} (hT : TabIn (F := F) A.tab) {t : ℕ} (ht : t = 8 * (i 1).val + k)
    (hK : Held d M q A x (cellRec A t (xRow x k) s.ca r) (cellSt k (cellRec A t (xRow x k) s.ca r).h (cvOf A s.ca r.h) s) R
      ⊢ Wp d Q (K (cellRec A t (xRow x k) s.ca r).h (cellRec A t (xRow x k) s.ca r).c)) :
    Held d M q A x r s R ⊢ Wp d Q (stepRest i M.a2 M.a3 M.a5 M.a8 M.a9 M.a10 M.a14 M.a15 M.a16 M.a19 M.a20 k hk r.h r.c
      (expA s.ca (qA (q3 r.h A.wq)) A.wa) (qB (q3 r.h A.wq)) K) := by
  subst ht
  unfold stepRest attB
  refine ldAll_of (held5 d M q A x r s R) ?_
  refine ldAll_of fixed20 ?_
  refine ldAll_of (held14 d M q A x r s R) ?_
  refine ldAll_of fixed19 ?_
  refine gather_of hT ?_
  refine cell_of fun g hg => ?_
  subst hg
  exact hK

/-- The step's new recurrence state: the step before entered, unless this is the first, then the cell. -/
def stepRec (A : Ins F) (t : ℕ) (x : Vec F S1x1x32x512 .bf16) (ca : Vec F S64x32x128 .f32) (r : Rec F) : Rec F :=
  cellRec A t x ca (if t = 0 then r else scatRec A t r)

/-- What a step makes of both. -/
def stepPair (A : Ins F) (x : Vec F S1x8x32x512 .bf16) (t0 k : ℕ) (p : Rec F × St F) : Rec F × St F :=
  (stepRec A (t0 + k) (xRow x k) p.2.ca p.1, cellSt k (stepRec A (t0 + k) (xRow x k) p.2.ca p.1).h (cvOf A p.2.ca p.1.h) p.2)

theorem step_of {k : Nat} {hk : k < 8} {hp : HasPrev i k} {K : FVec F S32x512 .f32 → FVec F S32x512 .f32 → Body F α} (hT : TabIn (F := F) A.tab)
    {p : Rec F × St F}
    (hK : Held d M q A x (stepPair A x (8 * (i 1).val) k p).1 (stepPair A x (8 * (i 1).val) k p).2 R
      ⊢ Wp d Q (K (stepPair A x (8 * (i 1).val) k p).1.h (stepPair A x (8 * (i 1).val) k p).1.c)) :
    Held d M q A x p.1 p.2 R ⊢ Wp d Q (step i M.a2 M.a3 M.a5 M.a6 M.a8 M.a9 M.a10 M.a12 M.a13 M.a14 M.a15 M.a16 M.a19 M.w19 M.a20 M.a21 k hk hp p.1.h p.1.c K) := by
  unfold step stepHead stepTail attA
  refine ldAll_of (held6 d M q A x p.1 p.2 R) ?_
  refine scatter_of ?_
  refine ldAll_of fixed21 ?_
  refine ldAll_of (held13 d M q A x _ p.2 R) ?_
  have h0 : ¬ (8 * (i 1).val + k = 0) := by have : 1 ≤ 8 * (i 1).val + k := hp; omega
  unfold stepPair stepRec at hK
  rw [if_neg h0] at hK
  exact rest_of (r := scatRec A (8 * (i 1).val + k) p.1) hT rfl hK

end Cert.Proof.Lstm

end
-- ==== Proof.BodyEq.lean ====
/-
  The printed body is the chain of steps: at the first grid point with the preparation, at a later one without.
-/
module

public import proofs.«01_k».proof.Proof.Step

@[expose] public section

noncomputable section

namespace Cert.Proof.Lstm

open Idealize.ShloMosaic Idealize.ShloMosaic.TcCoe Idealize.SL.Sem
open Cert.KernelIdeal Cert.KernelIdeal.Facts₀ Cert.KernelIdeal.Facts

variable {F : FTy → Type} [FloatOps F] [Facts] {α : Type}

theorem cond1_iff : ∀ i : grid0.Coords, (Scalar.cmpi .ne (Scalar.extui (Scalar.cmpi .eq (BitVec.ofNat 32 (i 1).val) 0#32)) 0#32 : BitVec 1) = 1#1 ↔ (i 1).val = 0 := by
  decide +kernel

theorem cond2_iff : ∀ i : grid0.Coords, k0_cond2 i = 1#1 ↔ HasPrev i 0 := by decide +kernel

variable (i : grid0.Coords) (arg2 : Memref sig .tc .smem S128x32 .i32) (harg2 : arg2.IsWhole) (arg3 : Memref sig .tc .vmem S1x8x32x512 .bf16) (harg3 : arg3.IsWhole)
  (arg4 : Memref sig .tc .vmem S1x32x512 .f32) (harg4 : arg4.IsWhole) (arg5 : Memref sig .tc .vmem S1x64x32x512 .bf16) (harg5 : arg5.IsWhole)
  (arg6 : Memref sig .tc .vmem S512x384 .bf16) (harg6 : arg6.IsWhole)
  (arg7 : Memref sig .tc .vmem S512x128 .bf16) (harg7 : arg7.IsWhole) (arg8 : Memref sig .tc .vmem S1024x2048 .bf16) (harg8 : arg8.IsWhole)
  (arg9 : Memref sig .tc .vmem S1536x2048 .bf16) (harg9 : arg9.IsWhole)
  (arg10 : Memref sig .tc .vmem S1x2048 .f32) (harg10 : arg10.IsWhole) (arg11 : Memref sig .tc .vmem S1x128 .f32) (harg11 : arg11.IsWhole)
  (arg12 : Memref sig .tc .vmem S1x128 .f32) (harg12 : arg12.IsWhole) (arg13 : Memref sig .tc .vmem S1x128 .f32) (harg13 : arg13.IsWhole)
  (arg14 : Memref sig .tc .vmem S1x128 .f32) (harg14 : arg14.IsWhole)
  (arg15 : Memref sig .tc .vmem S1x8x32x512 .f32) (harg15 : arg15.IsWhole) (arg16 : Memref sig .tc .vmem S1x8x32x512 .f32) (harg16 : arg16.IsWhole)
  (arg17 : Memref sig .tc .vmem S32x512 .f32) (harg17 : arg17.IsWhole) (arg18 : Memref sig .tc .vmem S32x512 .f32) (harg18 : arg18.IsWhole)
  (arg19 : Memref sig .tc .vmem S128x32x512 .bf16) (harg19 : arg19.IsWhole) (arg20 : Memref sig .tc .vmem S128x32x128 .f32) (harg20 : arg20.IsWhole)
  (arg21 : Memref sig .tc .vmem S64x32x128 .f32) (harg21 : arg21.IsWhole)

theorem prev (k : Nat) (h : 1 ≤ k) : HasPrev i k := Nat.le_trans h (Nat.le_add_left _ _)

/-! ## The printed parts, from one step to the next -/

def seg0 (arg1 : BitVec 32) (v3 : FVec F S32x512 .f32) (v4 : FVec F S32x512 .f32) (v6 : BitVec 32) (v12 : FVec F S32x128 .f32) (v32 : FVec F S64x32 .f32) (v34 : FVec F S1x32 .f32) (K : FVec F S32x512 .f32 → FVec F S32x512 .f32 → BitVec 32 → FVec F S32x128 .f32 → FVec F S32x128 .f32 → FVec F S32x128 .f32 → Body F α) : Body F α := do
  let ⟨v45, v75⟩ ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v12 v32 v34
  let ⟨v80, v85, v90, v95, v100, v105, v107, k0_hw7⟩ ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6
  let ⟨v110, v115, v120, v125, v130, v135, v140, v142, k0_hw14⟩ ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v107 k0_hw7
  let ⟨v145, v150, v155, v160, v165, v170, v175⟩ ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v142 k0_hw14
  let ⟨v180, v185, v190, v195, v200, v205, v207, k0_hw27⟩ ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6
  let ⟨v240, v241, v242⟩ ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v3 v6 v45 v75 v80 v85 v90 v95 v100 v105 v110 v115 v120 v125 v130 v135 v140 v145 v150 v155 v160 v165 v170 v175 v180 v185 v190 v195 v200 v205 v207 k0_hw27
  let ⟨v262, v265, v274, v279, v280, v281⟩ ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v4 v45 v240 v241 v242
  K v262 v265 v274 v279 v280 v281

def seg1 (arg1 : BitVec 32) (v262 : FVec F S32x512 .f32) (v265 : FVec F S32x512 .f32) (v274 : BitVec 32) (v279 : FVec F S32x128 .f32) (v280 : FVec F S32x128 .f32) (v281 : FVec F S32x128 .f32) (K : FVec F S32x512 .f32 → FVec F S32x512 .f32 → BitVec 32 → FVec F S32x128 .f32 → FVec F S32x128 .f32 → FVec F S32x128 .f32 → FVec F S1x32x512 .bf16 → Body F α) : Body F α := do
  let ⟨v318, v319⟩ ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v265 v274 v279 v281
  let ⟨v325, v355, v360⟩ ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v274 v280 v318 v319
  let ⟨v365, v370, v375, v380, v385, v390, v392, k0_hw40⟩ ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v274
  let ⟨v395, v400, v405, v410, v415, v420, v425, v427, k0_hw47⟩ ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v274 v392 k0_hw40
  let ⟨v430, v435, v440, v445, v450, v455, v460⟩ ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v274 v427 k0_hw47
  let ⟨v465, v470, v475, v480, v485, v490, v492, k0_hw60⟩ ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v274
  let ⟨v524, v527⟩ ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v265 v274 v325 v355 v360 v365 v370 v375 v380 v385 v390 v395 v400 v405 v410 v415 v420 v425 v430 v435 v440 v445 v450 v455 v460 v465 v470 v475 v480 v485 v490 v492 k0_hw60
  let ⟨v542, v545, v554, v559, v560, v561, v567⟩ ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v262 v325 v524 v527
  K v542 v545 v554 v559 v560 v561 v567

def seg2 (arg1 : BitVec 32) (v542 : FVec F S32x512 .f32) (v545 : FVec F S32x512 .f32) (v554 : BitVec 32) (v559 : FVec F S32x128 .f32) (v560 : FVec F S32x128 .f32) (v561 : FVec F S32x128 .f32) (v567 : FVec F S1x32x512 .bf16) (K : FVec F S32x512 .f32 → FVec F S32x512 .f32 → BitVec 32 → FVec F S32x128 .f32 → FVec F S32x128 .f32 → FVec F S32x128 .f32 → BitVec 32 → Body F α) : Body F α := do
  let v605 : FVec F S32x512 .bf16 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v554 v559 v561 v567
  let ⟨v635, v640, v645⟩ ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v554 v560
  let ⟨v650, v655, v660, v665, v670, v675, v677, k0_hw73⟩ ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v554
  let ⟨v680, v685, v690, v695, v700, v705, v710, v712, k0_hw80⟩ ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v554 v677 k0_hw73
  let ⟨v715, v720, v725, v730, v735, v740, v745⟩ ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v554 v712 k0_hw80
  let ⟨v750, v755, v760, v765, v770, v775, v777, k0_hw93⟩ ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v554
  let ⟨v812, v813, v814⟩ ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v545 v554 v605 v635 v640 v645 v650 v655 v660 v665 v670 v675 v680 v685 v690 v695 v700 v705 v710 v715 v720 v725 v730 v735 v740 v745 v750 v755 v760 v765 v770 v775 v777 k0_hw93
  let ⟨v822, v825, v834, v839, v840, v851, v852⟩ ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v542 v605 v812 v813 v814
  K v822 v825 v834 v839 v840 v851 v852

def seg3 (arg1 : BitVec 32) (v822 : FVec F S32x512 .f32) (v825 : FVec F S32x512 .f32) (v834 : BitVec 32) (v839 : FVec F S32x128 .f32) (v840 : FVec F S32x128 .f32) (v851 : FVec F S32x128 .f32) (v852 : BitVec 32) (K : FVec F S32x512 .f32 → FVec F S32x512 .f32 → BitVec 32 → FVec F S32x128 .f32 → FVec F S32x128 .f32 → Body F α) : Body F α := do
  let ⟨v885, v890, v891⟩ ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v839 v840 v851 v852
  let ⟨v915, v920, v925, v930⟩ ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v834 v890 v891
  let ⟨v935, v940, v945, v950, v955, v960, v962, k0_hw106⟩ ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v834
  let ⟨v965, v970, v975, v980, v985, v990, v995, v997, k0_hw113⟩ ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v834 v962 k0_hw106
  let ⟨v1000, v1005, v1010, v1015, v1020, v1025, v1030⟩ ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v834 v997 k0_hw113
  let ⟨v1035, v1040, v1045, v1050, v1055, v1060, v1062, k0_hw126⟩ ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v834
  let ⟨v1102, v1103⟩ ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v822 v825 v834 v885 v915 v920 v925 v930 v935 v940 v945 v950 v955 v960 v965 v970 v975 v980 v985 v990 v995 v1000 v1005 v1010 v1015 v1020 v1025 v1030 v1035 v1040 v1045 v1050 v1055 v1060 v1062 k0_hw126
  let ⟨v1105, v1114, v1119, v1120⟩ ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v885 v1102 v1103
  K v1102 v1105 v1114 v1119 v1120

def seg4 (arg1 : BitVec 32) (v1102 : FVec F S32x512 .f32) (v1105 : FVec F S32x512 .f32) (v1114 : BitVec 32) (v1119 : FVec F S32x128 .f32) (v1120 : FVec F S32x128 .f32) (K : FVec F S32x512 .f32 → FVec F S32x512 .f32 → BitVec 32 → FVec F S32x128 .f32 → FVec F S64x32x128 .f32 → Vec F S1x128 .f32 → Body F α) : Body F α := do
  let ⟨v1165, v1176, v1178⟩ ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1119 v1120
  let ⟨v1195, v1200, v1205, v1210, v1215⟩ ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1114 v1176 v1178
  let ⟨v1220, v1225, v1230, v1235, v1240, v1245, v1247, k0_hw139⟩ ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1114
  let ⟨v1250, v1255, v1260, v1265, v1270, v1275, v1280, v1282, k0_hw146⟩ ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1114 v1247 k0_hw139
  let ⟨v1285, v1290, v1295, v1300, v1305, v1310, v1315⟩ ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1114 v1282 k0_hw146
  let ⟨v1320, v1325, v1330, v1335, v1340, v1345, v1347, k0_hw159⟩ ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1114
  let ⟨v1382, v1385, v1388⟩ ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1102 v1105 v1114 v1165 v1195 v1200 v1205 v1210 v1215 v1220 v1225 v1230 v1235 v1240 v1245 v1250 v1255 v1260 v1265 v1270 v1275 v1280 v1285 v1290 v1295 v1300 v1305 v1310 v1315 v1320 v1325 v1330 v1335 v1340 v1345 v1347 k0_hw159
  let ⟨v1394, v1400, v1421, v1422⟩ ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v1165 v1385 v1388
  K v1382 v1385 v1394 v1400 v1421 v1422

def seg5 (arg1 : BitVec 32) (v1382 : FVec F S32x512 .f32) (v1385 : FVec F S32x512 .f32) (v1394 : BitVec 32) (v1400 : FVec F S32x128 .f32) (v1421 : FVec F S64x32x128 .f32) (v1422 : Vec F S1x128 .f32) (K : FVec F S32x512 .f32 → FVec F S32x512 .f32 → BitVec 32 → FVec F S32x128 .f32 → FVec F S64x32 .f32 → FVec F S1x32 .f32 → Body F α) : Body F α := do
  let ⟨v1445, v1461, v1465⟩ ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1400 v1421 v1422
  let ⟨v1475, v1480, v1485, v1490, v1495, v1500⟩ ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1394 v1461 v1465
  let ⟨v1505, v1510, v1515, v1520, v1525, v1530, v1532, k0_hw172⟩ ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1394
  let ⟨v1535, v1540, v1545, v1550, v1555, v1560, v1565, v1567, k0_hw179⟩ ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1394 v1532 k0_hw172
  let ⟨v1570, v1575, v1580, v1585, v1590, v1595, v1600⟩ ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1394 v1567 k0_hw179
  let ⟨v1605, v1610, v1615, v1620, v1625, v1630, v1632, k0_hw192⟩ ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1394
  let ⟨v1662, v1665, v1672⟩ ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1382 v1385 v1445 v1475 v1480 v1485 v1490 v1495 v1500 v1505 v1510 v1515 v1520 v1525 v1530 v1535 v1540 v1545 v1550 v1555 v1560 v1565 v1570 v1575 v1580 v1585 v1590 v1595 v1600 v1605 v1610 v1615 v1620 v1625 v1630 v1632 k0_hw192
  let ⟨v1674, v1680, v1707, v1709⟩ ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v1665 v1672
  K v1662 v1665 v1674 v1680 v1707 v1709

def seg6 (arg1 : BitVec 32) (v1662 : FVec F S32x512 .f32) (v1665 : FVec F S32x512 .f32) (v1674 : BitVec 32) (v1680 : FVec F S32x128 .f32) (v1707 : FVec F S64x32 .f32) (v1709 : FVec F S1x32 .f32) (K : FVec F S32x512 .f32 → FVec F S32x512 .f32 → BitVec 32 → FVec F S32x512 .bf16 → Vec F S512x384 .bf16 → Body F α) : Body F α := do
  let ⟨v1725, v1750, v1751⟩ ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1680 v1707 v1709
  let ⟨v1755, v1760, v1765, v1770, v1775, v1780, v1785⟩ ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1674 v1750 v1751
  let ⟨v1790, v1795, v1800, v1805, v1810, v1815, v1817, k0_hw205⟩ ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1674
  let ⟨v1820, v1825, v1830, v1835, v1840, v1845, v1850, v1852, k0_hw212⟩ ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1674 v1817 k0_hw205
  let ⟨v1855, v1860, v1865, v1870, v1875, v1880, v1885⟩ ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1674 v1852 k0_hw212
  let ⟨v1916, v1918⟩ ← k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1674 v1760 v1765 v1770 v1775 v1780 v1785 v1790 v1795 v1800 v1805 v1810 v1815 v1820 v1825 v1830 v1835 v1840 v1845 v1850 v1855 v1860 v1865 v1870 v1875 v1880 v1885
  let ⟨v1942, v1945, v1954, v1955, v1956⟩ ← k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v1662 v1665 v1725 v1755 v1916 v1918
  K v1942 v1945 v1954 v1955 v1956

def seg7 (arg1 : BitVec 32) (v1942 : FVec F S32x512 .f32) (v1945 : FVec F S32x512 .f32) (v1954 : BitVec 32) (v1955 : FVec F S32x512 .bf16) (v1956 : Vec F S512x384 .bf16) :
    Body F (Σ' (v1942 : FVec F S32x512 .f32) (v1945 : FVec F S32x512 .f32) (v1954 : BitVec 32) (v2005 : FVec F S32x512 .bf16) (v2035 : FVec F S32x512 .bf16) (v2040 : FVec F S1x512 .bf16) (v2045 : FVec F S1x512 .bf16) (v2050 : FVec F S1x512 .bf16) (v2055 : FVec F S1x512 .bf16) (v2060 : FVec F S1x512 .bf16) (v2065 : FVec F S1x512 .bf16) (v2070 : FVec F S1x512 .bf16) (v2075 : FVec F S1x512 .bf16) (v2080 : FVec F S1x512 .bf16) (v2085 : FVec F S1x512 .bf16) (v2090 : FVec F S1x512 .bf16) (v2095 : FVec F S1x512 .bf16) (v2100 : FVec F S1x512 .bf16) (v2105 : FVec F S1x512 .bf16) (v2110 : FVec F S1x512 .bf16) (v2115 : FVec F S1x512 .bf16) (v2120 : FVec F S1x512 .bf16) (v2125 : FVec F S1x512 .bf16) (v2130 : FVec F S1x512 .bf16) (v2135 : FVec F S1x512 .bf16) (v2137 : Elt F .i32), k0_chk245 v2137) := do
  let ⟨v1960, v1997⟩ ← k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1945 v1954 v1955 v1956
  let ⟨v2005, v2035, v2037, k0_hw225⟩ ← k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1954 v1960 v1997
  let ⟨v2040, v2045, v2050, v2055, v2060, v2065, v2070⟩ ← k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1954 v2037 k0_hw225
  let ⟨v2075, v2080, v2085, v2090, v2095, v2100, v2102, k0_hw238⟩ ← k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1954
  let ⟨v2105, v2110, v2115, v2120, v2125, v2130, v2135, v2137, k0_hw245⟩ ← k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1954 v2102 k0_hw238
  pure ⟨v1942, v1945, v1954, v2005, v2035, v2040, v2045, v2050, v2055, v2060, v2065, v2070, v2075, v2080, v2085, v2090, v2095, v2100, v2105, v2110, v2115, v2120, v2125, v2130, v2135, v2137, k0_hw245⟩

set_option maxRecDepth 100000 in
theorem seg0_eq (h c : FVec F S32x512 .f32) (qb : FVec F S32x128 .f32) (e : FVec F S64x32 .f32) (K : FVec F S32x512 .f32 → FVec F S32x512 .f32 → BitVec 32 → FVec F S32x128 .f32 → FVec F S32x128 .f32 → FVec F S32x128 .f32 → Body F α) :
    seg0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) h c (tw i 0) qb e (sumA e) K
    = (stepRest i arg2 arg3 arg5 arg8 arg9 arg10 arg14 arg15 arg16 arg19 arg20 0 (by decide) h c e qb fun h c => stepHead arg6 fun w =>
      K c h (tw i 1) (qA (q3 h w)) (qB (q3 h w)) (qC (q3 h w))) := rfl

set_option maxRecDepth 100000 in
theorem seg1_eq (h c : FVec F S32x512 .f32) (q : FVec F S32x384 .f32) (K : FVec F S32x512 .f32 → FVec F S32x512 .f32 → BitVec 32 → FVec F S32x128 .f32 → FVec F S32x128 .f32 → FVec F S32x128 .f32 → FVec F S1x32x512 .bf16 → Body F α) :
    seg1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) c h (tw i 1) (qA q) (qB q) (qC q) K
    = (scatter i arg12 arg19 harg19 arg20 1 (by decide) (prev i 1 (by decide)) h q <| stepTail i arg2 arg3 arg5 arg8 arg9 arg10 arg13 arg14 arg15 arg16 arg19 arg20 arg21 1 (by decide) h c q fun h c => stepHead arg6 fun w => scatA i arg19 2 (by decide) (prev i 2 (by decide)) <|
      K c h (tw i 2) (qA (q3 h w)) (qB (q3 h w)) (qC (q3 h w)) (histRow h)) := rfl

set_option maxRecDepth 100000 in
theorem seg2_eq (h c : FVec F S32x512 .f32) (q : FVec F S32x384 .f32) (K : FVec F S32x512 .f32 → FVec F S32x512 .f32 → BitVec 32 → FVec F S32x128 .f32 → FVec F S32x128 .f32 → FVec F S32x128 .f32 → BitVec 32 → Body F α) :
    seg2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) c h (tw i 2) (qA q) (qB q) (qC q) (histRow h) K
    = (scatB i arg12 arg19 harg19 2 (by decide) (prev i 2 (by decide)) (histRow h) fun b => scatC i arg20 2 (by decide) (prev i 2 (by decide)) (hsSum (qC q) b) <| stepTail i arg2 arg3 arg5 arg8 arg9 arg10 arg13 arg14 arg15 arg16 arg19 arg20 arg21 2 (by decide) h c q fun h c => stepHead arg6 fun w =>
      scatA i arg19 3 (by decide) (prev i 3 (by decide)) <| scatB i arg12 arg19 harg19 3 (by decide) (prev i 3 (by decide)) (histRow h) fun b =>
      K c h (tw i 3) (qA (q3 h w)) (qB (q3 h w)) (hsSum (qC (q3 h w)) b) (Scalar.subi (tw i 3) 1#32)) := rfl

set_option maxRecDepth 100000 in
theorem seg3_eq (h c : FVec F S32x512 .f32) (q : FVec F S32x384 .f32) (b : Vec F S1x128 .f32) (K : FVec F S32x512 .f32 → FVec F S32x512 .f32 → BitVec 32 → FVec F S32x128 .f32 → FVec F S32x128 .f32 → Body F α) :
    seg3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) c h (tw i 3) (qA q) (qB q) (hsSum (qC q) b) (Scalar.subi (tw i 3) 1#32) K
    = (scatC i arg20 3 (by decide) (prev i 3 (by decide)) (hsSum (qC q) b) <| stepTail i arg2 arg3 arg5 arg8 arg9 arg10 arg13 arg14 arg15 arg16 arg19 arg20 arg21 3 (by decide) h c q fun h c => stepHead arg6 fun w =>
      scatter i arg12 arg19 harg19 arg20 4 (by decide) (prev i 4 (by decide)) h (q3 h w) <|
      K c h (tw i 4) (qA (q3 h w)) (qB (q3 h w))) := rfl

set_option maxRecDepth 100000 in
theorem seg4_eq (h c : FVec F S32x512 .f32) (q : FVec F S32x384 .f32) (K : FVec F S32x512 .f32 → FVec F S32x512 .f32 → BitVec 32 → FVec F S32x128 .f32 → FVec F S64x32x128 .f32 → Vec F S1x128 .f32 → Body F α) :
    seg4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) c h (tw i 4) (qA q) (qB q) K
    = (stepTail i arg2 arg3 arg5 arg8 arg9 arg10 arg13 arg14 arg15 arg16 arg19 arg20 arg21 4 (by decide) h c q fun h c => stepHead arg6 fun w =>
      scatter i arg12 arg19 harg19 arg20 5 (by decide) (prev i 5 (by decide)) h (q3 h w) <| attA arg13 arg21 fun ca wa =>
      K c h (tw i 5) (qB (q3 h w)) (tanhA ca (qA (q3 h w))) wa) := rfl

set_option maxRecDepth 100000 in
theorem seg5_eq (h c : FVec F S32x512 .f32) (qa qb : FVec F S32x128 .f32) (ca : Vec F S64x32x128 .f32) (wa : Vec F S1x128 .f32) (K : FVec F S32x512 .f32 → FVec F S32x512 .f32 → BitVec 32 → FVec F S32x128 .f32 → FVec F S64x32 .f32 → FVec F S1x32 .f32 → Body F α) :
    seg5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) c h (tw i 5) qb (tanhA ca qa) wa K
    = (stepRest i arg2 arg3 arg5 arg8 arg9 arg10 arg14 arg15 arg16 arg19 arg20 5 (by decide) h c (expA ca qa wa) qb fun h c => stepHead arg6 fun w =>
      scatter i arg12 arg19 harg19 arg20 6 (by decide) (prev i 6 (by decide)) h (q3 h w) <| attA arg13 arg21 fun ca wa =>
      K c h (tw i 6) (qB (q3 h w)) (scoreA (tanhA ca (qA (q3 h w))) wa) (maxA (scoreA (tanhA ca (qA (q3 h w))) wa))) := rfl

set_option maxRecDepth 100000 in
theorem seg6_eq (h c : FVec F S32x512 .f32) (qa qb : FVec F S32x128 .f32) (ca : Vec F S64x32x128 .f32) (wa : Vec F S1x128 .f32) (K : FVec F S32x512 .f32 → FVec F S32x512 .f32 → BitVec 32 → FVec F S32x512 .bf16 → Vec F S512x384 .bf16 → Body F α) :
    seg6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) c h (tw i 6) qb (scoreA (tanhA ca qa) wa) (maxA (scoreA (tanhA ca qa) wa)) K
    = (stepRest i arg2 arg3 arg5 arg8 arg9 arg10 arg14 arg15 arg16 arg19 arg20 6 (by decide) h c (expA ca qa wa) qb fun h c => stepHead arg6 fun w =>
      K c h (tw i 7) (truncf .bf16 h bitsLt_bf16_f32) w) := rfl

/-- What stands before the first context scores. -/
def openFirst (K : FVec F S32x512 .f32 → FVec F S32x512 .f32 → FVec F S32x128 .f32 → FVec F S64x32 .f32 → Body F α) : Body F α :=
  prepare arg4 arg5 arg7 arg11 arg12 arg17 arg18 arg19 harg19 arg20 arg21 <| enter arg17 arg18 fun h c => stepHead arg6 fun w => attA arg13 arg21 fun ca wa => K h c (qB (q3 h w)) (expA ca (qA (q3 h w)) wa)

set_option maxRecDepth 100000 in
theorem part2_first (hi : (i 1).val = 0) : k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    = openFirst arg4 arg5 arg6 arg7 arg11 arg12 arg13 arg17 arg18 arg19 harg19 arg20 arg21 fun h c qb e => .ret ⟨(BitVec.ofNat 32 (i 1).val), h, c, tw i 0, qb, e, sumA e⟩ := by
  have h1 : (Scalar.cmpi .ne (Scalar.extui (Scalar.cmpi .eq (BitVec.ofNat 32 (i 1).val) 0#32)) 0#32 : BitVec 1) = 1#1 := (cond1_iff i).2 hi
  have h2 : ¬ k0_cond2 i = 1#1 := by rw [cond2_iff]; unfold HasPrev; omega
  unfold k0_part2
  simp only [dif_pos h1, dif_neg h2]
  rfl

/-- What stands before the first context scores. -/
def openLater (hi : HasPrev i 0) (K : FVec F S32x512 .f32 → FVec F S32x512 .f32 → FVec F S32x128 .f32 → FVec F S64x32 .f32 → Body F α) : Body F α :=
  enter arg17 arg18 fun h c => stepHead arg6 fun w => scatter i arg12 arg19 harg19 arg20 0 (by decide) hi h (q3 h w) <| attA arg13 arg21 fun ca wa => K h c (qB (q3 h w)) (expA ca (qA (q3 h w)) wa)

set_option maxRecDepth 100000 in
theorem part2_later (hi : HasPrev i 0) : k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    = openLater i arg6 arg12 arg13 arg17 arg18 arg19 harg19 arg20 arg21 hi fun h c qb e => .ret ⟨(BitVec.ofNat 32 (i 1).val), h, c, tw i 0, qb, e, sumA e⟩ := by
  have h1 : ¬ (Scalar.cmpi .ne (Scalar.extui (Scalar.cmpi .eq (BitVec.ofNat 32 (i 1).val) 0#32)) 0#32 : BitVec 1) = 1#1 := by
    rw [cond1_iff]; unfold HasPrev at hi; omega
  have h2 : k0_cond2 i = 1#1 := (cond2_iff i).2 hi
  unfold k0_part2
  simp only [dif_neg h1, dif_pos h2]
  rfl

set_option maxRecDepth 100000 in
theorem part64_first (hi : (i 1).val = 0) : k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    = (openFirst arg4 arg5 arg6 arg7 arg11 arg12 arg13 arg17 arg18 arg19 harg19 arg20 arg21 fun h c qb e =>
      stepRest i arg2 arg3 arg5 arg8 arg9 arg10 arg14 arg15 arg16 arg19 arg20 0 (by decide) h c e qb fun h c =>
      stepHead arg6 fun w => scatter i arg12 arg19 harg19 arg20 1 (by decide) (prev i 1 (by decide)) h (q3 h w) <| stepTail i arg2 arg3 arg5 arg8 arg9 arg10 arg13 arg14 arg15 arg16 arg19 arg20 arg21 1 (by decide) h c (q3 h w) fun h c =>
      stepHead arg6 fun w => scatter i arg12 arg19 harg19 arg20 2 (by decide) (prev i 2 (by decide)) h (q3 h w) <| stepTail i arg2 arg3 arg5 arg8 arg9 arg10 arg13 arg14 arg15 arg16 arg19 arg20 arg21 2 (by decide) h c (q3 h w) fun h c =>
      stepHead arg6 fun w => scatter i arg12 arg19 harg19 arg20 3 (by decide) (prev i 3 (by decide)) h (q3 h w) <| stepTail i arg2 arg3 arg5 arg8 arg9 arg10 arg13 arg14 arg15 arg16 arg19 arg20 arg21 3 (by decide) h c (q3 h w) fun h c =>
      stepHead arg6 fun w => scatter i arg12 arg19 harg19 arg20 4 (by decide) (prev i 4 (by decide)) h (q3 h w) <| stepTail i arg2 arg3 arg5 arg8 arg9 arg10 arg13 arg14 arg15 arg16 arg19 arg20 arg21 4 (by decide) h c (q3 h w) fun h c =>
      stepHead arg6 fun w => scatter i arg12 arg19 harg19 arg20 5 (by decide) (prev i 5 (by decide)) h (q3 h w) <| stepTail i arg2 arg3 arg5 arg8 arg9 arg10 arg13 arg14 arg15 arg16 arg19 arg20 arg21 5 (by decide) h c (q3 h w) fun h c =>
      stepHead arg6 fun w => scatter i arg12 arg19 harg19 arg20 6 (by decide) (prev i 6 (by decide)) h (q3 h w) <| stepTail i arg2 arg3 arg5 arg8 arg9 arg10 arg13 arg14 arg15 arg16 arg19 arg20 arg21 6 (by decide) h c (q3 h w) fun h c =>
      stepHead arg6 fun w => seg7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) c h (tw i 7) (truncf .bf16 h bitsLt_bf16_f32) w) := by
  have e : k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    = Prog.bind (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) fun p =>
      seg0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 p.2.1 p.2.2.1 p.2.2.2.1 p.2.2.2.2.1 p.2.2.2.2.2.1 p.2.2.2.2.2.2 fun v262 v265 v274 v279 v280 v281 =>
      seg1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v262 v265 v274 v279 v280 v281 fun v542 v545 v554 v559 v560 v561 v567 =>
      seg2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v542 v545 v554 v559 v560 v561 v567 fun v822 v825 v834 v839 v840 v851 v852 =>
      seg3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v822 v825 v834 v839 v840 v851 v852 fun v1102 v1105 v1114 v1119 v1120 =>
      seg4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v1102 v1105 v1114 v1119 v1120 fun v1382 v1385 v1394 v1400 v1421 v1422 =>
      seg5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v1382 v1385 v1394 v1400 v1421 v1422 fun v1662 v1665 v1674 v1680 v1707 v1709 =>
      seg6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v1662 v1665 v1674 v1680 v1707 v1709 fun v1942 v1945 v1954 v1955 v1956 =>
      seg7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v1942 v1945 v1954 v1955 v1956 := rfl
  rw [e, part2_first i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hi]
  have o : ∀ (K : (Σ' (arg1 : BitVec 32) (v3 : Vec F S32x512 .f32) (v4 : Vec F S32x512 .f32) (v6 : BitVec 32) (v12 : FVec F S32x128 .f32) (v32 : FVec F S64x32 .f32), FVec F S1x32 .f32) → Body F (Σ' (v1942 : FVec F S32x512 .f32) (v1945 : FVec F S32x512 .f32) (v1954 : BitVec 32) (v2005 : FVec F S32x512 .bf16) (v2035 : FVec F S32x512 .bf16) (v2040 : FVec F S1x512 .bf16) (v2045 : FVec F S1x512 .bf16) (v2050 : FVec F S1x512 .bf16) (v2055 : FVec F S1x512 .bf16) (v2060 : FVec F S1x512 .bf16) (v2065 : FVec F S1x512 .bf16) (v2070 : FVec F S1x512 .bf16) (v2075 : FVec F S1x512 .bf16) (v2080 : FVec F S1x512 .bf16) (v2085 : FVec F S1x512 .bf16) (v2090 : FVec F S1x512 .bf16) (v2095 : FVec F S1x512 .bf16) (v2100 : FVec F S1x512 .bf16) (v2105 : FVec F S1x512 .bf16) (v2110 : FVec F S1x512 .bf16) (v2115 : FVec F S1x512 .bf16) (v2120 : FVec F S1x512 .bf16) (v2125 : FVec F S1x512 .bf16) (v2130 : FVec F S1x512 .bf16) (v2135 : FVec F S1x512 .bf16) (v2137 : Elt F .i32), k0_chk245 v2137)),
      Prog.bind (openFirst arg4 arg5 arg6 arg7 arg11 arg12 arg13 arg17 arg18 arg19 harg19 arg20 arg21 fun h c qb e => .ret ⟨(BitVec.ofNat 32 (i 1).val), h, c, tw i 0, qb, e, sumA e⟩) K
      = openFirst arg4 arg5 arg6 arg7 arg11 arg12 arg13 arg17 arg18 arg19 harg19 arg20 arg21 fun h c qb e => K ⟨(BitVec.ofNat 32 (i 1).val), h, c, tw i 0, qb, e, sumA e⟩ := fun _ => rfl
  rw [o]
  simp only [seg0_eq, seg1_eq, seg2_eq, seg3_eq, seg4_eq, seg5_eq, seg6_eq]
  rfl

set_option maxRecDepth 100000 in
theorem part64_later (hi : HasPrev i 0) : k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    = (openLater i arg6 arg12 arg13 arg17 arg18 arg19 harg19 arg20 arg21 hi fun h c qb e =>
      stepRest i arg2 arg3 arg5 arg8 arg9 arg10 arg14 arg15 arg16 arg19 arg20 0 (by decide) h c e qb fun h c =>
      stepHead arg6 fun w => scatter i arg12 arg19 harg19 arg20 1 (by decide) (prev i 1 (by decide)) h (q3 h w) <| stepTail i arg2 arg3 arg5 arg8 arg9 arg10 arg13 arg14 arg15 arg16 arg19 arg20 arg21 1 (by decide) h c (q3 h w) fun h c =>
      stepHead arg6 fun w => scatter i arg12 arg19 harg19 arg20 2 (by decide) (prev i 2 (by decide)) h (q3 h w) <| stepTail i arg2 arg3 arg5 arg8 arg9 arg10 arg13 arg14 arg15 arg16 arg19 arg20 arg21 2 (by decide) h c (q3 h w) fun h c =>
      stepHead arg6 fun w => scatter i arg12 arg19 harg19 arg20 3 (by decide) (prev i 3 (by decide)) h (q3 h w) <| stepTail i arg2 arg3 arg5 arg8 arg9 arg10 arg13 arg14 arg15 arg16 arg19 arg20 arg21 3 (by decide) h c (q3 h w) fun h c =>
      stepHead arg6 fun w => scatter i arg12 arg19 harg19 arg20 4 (by decide) (prev i 4 (by decide)) h (q3 h w) <| stepTail i arg2 arg3 arg5 arg8 arg9 arg10 arg13 arg14 arg15 arg16 arg19 arg20 arg21 4 (by decide) h c (q3 h w) fun h c =>
      stepHead arg6 fun w => scatter i arg12 arg19 harg19 arg20 5 (by decide) (prev i 5 (by decide)) h (q3 h w) <| stepTail i arg2 arg3 arg5 arg8 arg9 arg10 arg13 arg14 arg15 arg16 arg19 arg20 arg21 5 (by decide) h c (q3 h w) fun h c =>
      stepHead arg6 fun w => scatter i arg12 arg19 harg19 arg20 6 (by decide) (prev i 6 (by decide)) h (q3 h w) <| stepTail i arg2 arg3 arg5 arg8 arg9 arg10 arg13 arg14 arg15 arg16 arg19 arg20 arg21 6 (by decide) h c (q3 h w) fun h c =>
      stepHead arg6 fun w => seg7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) c h (tw i 7) (truncf .bf16 h bitsLt_bf16_f32) w) := by
  have e : k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    = Prog.bind (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) fun p =>
      seg0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 p.2.1 p.2.2.1 p.2.2.2.1 p.2.2.2.2.1 p.2.2.2.2.2.1 p.2.2.2.2.2.2 fun v262 v265 v274 v279 v280 v281 =>
      seg1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v262 v265 v274 v279 v280 v281 fun v542 v545 v554 v559 v560 v561 v567 =>
      seg2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v542 v545 v554 v559 v560 v561 v567 fun v822 v825 v834 v839 v840 v851 v852 =>
      seg3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v822 v825 v834 v839 v840 v851 v852 fun v1102 v1105 v1114 v1119 v1120 =>
      seg4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v1102 v1105 v1114 v1119 v1120 fun v1382 v1385 v1394 v1400 v1421 v1422 =>
      seg5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v1382 v1385 v1394 v1400 v1421 v1422 fun v1662 v1665 v1674 v1680 v1707 v1709 =>
      seg6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v1662 v1665 v1674 v1680 v1707 v1709 fun v1942 v1945 v1954 v1955 v1956 =>
      seg7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p.1 v1942 v1945 v1954 v1955 v1956 := rfl
  rw [e, part2_later i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hi]
  have o : ∀ (K : (Σ' (arg1 : BitVec 32) (v3 : Vec F S32x512 .f32) (v4 : Vec F S32x512 .f32) (v6 : BitVec 32) (v12 : FVec F S32x128 .f32) (v32 : FVec F S64x32 .f32), FVec F S1x32 .f32) → Body F (Σ' (v1942 : FVec F S32x512 .f32) (v1945 : FVec F S32x512 .f32) (v1954 : BitVec 32) (v2005 : FVec F S32x512 .bf16) (v2035 : FVec F S32x512 .bf16) (v2040 : FVec F S1x512 .bf16) (v2045 : FVec F S1x512 .bf16) (v2050 : FVec F S1x512 .bf16) (v2055 : FVec F S1x512 .bf16) (v2060 : FVec F S1x512 .bf16) (v2065 : FVec F S1x512 .bf16) (v2070 : FVec F S1x512 .bf16) (v2075 : FVec F S1x512 .bf16) (v2080 : FVec F S1x512 .bf16) (v2085 : FVec F S1x512 .bf16) (v2090 : FVec F S1x512 .bf16) (v2095 : FVec F S1x512 .bf16) (v2100 : FVec F S1x512 .bf16) (v2105 : FVec F S1x512 .bf16) (v2110 : FVec F S1x512 .bf16) (v2115 : FVec F S1x512 .bf16) (v2120 : FVec F S1x512 .bf16) (v2125 : FVec F S1x512 .bf16) (v2130 : FVec F S1x512 .bf16) (v2135 : FVec F S1x512 .bf16) (v2137 : Elt F .i32), k0_chk245 v2137)),
      Prog.bind (openLater i arg6 arg12 arg13 arg17 arg18 arg19 harg19 arg20 arg21 hi fun h c qb e => .ret ⟨(BitVec.ofNat 32 (i 1).val), h, c, tw i 0, qb, e, sumA e⟩) K
      = openLater i arg6 arg12 arg13 arg17 arg18 arg19 harg19 arg20 arg21 hi fun h c qb e => K ⟨(BitVec.ofNat 32 (i 1).val), h, c, tw i 0, qb, e, sumA e⟩ := fun _ => rfl
  rw [o]
  simp only [seg0_eq, seg1_eq, seg2_eq, seg3_eq, seg4_eq, seg5_eq, seg6_eq]
  rfl

/-! ## A program after each of the pieces runs after what the piece is continued by -/

theorem stepHead_bind {β : Type} (K : Vec F S512x384 .bf16 → Body F α) (f : α → Body F β) : Prog.bind (stepHead arg6 K) f = stepHead arg6 (fun w => Prog.bind (K w) f) := rfl

theorem scatter_bind {β : Type} (k : Nat) (hk : k < 8) (hp : HasPrev i k) (h : FVec F S32x512 .f32) (q : FVec F S32x384 .f32) (K : Body F α) (f : α → Body F β) : Prog.bind (scatter i arg12 arg19 harg19 arg20 k hk hp h q K) f = scatter i arg12 arg19 harg19 arg20 k hk hp h q (Prog.bind K f) := rfl

theorem stepTail_bind {β : Type} (k : Nat) (hk : k < 8) (h c : FVec F S32x512 .f32) (q : FVec F S32x384 .f32) (K : FVec F S32x512 .f32 → FVec F S32x512 .f32 → Body F α) (f : α → Body F β) : Prog.bind (stepTail i arg2 arg3 arg5 arg8 arg9 arg10 arg13 arg14 arg15 arg16 arg19 arg20 arg21 k hk h c q K) f = stepTail i arg2 arg3 arg5 arg8 arg9 arg10 arg13 arg14 arg15 arg16 arg19 arg20 arg21 k hk h c q (fun h c => Prog.bind (K h c) f) := rfl

theorem stepRest_bind {β : Type} (k : Nat) (hk : k < 8) (h c : FVec F S32x512 .f32) (e : FVec F S64x32 .f32) (qb : FVec F S32x128 .f32) (K : FVec F S32x512 .f32 → FVec F S32x512 .f32 → Body F α) (f : α → Body F β) : Prog.bind (stepRest i arg2 arg3 arg5 arg8 arg9 arg10 arg14 arg15 arg16 arg19 arg20 k hk h c e qb K) f = stepRest i arg2 arg3 arg5 arg8 arg9 arg10 arg14 arg15 arg16 arg19 arg20 k hk h c e qb (fun h c => Prog.bind (K h c) f) := rfl

theorem openFirst_bind {β : Type} (K : FVec F S32x512 .f32 → FVec F S32x512 .f32 → FVec F S32x128 .f32 → FVec F S64x32 .f32 → Body F α) (f : α → Body F β) : Prog.bind (openFirst arg4 arg5 arg6 arg7 arg11 arg12 arg13 arg17 arg18 arg19 harg19 arg20 arg21 K) f = openFirst arg4 arg5 arg6 arg7 arg11 arg12 arg13 arg17 arg18 arg19 harg19 arg20 arg21 (fun h c q e => Prog.bind (K h c q e) f) := rfl

theorem openLater_bind {β : Type} (hi : HasPrev i 0) (K : FVec F S32x512 .f32 → FVec F S32x512 .f32 → FVec F S32x128 .f32 → FVec F S64x32 .f32 → Body F α) (f : α → Body F β) : Prog.bind (openLater i arg6 arg12 arg13 arg17 arg18 arg19 harg19 arg20 arg21 hi K) f = openLater i arg6 arg12 arg13 arg17 arg18 arg19 harg19 arg20 arg21 hi (fun h c q e => Prog.bind (K h c q e) f) := rfl

set_option maxRecDepth 100000 in
/-- The printed body at the first grid point: the preparation, then eight steps, then the states left to the next point. -/
theorem body_first (hi : (i 1).val = 0) : cc0_cond_att_lstm (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    = (openFirst arg4 arg5 arg6 arg7 arg11 arg12 arg13 arg17 arg18 arg19 harg19 arg20 arg21 fun h c qb e =>
      stepRest i arg2 arg3 arg5 arg8 arg9 arg10 arg14 arg15 arg16 arg19 arg20 0 (by decide) h c e qb fun h c =>
      step i arg2 arg3 arg5 arg6 arg8 arg9 arg10 arg12 arg13 arg14 arg15 arg16 arg19 harg19 arg20 arg21 1 (by decide) (prev i 1 (by decide)) h c fun h c =>
      step i arg2 arg3 arg5 arg6 arg8 arg9 arg10 arg12 arg13 arg14 arg15 arg16 arg19 harg19 arg20 arg21 2 (by decide) (prev i 2 (by decide)) h c fun h c =>
      step i arg2 arg3 arg5 arg6 arg8 arg9 arg10 arg12 arg13 arg14 arg15 arg16 arg19 harg19 arg20 arg21 3 (by decide) (prev i 3 (by decide)) h c fun h c =>
      step i arg2 arg3 arg5 arg6 arg8 arg9 arg10 arg12 arg13 arg14 arg15 arg16 arg19 harg19 arg20 arg21 4 (by decide) (prev i 4 (by decide)) h c fun h c =>
      step i arg2 arg3 arg5 arg6 arg8 arg9 arg10 arg12 arg13 arg14 arg15 arg16 arg19 harg19 arg20 arg21 5 (by decide) (prev i 5 (by decide)) h c fun h c =>
      step i arg2 arg3 arg5 arg6 arg8 arg9 arg10 arg12 arg13 arg14 arg15 arg16 arg19 harg19 arg20 arg21 6 (by decide) (prev i 6 (by decide)) h c fun h c =>
      step i arg2 arg3 arg5 arg6 arg8 arg9 arg10 arg12 arg13 arg14 arg15 arg16 arg19 harg19 arg20 arg21 7 (by decide) (prev i 7 (by decide)) h c fun h c =>
      leave arg17 arg18 h c) := by
  have e : cc0_cond_att_lstm (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = Prog.bind (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _ := rfl
  rw [e, part64_first i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hi]
  simp only [stepHead_bind, scatter_bind, stepTail_bind, stepRest_bind, openFirst_bind, openLater_bind]
  rfl

set_option maxRecDepth 100000 in
/-- The printed body at a later grid point: eight steps, then the states left to the next point. -/
theorem body_later (hi : HasPrev i 0) : cc0_cond_att_lstm (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    = (openLater i arg6 arg12 arg13 arg17 arg18 arg19 harg19 arg20 arg21 hi fun h c qb e =>
      stepRest i arg2 arg3 arg5 arg8 arg9 arg10 arg14 arg15 arg16 arg19 arg20 0 (by decide) h c e qb fun h c =>
      step i arg2 arg3 arg5 arg6 arg8 arg9 arg10 arg12 arg13 arg14 arg15 arg16 arg19 harg19 arg20 arg21 1 (by decide) (prev i 1 (by decide)) h c fun h c =>
      step i arg2 arg3 arg5 arg6 arg8 arg9 arg10 arg12 arg13 arg14 arg15 arg16 arg19 harg19 arg20 arg21 2 (by decide) (prev i 2 (by decide)) h c fun h c =>
      step i arg2 arg3 arg5 arg6 arg8 arg9 arg10 arg12 arg13 arg14 arg15 arg16 arg19 harg19 arg20 arg21 3 (by decide) (prev i 3 (by decide)) h c fun h c =>
      step i arg2 arg3 arg5 arg6 arg8 arg9 arg10 arg12 arg13 arg14 arg15 arg16 arg19 harg19 arg20 arg21 4 (by decide) (prev i 4 (by decide)) h c fun h c =>
      step i arg2 arg3 arg5 arg6 arg8 arg9 arg10 arg12 arg13 arg14 arg15 arg16 arg19 harg19 arg20 arg21 5 (by decide) (prev i 5 (by decide)) h c fun h c =>
      step i arg2 arg3 arg5 arg6 arg8 arg9 arg10 arg12 arg13 arg14 arg15 arg16 arg19 harg19 arg20 arg21 6 (by decide) (prev i 6 (by decide)) h c fun h c =>
      step i arg2 arg3 arg5 arg6 arg8 arg9 arg10 arg12 arg13 arg14 arg15 arg16 arg19 harg19 arg20 arg21 7 (by decide) (prev i 7 (by decide)) h c fun h c =>
      leave arg17 arg18 h c) := by
  have e : cc0_cond_att_lstm (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = Prog.bind (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) _ := rfl
  rw [e, part64_later i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hi]
  simp only [stepHead_bind, scatter_bind, stepTail_bind, stepRest_bind, openFirst_bind, openLater_bind]
  rfl

end Cert.Proof.Lstm

end
-- ==== Proof.Body.lean ====
/-
  One grid point's body as one rule: run on what the core holds, it makes eight steps. The first point prepares the recurrence
  state before; a later one takes up what the point before left.
-/
module

public import proofs.«01_k».proof.Proof.Steps
public import proofs.«01_k».proof.Proof.BodyEq

@[expose] public section

noncomputable section

namespace Cert.Proof.Lstm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

/-- The recurrence's state before the first step. -/
def rec0 (A : Ins F) : Rec F where
  h := shapeCast S32x512 A.h0 shapeCasts_S1x32x512_S32x512
  c := broadcast S32x512 (Scalar.ofBits .f32 0x00000000#32 : F .f32)
  hist := broadcast S128x32x512 (Scalar.ofBits .bf16 0x0000#16 : F .bf16)
  hs := hs0 A.bhh

/-- The context's scores, as every step reads them. -/
def caOf (A : Ins F) : Vec F S64x32x128 .f32 := ca0 A.cx A.wc A.bac

/-- The first `k` steps of a grid point whose first step is `t0`. -/
def pts (A : Ins F) (x : Vec F S1x8x32x512 .bf16) (t0 : ℕ) : ℕ → Rec F × St F → Rec F × St F
  | 0, p => p
  | k + 1, p => stepPair A x t0 k (pts A x t0 k p)

variable [Facts] {d : Dev nD} {M : Mem} {q : PosShare TreeShare} {A : Ins F} {x : Vec F S1x8x32x512 .bf16} {r : Rec F} {s : St F} {R : Pr F} {i : grid0.Coords}

/-- The two states left to the next point. -/
theorem leave_of {h c : FVec F S32x512 .f32} :
    Held d M q A x r s R ⊢ Wp d (fun _ => Held d M q A x r { s with sh := h, sc := c } R) (leave M.a17 M.a18 h c) := by
  unfold leave
  rw [shapeCast_id, shapeCast_id]
  refine ld_of fixed17 ?_
  refine stAll_of (held17 d M q A x r s R) ?_
  refine ld_of fixed18 ?_
  refine stAll_of (held18 d M q A x r _ R) ?_
  rw [Wp, wp_ret]
  exact fupd_intro

variable {α : Type} {Q : α → Pr F}

/-- The states the point before left are read. -/
theorem enter_of {K : FVec F S32x512 .f32 → FVec F S32x512 .f32 → Body F α} (hK : Held d M q A x r s R ⊢ Wp d Q (K s.sh s.sc)) :
    Held d M q A x r s R ⊢ Wp d Q (enter M.a17 M.a18 K) := by
  unfold enter
  refine ldAll_of fixed17 ?_
  exact ldAll_of fixed18 hK

/-- What the first point prepares: the state before the first step, and the context's scores. -/
theorem prepare_of {K : Body F α} (hK : Held d M q A x (rec0 A) { s with sh := (rec0 A).h, sc := (rec0 A).c, ca := caOf A } R ⊢ Wp d Q K) :
    Held d M q A x r s R ⊢ Wp d Q (prepare M.a4 M.a5 M.a7 M.a11 M.a12 M.a17 M.a18 M.a19 M.w19 M.a20 M.a21 K) := by
  unfold prepare
  simp only [shapeCast_id]
  refine ldAll_of (held4 d M q A x r s R) ?_
  refine ld_of fixed17 ?_
  refine stAll_of (held17 d M q A x r s R) ?_
  refine ld_of fixed18 ?_
  refine stAll_of (held18 d M q A x r _ R) ?_
  refine ld_of fixed19 ?_
  refine stAll_of (held19 d M q A x r _ R) ?_
  refine ldAll_of (held12 d M q A x _ _ R) ?_
  refine ld_of fixed20 ?_
  refine stAll_of (held20 d M q A x _ _ R) ?_
  refine ldAll_of (held5 d M q A x _ _ R) ?_
  refine ldAll_of (held7 d M q A x _ _ R) ?_
  refine ldAll_of (held11 d M q A x _ _ R) ?_
  refine ld_of fixed21 ?_
  exact stAll_of (held21 d M q A x _ _ R) hK

set_option maxRecDepth 100000 in
/-- Steps two to eight of a grid point, and what it leaves. -/
theorem seven_of (hT : TabIn (F := F) A.tab) {p : Rec F × St F} :
    Held d M q A x (stepPair A x (8 * (i 1).val) 0 p).1 (stepPair A x (8 * (i 1).val) 0 p).2 R ⊢ Wp d (fun _ => Held d M q A x (pts A x (8 * (i 1).val) 8 p).1
        { (pts A x (8 * (i 1).val) 8 p).2 with sh := (pts A x (8 * (i 1).val) 8 p).1.h, sc := (pts A x (8 * (i 1).val) 8 p).1.c } R)
      (step i M.a2 M.a3 M.a5 M.a6 M.a8 M.a9 M.a10 M.a12 M.a13 M.a14 M.a15 M.a16 M.a19 M.w19 M.a20 M.a21 1 (by decide) (prev i 1 (by decide))
        (stepPair A x (8 * (i 1).val) 0 p).1.h (stepPair A x (8 * (i 1).val) 0 p).1.c fun h c =>
      step i M.a2 M.a3 M.a5 M.a6 M.a8 M.a9 M.a10 M.a12 M.a13 M.a14 M.a15 M.a16 M.a19 M.w19 M.a20 M.a21 2 (by decide) (prev i 2 (by decide)) h c fun h c =>
      step i M.a2 M.a3 M.a5 M.a6 M.a8 M.a9 M.a10 M.a12 M.a13 M.a14 M.a15 M.a16 M.a19 M.w19 M.a20 M.a21 3 (by decide) (prev i 3 (by decide)) h c fun h c =>
      step i M.a2 M.a3 M.a5 M.a6 M.a8 M.a9 M.a10 M.a12 M.a13 M.a14 M.a15 M.a16 M.a19 M.w19 M.a20 M.a21 4 (by decide) (prev i 4 (by decide)) h c fun h c =>
      step i M.a2 M.a3 M.a5 M.a6 M.a8 M.a9 M.a10 M.a12 M.a13 M.a14 M.a15 M.a16 M.a19 M.w19 M.a20 M.a21 5 (by decide) (prev i 5 (by decide)) h c fun h c =>
      step i M.a2 M.a3 M.a5 M.a6 M.a8 M.a9 M.a10 M.a12 M.a13 M.a14 M.a15 M.a16 M.a19 M.w19 M.a20 M.a21 6 (by decide) (prev i 6 (by decide)) h c fun h c =>
      step i M.a2 M.a3 M.a5 M.a6 M.a8 M.a9 M.a10 M.a12 M.a13 M.a14 M.a15 M.a16 M.a19 M.w19 M.a20 M.a21 7 (by decide) (prev i 7 (by decide)) h c fun h c =>
      leave M.a17 M.a18 h c) := by
  refine step_of (p := pts A x (8 * (i 1).val) 1 p) hT ?_
  refine step_of (p := pts A x (8 * (i 1).val) 2 p) hT ?_
  refine step_of (p := pts A x (8 * (i 1).val) 3 p) hT ?_
  refine step_of (p := pts A x (8 * (i 1).val) 4 p) hT ?_
  refine step_of (p := pts A x (8 * (i 1).val) 5 p) hT ?_
  refine step_of (p := pts A x (8 * (i 1).val) 6 p) hT ?_
  refine step_of (p := pts A x (8 * (i 1).val) 7 p) hT ?_
  exact leave_of

set_option maxRecDepth 100000 in
/-- The first point's body. -/
theorem first_of (hT : TabIn (F := F) A.tab) (hi : (i 1).val = 0) (harg2 : M.a2.IsWhole) (harg3 : M.a3.IsWhole) (harg4 : M.a4.IsWhole) (harg5 : M.a5.IsWhole) (harg6 : M.a6.IsWhole) (harg7 : M.a7.IsWhole) (harg8 : M.a8.IsWhole) (harg9 : M.a9.IsWhole) (harg10 : M.a10.IsWhole) (harg11 : M.a11.IsWhole) (harg12 : M.a12.IsWhole) (harg13 : M.a13.IsWhole) (harg14 : M.a14.IsWhole) (harg15 : M.a15.IsWhole) (harg16 : M.a16.IsWhole) (harg17 : M.a17.IsWhole) (harg18 : M.a18.IsWhole) (harg20 : M.a20.IsWhole) (harg21 : M.a21.IsWhole) :
    Held d M q A x r s R ⊢ Wp d (fun _ => Held d M q A x (pts A x (8 * (i 1).val) 8 (rec0 A, { s with sh := (rec0 A).h, sc := (rec0 A).c, ca := caOf A })).1
        { (pts A x (8 * (i 1).val) 8 (rec0 A, { s with sh := (rec0 A).h, sc := (rec0 A).c, ca := caOf A })).2 with
          sh := (pts A x (8 * (i 1).val) 8 (rec0 A, { s with sh := (rec0 A).h, sc := (rec0 A).c, ca := caOf A })).1.h
          sc := (pts A x (8 * (i 1).val) 8 (rec0 A, { s with sh := (rec0 A).h, sc := (rec0 A).c, ca := caOf A })).1.c } R)
      (cc0_cond_att_lstm (F := F) i M.a2 harg2 M.a3 harg3 M.a4 harg4 M.a5 harg5 M.a6 harg6 M.a7 harg7 M.a8 harg8 M.a9 harg9 M.a10 harg10 M.a11 harg11 M.a12 harg12 M.a13 harg13 M.a14 harg14 M.a15 harg15 M.a16 harg16 M.a17 harg17 M.a18 harg18 M.a19 M.w19 M.a20 harg20 M.a21 harg21) := by
  rw [body_first i M.a2 harg2 M.a3 harg3 M.a4 harg4 M.a5 harg5 M.a6 harg6 M.a7 harg7 M.a8 harg8 M.a9 harg9 M.a10 harg10 M.a11 harg11 M.a12 harg12 M.a13 harg13 M.a14 harg14 M.a15 harg15 M.a16 harg16 M.a17 harg17 M.a18 harg18 M.a19 M.w19 M.a20 harg20 M.a21 harg21 hi]
  unfold openFirst
  refine prepare_of ?_
  refine enter_of ?_
  unfold stepHead attA
  refine ldAll_of (held6 d M q A x _ _ R) ?_
  refine ldAll_of fixed21 ?_
  refine ldAll_of (held13 d M q A x _ _ R) ?_
  have h0 : 8 * (i 1).val + 0 = 0 := by omega
  refine rest_of (r := rec0 A) (s := { s with sh := (rec0 A).h, sc := (rec0 A).c, ca := caOf A }) hT rfl ?_
  have e := seven_of (d := d) (M := M) (q := q) (x := x) (R := R) (i := i) hT (p := (rec0 A, { s with sh := (rec0 A).h, sc := (rec0 A).c, ca := caOf A }))
  conv at e => lhs; unfold stepPair stepRec; rw [if_pos h0]
  unfold stepPair stepRec at e
  simp only [if_pos h0] at e
  exact e

set_option maxRecDepth 100000 in
/-- A later point's body, the states left before being the recurrence's. -/
theorem later_of (hT : TabIn (F := F) A.tab) (hi : HasPrev i 0) (hh : s.sh = r.h) (hc : s.sc = r.c) (harg2 : M.a2.IsWhole) (harg3 : M.a3.IsWhole) (harg4 : M.a4.IsWhole) (harg5 : M.a5.IsWhole) (harg6 : M.a6.IsWhole) (harg7 : M.a7.IsWhole) (harg8 : M.a8.IsWhole) (harg9 : M.a9.IsWhole) (harg10 : M.a10.IsWhole) (harg11 : M.a11.IsWhole) (harg12 : M.a12.IsWhole) (harg13 : M.a13.IsWhole) (harg14 : M.a14.IsWhole) (harg15 : M.a15.IsWhole) (harg16 : M.a16.IsWhole) (harg17 : M.a17.IsWhole) (harg18 : M.a18.IsWhole) (harg20 : M.a20.IsWhole) (harg21 : M.a21.IsWhole) :
    Held d M q A x r s R ⊢ Wp d (fun _ => Held d M q A x (pts A x (8 * (i 1).val) 8 (r, s)).1
        { (pts A x (8 * (i 1).val) 8 (r, s)).2 with sh := (pts A x (8 * (i 1).val) 8 (r, s)).1.h, sc := (pts A x (8 * (i 1).val) 8 (r, s)).1.c } R)
      (cc0_cond_att_lstm (F := F) i M.a2 harg2 M.a3 harg3 M.a4 harg4 M.a5 harg5 M.a6 harg6 M.a7 harg7 M.a8 harg8 M.a9 harg9 M.a10 harg10 M.a11 harg11 M.a12 harg12 M.a13 harg13 M.a14 harg14 M.a15 harg15 M.a16 harg16 M.a17 harg17 M.a18 harg18 M.a19 M.w19 M.a20 harg20 M.a21 harg21) := by
  rw [body_later i M.a2 harg2 M.a3 harg3 M.a4 harg4 M.a5 harg5 M.a6 harg6 M.a7 harg7 M.a8 harg8 M.a9 harg9 M.a10 harg10 M.a11 harg11 M.a12 harg12 M.a13 harg13 M.a14 harg14 M.a15 harg15 M.a16 harg16 M.a17 harg17 M.a18 harg18 M.a19 M.w19 M.a20 harg20 M.a21 harg21 hi]
  unfold openLater
  refine enter_of ?_
  rw [hh, hc]
  unfold stepHead
  refine ldAll_of (held6 d M q A x _ _ R) ?_
  refine scatter_of ?_
  unfold attA
  refine ldAll_of fixed21 ?_
  refine ldAll_of (held13 d M q A x _ _ R) ?_
  have h0 : ¬ (8 * (i 1).val + 0 = 0) := by have : 1 ≤ 8 * (i 1).val + 0 := hi; omega
  refine rest_of (r := scatRec A (8 * (i 1).val + 0) r) hT rfl ?_
  have e := seven_of (d := d) (M := M) (q := q) (x := x) (R := R) (i := i) hT (p := (r, s))
  unfold stepPair stepRec at e
  simp only [if_neg h0] at e
  exact e

end Cert.Proof.Lstm

end
-- ==== Proof.Blocks.lean ====
/-
  The recurrence over all steps, and what a grid point's eight steps make of it: the state eight steps on, and the two results' blocks,
  each row that of its step whatever the block held before.
-/
module

public import proofs.«01_k».proof.Proof.Body

@[expose] public section

noncomputable section

namespace Cert.Proof.Lstm

open Idealize.ShloMosaic Idealize.ShloMosaic.TcCoe
open Cert.KernelIdeal Cert.KernelIdeal.Facts₀ Cert.KernelIdeal.Facts

variable {F : FTy → Type} [FloatOps F] [Facts]

/-- The recurrence's state before step `t`, the inputs of the steps being `X`. -/
def recAt (A : Ins F) (X : ℕ → Vec F S1x1x32x512 .bf16) : ℕ → Rec F
  | 0 => rec0 A
  | t + 1 => stepRec A t (X t) (caOf A) (recAt A X t)

/-- The first result's block for the steps from `t0` on. -/
def oBlk (A : Ins F) (X : ℕ → Vec F S1x1x32x512 .bf16) (t0 : ℕ) : Vec F S1x8x32x512 .f32 :=
  fun j => (recAt A X (t0 + (j 1).val + 1)).h (ix2 (j 2 : Fin 32) (j 3 : Fin 512))

/-- The second result's block. -/
def ocBlk (A : Ins F) (X : ℕ → Vec F S1x1x32x512 .bf16) (t0 : ℕ) : Vec F S1x8x32x512 .f32 :=
  fun j => extf .f32 (cvOf A (caOf A) (recAt A X (t0 + (j 1).val)).h) bitsLt_bf16_f32 (ix2 (j 2 : Fin 32) (j 3 : Fin 512))

/-- One step's row put in its place in a block. -/
theorem row_put (o : Vec F S1x8x32x512 .f32) (v : FVec F S32x512 .f32) (k : ℕ) (j : S1x8x32x512.Idx) :
    VecWindow.put o ![0, k, 0, 0] S1x1x32x512.size (shapeCast S1x1x32x512 v shapeCasts_S32x512_S1x1x32x512) j
      = if (j 1).val = k then v (ix2 (j 2 : Fin 32) (j 3 : Fin 512)) else o j := by
  have h0 : (j 0).val < 1 := (j 0).isLt
  have h2 : (j 2).val < 32 := (j 2).isLt
  have h3 : (j 3).val < 512 := (j 3).isLt
  have hv : (shapeCast S1x1x32x512 v shapeCasts_S32x512_S1x1x32x512) = fun y => v (ix2 (y 2 : Fin 32) (y 3 : Fin 512)) := by
    funext y
    pointwise
  rw [hv]
  unfold VecWindow.put
  by_cases h : (j 1).val = k
  · rw [if_pos h, dif_pos (fun a => by fin_cases a <;> simp [S1x1x32x512] <;> omega)]
    refine congrArg v (funext fun a => Fin.ext ?_)
    fin_cases a
    · show (j 2).val - 0 = (j 2).val
      omega
    · show (j 3).val - 0 = (j 3).val
      omega
  · rw [if_neg h, dif_neg]
    intro hh
    have := hh 1
    simp [S1x1x32x512] at this
    omega

/-- After `k` steps of a grid point: the recurrence is `k` steps on, and the rows of these steps are in the blocks. -/
theorem pts_eq (A : Ins F) (X : ℕ → Vec F S1x1x32x512 .bf16) (x : Vec F S1x8x32x512 .bf16) (t0 : ℕ) (hx : ∀ k < 8, xRow x k = X (t0 + k)) (s : St F)
    (hca : s.ca = caOf A) : ∀ k ≤ 8, (pts A x t0 k (recAt A X t0, s)).1 = recAt A X (t0 + k)
      ∧ (pts A x t0 k (recAt A X t0, s)).2 = { s with
          o := fun j => if (j 1).val < k then oBlk A X t0 j else s.o j
          oc := fun j => if (j 1).val < k then ocBlk A X t0 j else s.oc j }
  | 0, _ => ⟨rfl, rfl⟩
  | k + 1, hk => by
    obtain ⟨e1, e2⟩ := pts_eq A X x t0 hx s hca k (by omega)
    have e : pts A x t0 (k + 1) (recAt A X t0, s) = stepPair A x t0 k (pts A x t0 k (recAt A X t0, s)) := rfl
    rw [e]
    generalize pts A x t0 k (recAt A X t0, s) = p at e1 e2
    obtain ⟨r, s'⟩ := p
    simp only at e1 e2
    subst e1 e2
    have e3 : stepRec A (t0 + k) (xRow x k) s.ca (recAt A X (t0 + k)) = recAt A X (t0 + (k + 1)) := by
      rw [hx k (by omega), hca]; rfl
    refine ⟨e3, ?_⟩
    unfold stepPair cellSt
    simp only [e3]
    congr 1
    · funext j
      rw [row_put]
      by_cases h : (j 1).val = k
      · rw [if_pos h, if_pos (by omega)]
        unfold oBlk
        rw [h]; rfl
      · rw [if_neg h]
        by_cases h' : (j 1).val < k
        · rw [if_pos h', if_pos (by omega)]
        · rw [if_neg h', if_neg (by omega)]
    · funext j
      rw [row_put]
      by_cases h : (j 1).val = k
      · rw [if_pos h, if_pos (by omega)]
        unfold ocBlk
        rw [h, hca]
      · rw [if_neg h]
        by_cases h' : (j 1).val < k
        · rw [if_pos h', if_pos (by omega)]
        · rw [if_neg h', if_neg (by omega)]

/-- What a grid point's eight steps make of the recurrence and of the blocks. -/
theorem pts_all (A : Ins F) (X : ℕ → Vec F S1x1x32x512 .bf16) (x : Vec F S1x8x32x512 .bf16) (t0 : ℕ) (hx : ∀ k < 8, xRow x k = X (t0 + k)) (s : St F)
    (hca : s.ca = caOf A) : pts A x t0 8 (recAt A X t0, s) = (recAt A X (t0 + 8), { s with o := oBlk A X t0, oc := ocBlk A X t0 }) := by
  obtain ⟨e1, e2⟩ := pts_eq A X x t0 hx s hca 8 le_rfl
  refine Prod.ext e1 (e2.trans ?_)
  have h : ∀ j : S1x8x32x512.Idx, (j 1).val < 8 := fun j => (j 1).isLt
  simp only [h, if_true]

end Cert.Proof.Lstm

end
-- ==== Proof.Data.lean ====
/-
  What the arrays hold while the region runs, the region entered with the buffers at `V`: the blocks a grid point is handed, the
  blocks it leaves, and what is kept in scratch from one point to the next.
-/
module

public import proofs.«01_k».proof.Proof.Blocks
public import proofs.«01_k».proof.Proof.Gen.KernelIdeal.Launch
public import Idealize.ShloMosaic.Lib.Pipeline.FrameBody
public import Idealize.ShloMosaic.Lib.Pipeline.FrameSuffix
public import Idealize.ShloMosaic.Lib.Pipeline.ValueKit

@[expose] public section

noncomputable section

namespace Cert.Proof.Lstm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

variable (V : Dev nD → Valuation τ sig (Elt F))

/-- A buffer of core `c` as the region finds it. -/
abbrev buf (c : Dev nD) (b : Ref sig .tc) : b.ty.Contents (Elt F) := V c (Proc.devRef .tc b)

/-- What is the same at every grid point. -/
def insOf (c : Dev nD) : Ins F where
  tab := buf V c main_v18
  h0 := buf V c main_v17
  cx := buf V c main_v16
  wq := buf V c main_v8
  wc := buf V c main_v10
  w1 := buf V c main_v2
  w2 := buf V c main_v5
  bx := buf V c main_v19
  bac := buf V c main_v20
  bhh := buf V c main_v21
  wa := buf V c main_v22
  wha := buf V c main_v23

/-- The input rows of step `t`. -/
def xsOf (c : Dev nD) (t : ℕ) : Vec F S1x1x32x512 .bf16 :=
  fun j => (buf V c main_v13 : Vec F S1x128x32x512 .bf16) (ix4 0 (Fin.ofNat 128 t) (j 2 : Fin 32) (j 3 : Fin 512))

/-- The recurrence's state before step `t` on core `c`. -/
abbrev recOf (c : Dev nD) (t : ℕ) : Rec F := recAt (insOf V c) (xsOf V c) t

/-- The table's admissible contents: as the region finds it. -/
def adm : (p : Fin 1) → (pcfgs (F := F) p).Adm := fun _ => ⟨fun k => V 0 (Proc.devRef .tc (pre0.ref k)), (by unfold ok0; trivial : ok0 (F := F) fun k => V 0 (Proc.devRef .tc (pre0.ref k)))⟩

/-- The pipeline there. -/
abbrev cfgA : Cfg sig Λ₀ := cfg0 (adm V 0)

/-- The block of an array at a grid point. -/
abbrev blkOf (c : Dev nD) (w : Fin (cfgA V).W) (t : Fin (cfgA V).N) : ((cfgA V).win w).block.Idx → Elt F ((cfgA V).win w).elt :=
  (((cfgA V).win w).blk t).view.read (Elt F) (buf V c (Pipeline.arrRef spec0 w))

/-- What is kept before point `n`: the scratch at the recurrence's state, at the first point at anything; the generator's register;
    the table. -/
def Kept (c : Dev nD) (n : ℕ) : Pr F := iprop(∃ (r : Rec F) (s : St F),
  ⌜n ≠ 0 → r = recOf V c (8 * n) ∧ s.sh = r.h ∧ s.sc = r.c ∧ s.ca = caOf (insOf V c)⌝
    ∗ owns (c : Thread nD τ) (Memref.whole cc0_scratch0) fullShare s.sh
    ∗ owns (c : Thread nD τ) (Memref.whole cc0_scratch1) fullShare s.sc
    ∗ owns (c : Thread nD τ) (Memref.whole cc0_scratch2) fullShare r.hist
    ∗ owns (c : Thread nD τ) (Memref.whole cc0_scratch3) fullShare r.hs
    ∗ owns (c : Thread nD τ) (Memref.whole cc0_scratch4) fullShare s.ca
    ∗ (∃ ρ, prngReg c ρ)
    ∗ owns (c : Thread nD τ) (Memref.whole main_v18) fullShare.right (insOf V c).tab)

/-- The pipeline's proof data: the arrays as entered; an input's block left as found, the results' blocks at the recurrence's. -/
def dats (_ : Fin 1) (c : Dev nD) : Dat τ (Elt F) Unit ℕ (UR sig nD τ) ℕ (cfgA V) c where
  A w := buf V c (Pipeline.arrRef spec0 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
    | ⟨7, _⟩ => blkOf V c 7 t
    | ⟨8, _⟩ => blkOf V c 8 t
    | ⟨9, _⟩ => blkOf V c 9 t
    | ⟨10, _⟩ => blkOf V c 10 t
    | ⟨11, _⟩ => blkOf V c 11 t
    | ⟨12, _⟩ => oBlk (insOf V c) (xsOf V c) (8 * t.val)
    | ⟨13, _⟩ => ocBlk (insOf V c) (xsOf V c) (8 * t.val)
  Φ k := Kept V c k.val
  q _ := fullShare
  owed _ := 0

theorem A_eq (c : Dev nD) (w : Fin (cfgA V).W) : (dats V 0 c).A w = buf V c (Pipeline.arrRef spec0 w) := by
  dsimp only [dats]

/-- An input's staging buffer holds its block when the body runs. -/
theorem before_in (c : Dev nD) (w : Fin (cfgA V).W) (hw : ((cfgA V).win w).isOut = false) (h : ∀ t, (dats V 0 c).after w t = blkOf V c w t)
    (t : Fin (cfgA V).N) (d : ((cfgA V).win w).block.Idx → Elt F ((cfgA V).win w).elt) : (dats V 0 c).before w t d = blkOf V c w t := by
  have hA := A_eq V c w
  rw [(dats V 0 c).before_in_eq_fetched w hw (fun _ => rfl) (fun _ _ _ => rfl) (fun t => by
    rw [h, Dat.blockOf, hA]) t d]
  refine Eq.trans (funext fun j => ?_) (congrArg ((((cfgA V).win w).blk t).view.read (Elt F)) hA)
  have hm : ((cfgA V).win w).moved ((cfgA V).grid.coords t) j = true :=
    (((cfgA V).win w).moved_iff _ j).mpr fun a => (j a).isLt
  unfold Dat.fetched Window.fill; rw [dif_pos hm]
  rfl

/-- The one grid coordinate that moves is the point's number. -/
theorem coord_val : ∀ t : Fin grid0.N, (grid0.coords t 1).val = t.val := by decide +kernel

/-- Reading the one block that is a whole array reads the array. -/
theorem read_whole_block (b : Ref sig .tc) (ix : Fin b.ty.shape.rank → Nat) (inb) (h0 : ∀ a, ix a = 0) (X : b.ty.Contents (Elt F)) :
    ((View.whole b).slice (Rect.block b.ty.shape.size ix inb)).read (Elt F) X = X := by
  funext y
  refine congrArg X (funext fun a => Fin.ext ?_)
  show ix a * b.ty.shape.size a + 1 * (y a).val = (y a).val
  rw [h0 a]; omega

/-- The first grid coordinate is 0. -/
theorem coord_zero (t : Fin grid0.N) : (BitVec.ofNat 32 (grid0.coords t 0).val).toNat = 0 := by
  have : (grid0.coords t 0).val < 1 := (grid0.coords t 0).isLt
  rw [show (grid0.coords t 0).val = 0 by omega]; rfl

theorem blk_1 (c : Dev nD) (t : Fin (cfgA V).N) : blkOf V c 1 t = buf V c main_v17 :=
  read_whole_block main_v17 (cc0_transform_1 (grid0.coords t)) (Facts₀.hinb0_1 (grid0.coords t)) (by intro a; fin_cases a <;> first | rfl | exact coord_zero t) _
theorem blk_2 (c : Dev nD) (t : Fin (cfgA V).N) : blkOf V c 2 t = buf V c main_v16 :=
  read_whole_block main_v16 (cc0_transform_2 (grid0.coords t)) (Facts₀.hinb0_2 (grid0.coords t)) (by intro a; fin_cases a <;> first | rfl | exact coord_zero t) _
theorem blk_3 (c : Dev nD) (t : Fin (cfgA V).N) : blkOf V c 3 t = buf V c main_v8 :=
  read_whole_block main_v8 (cc0_transform_3 (grid0.coords t)) (Facts₀.hinb0_3 (grid0.coords t)) (by intro a; fin_cases a <;> first | rfl | exact coord_zero t) _
theorem blk_4 (c : Dev nD) (t : Fin (cfgA V).N) : blkOf V c 4 t = buf V c main_v10 :=
  read_whole_block main_v10 (cc0_transform_4 (grid0.coords t)) (Facts₀.hinb0_4 (grid0.coords t)) (by intro a; fin_cases a <;> first | rfl | exact coord_zero t) _
theorem blk_5 (c : Dev nD) (t : Fin (cfgA V).N) : blkOf V c 5 t = buf V c main_v2 :=
  read_whole_block main_v2 (cc0_transform_5 (grid0.coords t)) (Facts₀.hinb0_5 (grid0.coords t)) (by intro a; fin_cases a <;> first | rfl | exact coord_zero t) _
theorem blk_6 (c : Dev nD) (t : Fin (cfgA V).N) : blkOf V c 6 t = buf V c main_v5 :=
  read_whole_block main_v5 (cc0_transform_6 (grid0.coords t)) (Facts₀.hinb0_6 (grid0.coords t)) (by intro a; fin_cases a <;> first | rfl | exact coord_zero t) _
theorem blk_7 (c : Dev nD) (t : Fin (cfgA V).N) : blkOf V c 7 t = buf V c main_v19 :=
  read_whole_block main_v19 (cc0_transform_7 (grid0.coords t)) (Facts₀.hinb0_7 (grid0.coords t)) (by intro a; fin_cases a <;> first | rfl | exact coord_zero t) _
theorem blk_8 (c : Dev nD) (t : Fin (cfgA V).N) : blkOf V c 8 t = buf V c main_v20 :=
  read_whole_block main_v20 (cc0_transform_8 (grid0.coords t)) (Facts₀.hinb0_8 (grid0.coords t)) (by intro a; fin_cases a <;> first | rfl | exact coord_zero t) _
theorem blk_9 (c : Dev nD) (t : Fin (cfgA V).N) : blkOf V c 9 t = buf V c main_v21 :=
  read_whole_block main_v21 (cc0_transform_9 (grid0.coords t)) (Facts₀.hinb0_9 (grid0.coords t)) (by intro a; fin_cases a <;> first | rfl | exact coord_zero t) _
theorem blk_10 (c : Dev nD) (t : Fin (cfgA V).N) : blkOf V c 10 t = buf V c main_v22 :=
  read_whole_block main_v22 (cc0_transform_10 (grid0.coords t)) (Facts₀.hinb0_10 (grid0.coords t)) (by intro a; fin_cases a <;> first | rfl | exact coord_zero t) _
theorem blk_11 (c : Dev nD) (t : Fin (cfgA V).N) : blkOf V c 11 t = buf V c main_v23 :=
  read_whole_block main_v23 (cc0_transform_11 (grid0.coords t)) (Facts₀.hinb0_11 (grid0.coords t)) (by intro a; fin_cases a <;> first | rfl | exact coord_zero t) _

/-- A grid point's rows of the input, one step's at a time. -/
theorem blk_0 (c : Dev nD) (t : Fin (cfgA V).N) (k : ℕ) (hk : k < 8) : xRow (blkOf V c 0 t : Vec F S1x8x32x512 .bf16) k = xsOf V c (8 * t.val + k) := by
  have ht : t.val < 16 := t.isLt
  have hc := coord_val t
  funext j
  refine congrArg (buf V c main_v13) (funext fun a => Fin.ext ?_)
  show cc0_transform_0 (grid0.coords t) a * S1x8x32x512.size a + 1 * ((ix4 0 (Fin.ofNat 8 k) (j 2) (j 3) : S1x8x32x512.Idx) a).val = _
  have e1 : (BitVec.ofNat 32 (grid0.coords t 1).val).toNat = t.val := by
    rw [hc, BitVec.toNat_ofNat]; omega
  fin_cases a
  · have := coord_zero t; show (BitVec.ofNat 32 (grid0.coords t 0).val).toNat * 1 + 1 * 0 = 0; omega
  · show (BitVec.ofNat 32 (grid0.coords t 1).val).toNat * 8 + 1 * (k % 8) = (8 * t.val + k) % 128
    rw [e1]; omega
  · show 0 * 32 + 1 * (j 2).val = (j 2).val; omega
  · show 0 * 512 + 1 * (j 3).val = (j 3).val; omega

end Cert.Proof.Lstm

end
-- ==== Proof.Point.lean ====
/-
  What one grid point's run of the body makes of the arrays' blocks and of the scratch.
-/
module

public import proofs.«01_k».proof.Proof.Data

@[expose] public section

noncomputable section

namespace Cert.Proof.Lstm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

variable (V : Dev nD → Valuation τ sig (Elt F))

/-- The memrefs the body is given at point `t`. -/
def memAt (t : Fin (cfgA V).N) : Mem where
  a2 := Memref.whole main_v18
  a3 := spec0_0.stage ((cfgA V).slots t 0)
  a4 := spec0_1.stage ((cfgA V).slots t 1)
  a5 := spec0_2.stage ((cfgA V).slots t 2)
  a6 := spec0_3.stage ((cfgA V).slots t 3)
  a7 := spec0_4.stage ((cfgA V).slots t 4)
  a8 := spec0_5.stage ((cfgA V).slots t 5)
  a9 := spec0_6.stage ((cfgA V).slots t 6)
  a10 := spec0_7.stage ((cfgA V).slots t 7)
  a11 := spec0_8.stage ((cfgA V).slots t 8)
  a12 := spec0_9.stage ((cfgA V).slots t 9)
  a13 := spec0_10.stage ((cfgA V).slots t 10)
  a14 := spec0_11.stage ((cfgA V).slots t 11)
  a15 := spec0_12.stage ((cfgA V).slots t 12)
  a16 := spec0_13.stage ((cfgA V).slots t 13)
  a17 := Memref.whole cc0_scratch0
  a18 := Memref.whole cc0_scratch1
  a19 := Memref.whole cc0_scratch2
  a20 := Memref.whole cc0_scratch3
  a21 := Memref.whole cc0_scratch4
  w19 := Memref.isWhole_whole _

/-- Every point from the second on has the point before it. -/
theorem hasPrev_of (t : Fin (cfgA V).N) (h : t.val ≠ 0) : HasPrev ((cfgA V).grid.coords t) 0 := by
  have e := coord_val t
  show 1 ≤ 8 * (grid0.coords t 1).val + 0
  omega

/-- The rest of what a point leaves. -/
def leftSt (c : Dev nD) (t : Fin (cfgA V).N) : St F where
  o := oBlk (insOf V c) (xsOf V c) (8 * t.val)
  oc := ocBlk (insOf V c) (xsOf V c) (8 * t.val)
  sh := (recOf V c (8 * (t.val + 1))).h
  sc := (recOf V c (8 * (t.val + 1))).c
  ca := caOf (insOf V c)

/-- The body at point `t`, from what the point finds to what it leaves. -/
theorem point_of (c : Dev nD) (hT : TabIn (F := F) (insOf V c).tab) (t : Fin (cfgA V).N) (r : Rec F) (s : St F) (R : Pr F)
    (h : t.val ≠ 0 → r = recOf V c (8 * t.val) ∧ s.sh = r.h ∧ s.sc = r.c ∧ s.ca = caOf (insOf V c)) :
    Held c (memAt V t) fullShare.right (insOf V c) (blkOf V c 0 t) r s R
      ⊢ Wp c (fun _ => Held c (memAt V t) fullShare.right (insOf V c) (blkOf V c 0 t) (recOf V c (8 * (t.val + 1)))
          (leftSt V c t) R)
        (defs₀ (F := F) .tc (cfgA V).body ((cfgA V).bodyArgs t ((cfgA V).slots t))) := by
  have e := coord_val t
  have hp := pts_all (insOf V c) (xsOf V c) (blkOf V c 0 t) (8 * t.val) (blk_0 V c t)
  by_cases h0 : t.val = 0
  · have := first_of (d := c) (M := memAt V t) (q := fullShare.right) (A := insOf V c) (x := blkOf V c 0 t) (r := r) (s := s) (R := R)
      (i := grid0.coords t) hT (by rw [e, h0]) (Memref.isWhole_whole _) (hstage0_0 _) (hstage0_1 _) (hstage0_2 _) (hstage0_3 _)
      (hstage0_4 _) (hstage0_5 _) (hstage0_6 _) (hstage0_7 _) (hstage0_8 _) (hstage0_9 _) (hstage0_10 _) (hstage0_11 _)
      (hstage0_12 _) (hstage0_13 _) (Memref.isWhole_whole _) (Memref.isWhole_whole _) (Memref.isWhole_whole _) (Memref.isWhole_whole _)
    rw [e] at this
    have hr : rec0 (insOf V c) = recOf V c (8 * t.val) := by rw [h0]; rfl
    rw [hr, hp _ rfl] at this
    exact this
  · obtain ⟨hr, hh, hc, ha⟩ := h h0
    have := later_of (d := c) (M := memAt V t) (q := fullShare.right) (A := insOf V c) (x := blkOf V c 0 t) (r := r) (s := s) (R := R)
      (i := grid0.coords t) hT (hasPrev_of V t h0) hh hc (Memref.isWhole_whole _) (hstage0_0 _) (hstage0_1 _) (hstage0_2 _) (hstage0_3 _)
      (hstage0_4 _) (hstage0_5 _) (hstage0_6 _) (hstage0_7 _) (hstage0_8 _) (hstage0_9 _) (hstage0_10 _) (hstage0_11 _)
      (hstage0_12 _) (hstage0_13 _) (Memref.isWhole_whole _) (Memref.isWhole_whole _) (Memref.isWhole_whole _) (Memref.isWhole_whole _)
    rw [e, hr, hp s ha, ha] at this
    rw [hr]
    exact this

theorem Φ_eq (c : Dev nD) (k : Fin ((cfgA V).N + 1)) : (dats V 0 c).Φ k = Kept V c k.val := by dsimp only [dats]
theorem owed_eq (c : Dev nD) (k : Fin ((cfgA V).N + 1)) : (dats V 0 c).owed k = 0 := by dsimp only [dats]

/-- An input's staging buffer as the point finds it. -/
theorem found_in (c : Dev nD) (w : Fin (cfgA V).W) (hw : ((cfgA V).win w).isOut = false) (h : ∀ t, (dats V 0 c).after w t = blkOf V c w t)
    (t : Fin (cfgA V).N) {b : ((cfgA V).win w).block.Idx → Elt F ((cfgA V).win w).elt} (hb : blkOf V c w t = b) :
    (iprop(∃ d, owns (c : Thread nD τ) (((cfgA V).win w).stage ((cfgA V).slots t w)) fullShare ((dats V 0 c).before w t d)) : Pr F)
      ⊢ owns (c : Thread nD τ) (((cfgA V).win w).stage ((cfgA V).slots t w)) fullShare b := by
  iintro ⟨%d, H⟩
  rw [before_in V c w hw h t d, hb]
  iexact H

/-- A staging buffer as the point leaves it. -/
theorem left_in (c : Dev nD) (w : Fin (cfgA V).W) (t : Fin (cfgA V).N) {b : ((cfgA V).win w).block.Idx → Elt F ((cfgA V).win w).elt}
    (hb : (dats V 0 c).after w t = b) :
    (owns (c : Thread nD τ) (((cfgA V).win w).stage ((cfgA V).slots t w)) fullShare b : Pr F)
      ⊢ owns (c : Thread nD τ) (((cfgA V).win w).stage ((cfgA V).slots t w)) fullShare ((dats V 0 c).after w t) := by
  rw [hb]

/-- What rides through a point beside what the body names. -/
abbrev Rest (c : Dev nD) : Pr F := iprop((∃ ρ, prngReg c ρ) ∗ ∃ W, owes (c : Thread nD τ) (0 : CellTallies nD τ sig Unit) W)

/-- A result's staging buffer as the point finds it, at anything. -/
theorem found_out (c : Dev nD) (w : Fin (cfgA V).W) (t : Fin (cfgA V).N) :
    (iprop(∃ d, owns (c : Thread nD τ) (((cfgA V).win w).stage ((cfgA V).slots t w)) fullShare ((dats V 0 c).before w t d)) : Pr F)
      ⊢ iprop(∃ b, owns (c : Thread nD τ) (((cfgA V).win w).stage ((cfgA V).slots t w)) fullShare b) := by
  iintro ⟨%d, H⟩
  iexists _
  iexact H

/-- The staging buffers as the point finds them. -/
def Staged (c : Dev nD) (M : Mem) (A : Ins F) (x : Vec F S1x8x32x512 .bf16) : Pr F := iprop(
  owns (c : Thread nD τ) M.a3 fullShare x ∗ owns (c : Thread nD τ) M.a4 fullShare A.h0 ∗ owns (c : Thread nD τ) M.a5 fullShare A.cx
  ∗ owns (c : Thread nD τ) M.a6 fullShare A.wq ∗ owns (c : Thread nD τ) M.a7 fullShare A.wc ∗ owns (c : Thread nD τ) M.a8 fullShare A.w1
  ∗ owns (c : Thread nD τ) M.a9 fullShare A.w2 ∗ owns (c : Thread nD τ) M.a10 fullShare A.bx ∗ owns (c : Thread nD τ) M.a11 fullShare A.bac
  ∗ owns (c : Thread nD τ) M.a12 fullShare A.bhh ∗ owns (c : Thread nD τ) M.a13 fullShare A.wa ∗ owns (c : Thread nD τ) M.a14 fullShare A.wha
  ∗ (∃ o, owns (c : Thread nD τ) M.a15 fullShare o) ∗ (∃ o, owns (c : Thread nD τ) M.a16 fullShare o))

theorem staged_of (c : Dev nD) (t : Fin (cfgA V).N) :
    (bigSep Finset.univ fun w => iprop(∃ d, owns (c : Thread nD τ) (((cfgA V).win w).stage ((cfgA V).slots t w)) fullShare ((dats V 0 c).before w t d)) : Pr F)
      ⊢ Staged c (memAt V t) (insOf V c) (blkOf V c 0 t) := by
  rw [bigSep_W0]
  unfold Staged
  refine BI.sep_mono (found_in V c 0 rfl (fun _ => rfl) t rfl) ?_
  refine BI.sep_mono (found_in V c 1 rfl (fun _ => rfl) t (blk_1 V c t)) ?_
  refine BI.sep_mono (found_in V c 2 rfl (fun _ => rfl) t (blk_2 V c t)) ?_
  refine BI.sep_mono (found_in V c 3 rfl (fun _ => rfl) t (blk_3 V c t)) ?_
  refine BI.sep_mono (found_in V c 4 rfl (fun _ => rfl) t (blk_4 V c t)) ?_
  refine BI.sep_mono (found_in V c 5 rfl (fun _ => rfl) t (blk_5 V c t)) ?_
  refine BI.sep_mono (found_in V c 6 rfl (fun _ => rfl) t (blk_6 V c t)) ?_
  refine BI.sep_mono (found_in V c 7 rfl (fun _ => rfl) t (blk_7 V c t)) ?_
  refine BI.sep_mono (found_in V c 8 rfl (fun _ => rfl) t (blk_8 V c t)) ?_
  refine BI.sep_mono (found_in V c 9 rfl (fun _ => rfl) t (blk_9 V c t)) ?_
  refine BI.sep_mono (found_in V c 10 rfl (fun _ => rfl) t (blk_10 V c t)) ?_
  refine BI.sep_mono (found_in V c 11 rfl (fun _ => rfl) t (blk_11 V c t)) ?_
  exact BI.sep_mono (found_out V c 12 t) (found_out V c 13 t)

set_option backward.isDefEq.respectTransparency.types false in
/-- What the point finds, as the body's assertion. -/
theorem pre_of (c : Dev nD) (t : Fin (cfgA V).N) :
    iprop((dats V 0 c).Φ t.castSucc ∗ (dats V 0 c).owesAt () t.castSucc
        ∗ bigSep Finset.univ fun w => iprop(∃ d, owns (c : Thread nD τ) (((cfgA V).win w).stage ((cfgA V).slots t w)) fullShare ((dats V 0 c).before w t d)))
      ⊢ iprop(∃ (r : Rec F) (s : St F), ⌜t.val ≠ 0 → r = recOf V c (8 * t.val) ∧ s.sh = r.h ∧ s.sc = r.c ∧ s.ca = caOf (insOf V c)⌝
        ∗ Held c (memAt V t) fullShare.right (insOf V c) (blkOf V c 0 t) r s (Rest c)) := by
  refine (sep_mono_right (sep_mono_right (staged_of V c t))).trans ?_
  rw [Φ_eq, Fin.val_castSucc]
  unfold Kept Dat.owesAt Pipeline.owesWithin Staged
  rw [owed_eq]
  iintro ⟨⟨%r, %s, %h, Hs0, Hs1, Hs2, Hs3, Hs4, Hρ, HT⟩, ⟨%W, %hW, HO⟩, H0, H1, H2, H3, H4, H5, H6, H7, H8, H9, H10, H11, ⟨%o, H12⟩, ⟨%oc, H13⟩⟩
  iexists r
  iexists ({ s with o := o, oc := oc } : St F)
  isplitr; · ipureintro; exact h
  unfold Held
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hs0]; · iexact Hs0
  isplitl [Hs1]; · iexact Hs1
  isplitl [Hs2]; · iexact Hs2
  isplitl [Hs3]; · iexact Hs3
  isplitl [Hs4]; · iexact Hs4
  isplitl [Hρ]; · iexact Hρ
  iexists W
  iexact HO

set_option backward.isDefEq.respectTransparency.types false in
/-- What the body leaves, as the point's. -/
theorem post_of (c : Dev nD) (t : Fin (cfgA V).N) :
    Held c (memAt V t) fullShare.right (insOf V c) (blkOf V c 0 t) (recOf V c (8 * (t.val + 1)))
          (leftSt V c t) (Rest c)
      ⊢ iprop((dats V 0 c).Φ t.succ ∗ (dats V 0 c).owesAt () t.succ
        ∗ bigSep Finset.univ fun w => owns (c : Thread nD τ) (((cfgA V).win w).stage ((cfgA V).slots t w)) fullShare ((dats V 0 c).after w t)) := by
  rw [bigSep_W0, Φ_eq]
  unfold Kept Dat.owesAt Pipeline.owesWithin Held
  rw [owed_eq]
  iintro ⟨HT, H0, H1, H2, H3, H4, H5, H6, H7, H8, H9, H10, H11, H12, H13, Hs0, Hs1, Hs2, Hs3, Hs4, Hρ, ⟨%W, HO⟩⟩
  isplitl [HT Hs0 Hs1 Hs2 Hs3 Hs4 Hρ]
  · iexists (recOf V c (8 * (t.val + 1)))
    iexists (leftSt V c t)
    isplitr; · ipureintro; exact fun _ => ⟨rfl, rfl, rfl, rfl⟩
    isplitl [Hs0]; · iexact Hs0
    isplitl [Hs1]; · iexact Hs1
    isplitl [Hs2]; · iexact Hs2
    isplitl [Hs3]; · iexact Hs3
    isplitl [Hs4]; · iexact Hs4
    isplitl [Hρ]; · iexact Hρ
    iexact HT
  isplitl [HO]
  · iexists W; isplitr; · ipureintro; exact fun _ _ => Or.inl trivial
    iexact HO
  isplitl [H0]; · iapply (left_in V c 0 t rfl); iexact H0
  isplitl [H1]; · iapply (left_in V c 1 t (blk_1 V c t)); iexact H1
  isplitl [H2]; · iapply (left_in V c 2 t (blk_2 V c t)); iexact H2
  isplitl [H3]; · iapply (left_in V c 3 t (blk_3 V c t)); iexact H3
  isplitl [H4]; · iapply (left_in V c 4 t (blk_4 V c t)); iexact H4
  isplitl [H5]; · iapply (left_in V c 5 t (blk_5 V c t)); iexact H5
  isplitl [H6]; · iapply (left_in V c 6 t (blk_6 V c t)); iexact H6
  isplitl [H7]; · iapply (left_in V c 7 t (blk_7 V c t)); iexact H7
  isplitl [H8]; · iapply (left_in V c 8 t (blk_8 V c t)); iexact H8
  isplitl [H9]; · iapply (left_in V c 9 t (blk_9 V c t)); iexact H9
  isplitl [H10]; · iapply (left_in V c 10 t (blk_10 V c t)); iexact H10
  isplitl [H11]; · iapply (left_in V c 11 t (blk_11 V c t)); iexact H11
  isplitl [H12]; · iapply (left_in V c 12 t rfl); iexact H12
  iapply (left_in V c 13 t rfl); iexact H13

/-- The library's body obligation: the point's run between what it finds and what it leaves. -/
theorem body_obligation (c : Dev nD) (hT : TabIn (F := F) (insOf V c).tab) :
    BodyObligation (dats V 0 c) (defs₀ (F := F)) Variants.none () Set.univ := fun t => by
  refine (pre_of V c t).trans ?_
  iintro ⟨%r, %s, %h, H⟩
  iapply ((point_of V c hT t r s (Rest c) h).trans (wp_mono _ _ _ fun _ => post_of V c t))
  iexact H

end Cert.Proof.Lstm

end
-- ==== Proof.Run.lean ====
/-
  The kernel's run: the host operations, the region over its grid, the host operations after it. It ends with the arguments as they
  were, every counter at zero, and the two results' arrays at the recurrence's blocks.
-/
module

public import proofs.«01_k».proof.Proof.Point

@[expose] public section

noncomputable section

namespace Cert.Proof.Lstm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

section Ends
variable (V : Dev nD → Valuation τ sig (Elt F))

/-- The one prefetched table, as the body holds it. -/
theorem table_eq (c : Dev nD) :
    (Pipeline.ΦT pre0 (adm V 0).1 c : Pr F) ⊢ owns (c : Thread nD τ) (Memref.whole main_v18) fullShare.right (insOf V c).tab := by
  obtain rfl : c = 0 := Subsingleton.elim _ _
  rw [owns_whole_eq]
  unfold Pipeline.ΦT Pipeline.prefHeld
  rw [show (Finset.univ : Finset (Fin pre0.K)) = {0} from by decide, bigSep_singleton]
  iintro H
  iexists _
  isplitr; swap; · iexact H
  ipureintro
  rfl

/-- Entering the region: the scratch at anything. -/
theorem hin (c : Dev nD) : iprop(Pipeline.ΦA spec0 c ∗ Pipeline.ΦT pre0 (adm V 0).1 c) ⊢ (dats V 0 c).Φ 0 := by
  refine (sep_mono_right (table_eq V c)).trans ?_
  rw [Φ_eq]
  unfold Kept Pipeline.ΦA
  rw [scopedRest0_eq]
  simp only [owns_whole_eq]
  iintro ⟨⟨⟨⟨%f0, H0⟩, ⟨%f1, H1⟩, ⟨%f2, H2⟩, ⟨%f3, H3⟩, ⟨%f4, H4⟩⟩, Hρ⟩, HT⟩
  iexists ({ h := f0, c := f1, hist := f2, hs := f3 } : Rec F)
  iexists ({ o := oBlk (insOf V c) (xsOf V c) 0, oc := oBlk (insOf V c) (xsOf V c) 0, sh := f0, sc := f1, ca := f4 } : St F)
  isplitr; · ipureintro; exact fun h => absurd rfl h
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [Hρ]; · iexact Hρ
  iexact HT

/-- Leaving it. -/
theorem hout (c : Dev nD) : (dats V 0 c).Φ (Fin.last (cfgA V).N) ⊢ Pipeline.ΦA spec0 c := by
  rw [Φ_eq]
  unfold Kept Pipeline.ΦA
  rw [scopedRest0_eq]
  simp only [owns_whole_eq]
  iintro ⟨%r, %s, %h, ⟨%f0, %e0, H0⟩, ⟨%f1, %e1, H1⟩, ⟨%f2, %e2, H2⟩, ⟨%f3, %e3, H3⟩, ⟨%f4, %e4, H4⟩, Hρ, HT⟩
  isplitr [Hρ]; swap; · iexact Hρ
  isplitl [H0]; · iexists f0; iexact H0
  isplitl [H1]; · iexists f1; iexact H1
  isplitl [H2]; · iexists f2; iexact H2
  isplitl [H3]; · iexists f3; iexact H3
  iexists f4; iexact H4

end Ends

theorem ops0_fresh : (hostOps0 : List (HloOp τ sig (Elt F))).Forall fun op => op.fresh = ∅ := by
  simp only [List.Forall]; and_intros <;> rfl
theorem ops1_fresh : (hostOps1 : List (HloOp τ sig (Elt F))).Forall fun op => op.fresh = ∅ := by
  simp only [List.Forall]; and_intros <;> rfl

/-- The lines after the region touch no table. -/
theorem tail_sub : ∀ ops ∈ ([hostOps1] : List (List (HloOp τ sig (Elt F)))), ∀ op ∈ ops, op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  simp only [hostOps1, List.mem_cons, List.mem_nil_iff, or_false] at hop
  rcases hop with rfl | rfl | rfl | rfl <;> intro j <;> fin_cases j <;>
    simp only [StableHlo.unary_bufs, StableHlo.reshape_bufs, Finset.mem_insert, Finset.mem_singleton, not_or] <;>
    and_intros <;> exact StableHlo.devRef_ne_of_ne (by decide)

/-- They write no array of the pipeline. -/
theorem tail_keeps : ∀ ops ∈ ([hostOps1] : List (List (HloOp τ sig (Elt F)))), ∀ op ∈ ops, ∀ w, Proc.devRef .tc (Pipeline.arrRef spec0 w) ∉ op.writes := by
  intro ops hops op hop w
  obtain rfl := List.mem_singleton.mp hops
  simp only [hostOps1, List.mem_cons, List.mem_nil_iff, or_false] at hop
  rcases hop with rfl | rfl | rfl | rfl <;>
    simp only [StableHlo.unary_writes, StableHlo.reshape_writes, Finset.mem_singleton] <;>
    refine StableHlo.devRef_ne_of_ne ?_ <;> revert w <;> decide

variable (m : (ℓ : Loc nD τ sig) → Buf (Elt F) ℓ) (g : Dev nD → PrngReg)

/-- The buffers as the region finds them: after the host operations before it. -/
def entry (c : Dev nD) : Valuation τ sig (Elt F) := StableHlo.after (List.flatten [hostOps0]) (fun b => m (c, b))

theorem main_around : Pipeline.HMainPK (Ix := Unit) (Name := ℕ) (U := UR sig nD τ) (Lvl := ℕ) pcfgs 0 defs₀ Variants.none m (main (F := F))
    (fun c b => entry m c (Proc.devRef .tc b)) (fun _ => Pipeline.chain ([hostOps1].map StableHlo.seq)) :=
  Pipeline.hmainP_around pcfgs 0 defs₀ Variants.none m main [hostOps0] [hostOps1] (by simp only [List.Forall]; exact hostOps0_sub)
    (by simp only [List.Forall]; exact ops0_fresh) main_chain

/-- The buffers at the end. -/
abbrev ended (c : Dev nD) (b : Ref sig .tc) : Buf (Elt F) ((c : Thread nD τ).loc b) :=
  Pipeline.afterTail pcfgs (adm (entry m)) (dats (entry m)) 0 (entry m) [hostOps1] c b

set_option backward.isDefEq.respectTransparency.types false in
/-- The run. -/
theorem run_main (hT : ∀ c, TabIn (F := F) (insOf (entry m) c).tab) :
    θ_run (defs (F := F)) (onTc (τ := τ) (main (F := F))) ⟨m, fun _ => 0, g⟩
      (fun r => Pipeline.FramePost (Pipeline.pin pcfgs (adm (entry m))) (dats (entry m)) 0 (ended m) r ∧ r.2.sem = fun _ => 0) :=
  Pipeline.θ_run_frameP_around_track pcfgs (adm (entry m)) (dats (entry m)) (0 : Fin 1) launch0 defs₀ Variants.none m g main
    (hbody := fun c => (body_obligation (entry m) c (hT c)).loose) (hshare := fun c => (dats (entry m) 0 c).share_full fun _ => rfl)
    (howed := fun _ _ => rfl) (V₀ := entry m) (opss := [hostOps1]) (hsub := tail_sub)
    (hfresh := fun ops hops op hop => by obtain rfl := List.mem_singleton.mp hops; exact (List.forall_iff_forall_mem.mp ops1_fresh) op hop)
    (hkeep := tail_keeps) (hmain := main_around m) (hA := A_eq (entry m))
    (hpf := fun c k => by obtain rfl : c = 0 := Subsingleton.elim _ _; rfl)
    (hin := hin (entry m)) (hout := hout (entry m))
    (Q' := fun r => Pipeline.FramePost (Pipeline.pin pcfgs (adm (entry m))) (dats (entry m)) 0 (ended m) r ∧ r.2.sem = fun _ => 0)
    (hQ' := fun _ h => h)

end Cert.Proof.Lstm

end
-- ==== Proof.Ends.lean ====
/-
  What the run leaves: the arguments as they were, and what the region finds in the arrays the host operations prepare.
-/
module

public import proofs.«01_k».proof.Proof.Run
public import Idealize.ShloMosaic.Lib.StableHlo.Predicate
public import proofs.«01_k».proof.Proof.Gen.Pre_in_range

@[expose] public section

noncomputable section

namespace Cert.Proof.Lstm
open Idealize.ShloMosaic Idealize.ShloMosaic.TcCoe
open Idealize.SL Idealize.SL.RA Idealize.SL.BI
open Idealize.ShloMosaic.Pipeline (Dat Cfg Window BodyObligation)
open Cert.KernelIdeal Cert.KernelIdeal.Gen
variable {F : FTy → Type} [FloatOps F]

/-- The references the host operations before the region write. -/
def written0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23]

/-- Each operation before the region writes one of them. -/
theorem ops0_writes : ∀ op ∈ (hostOps0 : List (HloOp τ sig (Elt F))), ∃ b ∈ written0, op.writes = {Proc.devRef .tc b} := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl <;>
    exact ⟨_, by simp [written0], rfl⟩

/-- Each operation after it writes one of four arrays. -/
theorem ops1_writes : ∀ op ∈ (hostOps1 : List (HloOp τ sig (Elt F))), ∃ b ∈ [main_v25, main_v26, main_v27, main_v28], op.writes = {Proc.devRef .tc b} := by
  intro op hop
  simp only [List.mem_cons, List.mem_nil_iff, or_false] at hop
  rcases hop with rfl | rfl | rfl | rfl <;> exact ⟨_, by simp, rfl⟩

/-- The arguments. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- They are no array of the pipeline and nothing writes them. -/
theorem args_rest : ∀ b ∈ argRefs, b ∈ Pipeline.restRefs sig spec0 ∧ b ∉ written0 ∧ b ∉ [main_v25, main_v26, main_v27, main_v28] ∧ ∀ w, Pipeline.arrRef spec0 w ≠ b := by
  decide

variable (m : (ℓ : Loc nD τ sig) → Buf (Elt F) ℓ)

/-- What no operation before the region writes is as at the launch. -/
theorem entry_kept (c : Dev nD) (b : Ref sig .tc) (h : b ∉ written0) : entry m c (Proc.devRef .tc b) = m (c, Proc.devRef .tc b) := by
  refine StableHlo.after_of_forall_not_mem (b := Proc.devRef .tc b) _ _ fun op hop => ?_
  obtain ⟨b', hb, e⟩ := ops0_writes op (by simpa using hop)
  rw [e, Finset.mem_singleton]
  exact StableHlo.devRef_ne_of_ne fun e => h (e ▸ hb)

/-- What no operation after it writes is as the region found it. -/
theorem ended_kept (c : Dev nD) (b : Ref sig .tc) (h1 : b ∉ [main_v25, main_v26, main_v27, main_v28]) (hw : ∀ w, Pipeline.arrRef spec0 w ≠ b) :
    ended m c b = entry m c (Proc.devRef .tc b) := by
  unfold ended Pipeline.afterTail
  rw [StableHlo.after_of_forall_not_mem (b := Proc.devRef .tc b) _ _ fun op hop => ?_, Pipeline.withArrays_of_ne _ c _ _ _ fun w => hw w]
  obtain ⟨b', hb, e⟩ := ops1_writes op (by simpa using hop)
  rw [e, Finset.mem_singleton]
  exact StableHlo.devRef_ne_of_ne fun e => h1 (e ▸ hb)

variable (g : Dev nD → PrngReg)

/-- The run ends with every argument as it was and every counter at zero. -/
theorem args_kept (hT : ∀ c, TabIn (F := F) (insOf (entry m) c).tab) :
    θ_run (defs (F := F)) (onTc (τ := τ) (main (F := F))) ⟨m, fun _ => 0, g⟩
      (fun r => (∀ c : Dev nD, ∀ b ∈ argRefs, r.2.mem ((c.tc : Thread nD τ).loc b) = m ((c.tc : Thread nD τ).loc b)) ∧ r.2.sem = fun _ => 0) :=
  (θ_run defs _ _).mono (fun r h => ⟨fun c b hb => by
    obtain ⟨h0, h1, h2, h3⟩ := args_rest b hb
    rw [Pipeline.FramePost.rest_eq h.1 c b h0, ended_kept m c b h2 h3]
    exact entry_kept m c b h1, h.2⟩) (run_main m g hT)

/-- The table the region reads is the transpose of the last argument. -/
theorem entry_tab (c : Dev nD) : (insOf (entry m) c).tab
    = transpose S128x32 [1, 0] (m ((c.tc : Thread nD τ).loc main_arg19)) transposes_S32x128_S128x32_1_0 := by
  show entry m c (Proc.devRef .tc main_v18) = _
  unfold entry
  simp only [List.flatten_cons, List.flatten_nil, List.append_nil]
  after_results

/-- A table of words below 128 gives the body what it asks. -/
theorem tab_in (c : Dev nD) (h : ∀ i, (m ((c.tc : Thread nD τ).loc main_arg19) i : BitVec 32).toNat < 128) :
    TabIn (F := F) (insOf (entry m) c).tab := by
  intro j
  rw [entry_tab]
  exact h _

end Cert.Proof.Lstm
end
-- ==== Proof.Frames.lean ====
/-
  What the preconditions say of the arguments, and the frames that follow from them.
-/
module

public import proofs.«01_k».proof.Proof.Ends
public import proofs.«01_k».proof.Defs
public import proofs.«01_k».proof.Proof.Gen.Kernel
public import proofs.«01_k».proof.Proof.Gen.ReferenceIdeal.Run

@[expose] public section

noncomputable section

namespace Cert.Proof.Lstm
open Idealize.ShloMosaic Idealize.ShloMosaic.TcCoe

/-- A word between 0 and 128 as a signed number is below 128 as a natural number. -/
theorem word_lt (a : BitVec 32) (h0 : IntOp.cmpi .sge a 0#32 = 1#1) (h1 : IntOp.cmpi .slt a 128#32 = 1#1) : a.toNat < 128 := by
  simp only [IntOp.cmpi, StableHlo.Predicate.ofBool_eq_one_iff, BitVec.sle, BitVec.slt, decide_eq_true_eq] at h0 h1
  have e0 : (0#32 : BitVec 32).toInt = 0 := by decide
  have e1 : (128#32 : BitVec 32).toInt = 128 := by decide
  rw [e0] at h0
  rw [e1] at h1
  rw [BitVec.toInt_eq_toNat_cond] at h0 h1
  have := a.isLt
  split at h0 <;> omega

/-- Both bits of a conjunction that is one are one. -/
theorem both_bits {a b : BitVec 1} (h : IntOp.andi a b = 1#1) : a = 1#1 ∧ b = 1#1 := by
  revert a b; decide

section Range
variable {F : FTy → Type} [FloatOps F]

/-- The first precondition bounds every parent index. -/
theorem range_of_pre {a0 a1 a2 a3 a4 a5 a6 a7 a8 a9 a10 a11 a12 a13 a14 a15 a16 a17 a18} {a19 : IVec Cert.Pre_in_range.S32x128 32}
    (h : Cert.Pre_in_range.fn (F := F) a0 a1 a2 a3 a4 a5 a6 a7 a8 a9 a10 a11 a12 a13 a14 a15 a16 a17 a18 a19 = fun _ => 1#1) (i) :
    (a19 i : BitVec 32).toNat < 128 := by
  have e := congrFun h i
  simp only [Cert.Pre_in_range.fn] at e
  obtain ⟨e0, e1⟩ := both_bits e
  exact word_lt _ e0 e1

end Range

section Kept
open Cert.KernelIdeal Cert.KernelIdeal.Gen
variable {F : FTy → Type} [FloatOps F]

/-- The run keeps its arguments when the parent indices are in range. -/
theorem frame_of_range (m : (ℓ : Loc nD τ sig) → Buf (Elt F) ℓ) (g : Dev nD → PrngReg)
    (h : ∀ (c : Dev nD) i, (m ((c.tc : Thread nD τ).loc main_arg19) i : BitVec 32).toNat < 128) :
    θ_run (defs (F := F)) (onTc (τ := τ) (main (F := F))) ⟨m, fun _ => 0, g⟩
      (fun r => (∀ c : Dev nD, ∀ b ∈ argRefs, r.2.mem ((c.tc : Thread nD τ).loc b) = m ((c.tc : Thread nD τ).loc b)) ∧ r.2.sem = fun _ => 0) :=
  args_kept m g fun c => tab_in m c (h c)

/-- A statement of every argument is a statement of each. -/
theorem each_arg {P : Ref sig .tc → Prop} (h : ∀ b ∈ argRefs, P b) :
    P main_arg0 ∧ P main_arg1 ∧ P main_arg2 ∧ P main_arg3 ∧ P main_arg4 ∧ P main_arg5 ∧ P main_arg6 ∧ P main_arg7 ∧ P main_arg8 ∧ P main_arg9
      ∧ P main_arg10 ∧ P main_arg11 ∧ P main_arg12 ∧ P main_arg13 ∧ P main_arg14 ∧ P main_arg15 ∧ P main_arg16 ∧ P main_arg17 ∧ P main_arg18 ∧ P main_arg19 := by
  simpa [argRefs] using h

end Kept

/-- The kernel over the reals keeps its arguments, the indices being in range. -/
theorem ideal_frame : Cert.quiescent_KernelIdeal := fun m g hm =>
  (θ_run Cert.KernelIdeal.defs _ _).mono (fun r h => ⟨fun c => each_arg (P := fun b => r.2.mem ((c.tc : Thread _ _).loc b) = m ((c.tc : Thread _ _).loc b)) (h.1 c), h.2⟩) (frame_of_range m g fun c => range_of_pre (hm c))

/-- The reference keeps its arguments. -/
theorem reference_frame : Cert.quiescent_ReferenceIdeal := fun m g _ =>
  (θ_run Cert.ReferenceIdeal.defs _ _).mono (fun r h => ⟨fun c => (h c).2.2, sem_eq_zero_of_no_sems (by decide) r.2⟩) (Cert.ReferenceIdeal.Value.run (F := Ideal) m g)

end Cert.Proof.Lstm
end
-- ==== Proof.WordFrame.lean ====
/-
  The frame of the kernel as it is run on machine words.
-/
module

public import proofs.«01_k».proof.Proof.Frames
public import proofs.«01_k».proof.Proof.Word.Ends

@[expose] public section

noncomputable section

namespace Cert.Proof.LstmWord
open Idealize.ShloMosaic Idealize.ShloMosaic.TcCoe
open Cert.Kernel Cert.Kernel.Gen

/-- A statement of every argument is a statement of each. -/
theorem each_arg {P : Ref sig .tc → Prop} (h : ∀ b ∈ argRefs, P b) :
    P main_arg0 ∧ P main_arg1 ∧ P main_arg2 ∧ P main_arg3 ∧ P main_arg4 ∧ P main_arg5 ∧ P main_arg6 ∧ P main_arg7 ∧ P main_arg8 ∧ P main_arg9
      ∧ P main_arg10 ∧ P main_arg11 ∧ P main_arg12 ∧ P main_arg13 ∧ P main_arg14 ∧ P main_arg15 ∧ P main_arg16 ∧ P main_arg17 ∧ P main_arg18 ∧ P main_arg19 := by
  simpa [argRefs] using h

/-- The kernel as run keeps its arguments, the indices being in range. -/
theorem word_frame : Cert.quiescent_Kernel := fun m g hm =>
  (θ_run Cert.Kernel.defs _ _).mono (fun r h => ⟨fun c => each_arg (P := fun b => r.2.mem ((c.tc : Thread _ _).loc b) = m ((c.tc : Thread _ _).loc b)) (h.1 c), h.2⟩)
    (args_kept m g fun c => tab_in m c (Cert.Proof.Lstm.range_of_pre (hm c)))

end Cert.Proof.LstmWord
end
-- ==== Proof.Model.lean ====
/-
  The attention LSTM over the extended reals, entry by entry: the mathematics that the kernel and the reference both compute.
-/
module

public import Idealize.ShloMosaic.PureOps
public import Idealize.ShloMosaic.Lib.Pointwise

@[expose] public section

noncomputable section

namespace Cert.Proof.Lstm
open Idealize.ShloMosaic

/-- The arrays the scan is given: inputs, context, first hidden state, weights and biases, parent steps. -/
structure Nums where
  x : Fin 32 → Fin 128 → Fin 512 → EReal
  cx : Fin 32 → Fin 64 → Fin 512 → EReal
  h0 : Fin 32 → Fin 512 → EReal
  wx : Fin 2048 → Fin 512 → EReal
  bx : Fin 2048 → EReal
  uh : Fin 2048 → Fin 512 → EReal
  cc : Fin 2048 → Fin 512 → EReal
  ph : Fin 2048 → Fin 512 → EReal
  hh : Fin 2048 → Fin 512 → EReal
  wac : Fin 128 → Fin 512 → EReal
  bac : Fin 128 → EReal
  wah : Fin 128 → Fin 512 → EReal
  wa : Fin 128 → EReal
  whh : Fin 128 → Fin 512 → EReal
  bhh : Fin 128 → EReal
  whq : Fin 128 → Fin 512 → EReal
  wha : Fin 128 → EReal
  pt : Fin 32 → Fin 128 → Fin 128

/-- What a step carries to the next: the hidden state, the cell state, the hidden states so far. -/
structure Carry where
  h : Fin 32 → Fin 512 → EReal
  c : Fin 32 → Fin 512 → EReal
  hist : Fin 128 → Fin 32 → Fin 512 → EReal

/-- The greatest of finitely many numbers. -/
def top {n : ℕ} (f : Fin n → EReal) : EReal := Finset.univ.fold max (Ideal.ofBits .f32 0xFF800000#32) f

variable (P : Nums)

/-- The context's keys. -/
def key (b : Fin 32) (l : Fin 64) (a : Fin 128) : EReal := ∑ d, P.cx b l d * P.wac a d + P.bac a

/-- The context's scores, without their common offset. -/
def scA (h : Fin 32 → Fin 512 → EReal) (b : Fin 32) (l : Fin 64) : EReal :=
  ∑ a, Ideal.tanh (key P b l a + ∑ d, h b d * P.wah a d) * P.wa a

/-- The context's weights before they are normed. -/
def exA (h : Fin 32 → Fin 512 → EReal) (b : Fin 32) (l : Fin 64) : EReal := Ideal.exp (scA P h b l - top (scA P h b))

/-- The context vector. -/
def ctx (h : Fin 32 → Fin 512 → EReal) (b : Fin 32) (d : Fin 512) : EReal :=
  ∑ l, Ideal.div (exA P h b l) (∑ k, exA P h b k) * P.cx b l d

/-- The history's keys. -/
def hkey (H : Fin 128 → Fin 32 → Fin 512 → EReal) (s : Fin 128) (b : Fin 32) (a : Fin 128) : EReal := ∑ d, H s b d * P.whh a d + P.bhh a

/-- The history's scores, without their common offset. -/
def scB (h : Fin 32 → Fin 512 → EReal) (H : Fin 128 → Fin 32 → Fin 512 → EReal) (b : Fin 32) (s : Fin 128) : EReal :=
  ∑ a, Ideal.tanh (hkey P H s b a + ∑ d, h b d * P.whq a d) * P.wha a

/-- The history's weights before they are normed. -/
def exB (h : Fin 32 → Fin 512 → EReal) (H : Fin 128 → Fin 32 → Fin 512 → EReal) (b : Fin 32) (s : Fin 128) : EReal :=
  Ideal.exp (scB P h H b s - top (scB P h H b))

/-- The history vector, its weights normed by their guarded sum. -/
def hctx (h : Fin 32 → Fin 512 → EReal) (H : Fin 128 → Fin 32 → Fin 512 → EReal) (b : Fin 32) (d : Fin 512) : EReal :=
  ∑ s, Ideal.div (exB P h H b s) (∑ k, exB P h H b k + Ideal.ofBits .f32 0x33D6BF95#32) * H s b d

/-- The gates' arguments at step `t`. -/
def pre (t : Fin 128) (m : Carry) (b : Fin 32) (g : Fin 2048) : EReal :=
  ((((∑ d, P.x b t d * P.wx g d + P.bx g) + ∑ d, m.h b d * P.uh g d) + ∑ d, ctx P m.h b d * P.cc g d)
    + ∑ d, m.hist (P.pt b t) b d * P.ph g d) + ∑ d, hctx P m.h m.hist b d * P.hh g d

/-- The new cell state. -/
def newc (t : Fin 128) (m : Carry) (b : Fin 32) (d : Fin 512) : EReal :=
  Ideal.logistic (pre P t m b ⟨512 + d.val, by omega⟩) * m.c b d
    + Ideal.logistic (pre P t m b ⟨d.val, by omega⟩) * Ideal.tanh (pre P t m b ⟨1024 + d.val, by omega⟩)

/-- The new hidden state. -/
def newh (t : Fin 128) (m : Carry) (b : Fin 32) (d : Fin 512) : EReal :=
  Ideal.logistic (pre P t m b ⟨1536 + d.val, by omega⟩) * Ideal.tanh (newc P t m b d)

/-- One step. -/
def next (t : Fin 128) (m : Carry) : Carry where
  h := newh P t m
  c := newc P t m
  hist s b d := if s = t then newh P t m b d else m.hist s b d

/-- What is carried into step `t`. -/
def carry : ℕ → Carry
  | 0 => ⟨P.h0, fun _ _ => 0, fun _ _ _ => 0⟩
  | t + 1 => next P (Fin.ofNat 128 t) (carry t)

/-- Row `s` of the history is the hidden state after step `s`, once that is made, and zero before. -/
theorem hist_carry (t : ℕ) (ht : t ≤ 128) (s : Fin 128) :
    (carry P t).hist s = if s.val < t then (carry P (s.val + 1)).h else fun _ _ => 0 := by
  induction t with
  | zero => rfl
  | succ t ih =>
    have hv : (Fin.ofNat 128 t).val = t := Nat.mod_eq_of_lt (by omega)
    funext b d
    show (if s = Fin.ofNat 128 t then _ else _) = _
    by_cases hs : s = Fin.ofNat 128 t
    · have : s.val = t := by rw [hs, hv]
      rw [if_pos hs, if_pos (by omega), this]; rfl
    · have : s.val ≠ t := fun h => hs (Fin.ext (h.trans hv.symm))
      rw [if_neg hs, ih (by omega)]
      by_cases h : s.val < t
      · rw [if_pos h, if_pos (by omega)]
      · rw [if_neg h, if_neg (by omega)]

/-- A common finite offset leaves a difference of two numbers alone. -/
theorem sub_offset (x y : EReal) (r : ℝ) : (x + r) - (y + r) = x - y := by
  rw [sub_eq_add_neg, EReal.neg_add (Or.inr (EReal.coe_ne_top r)) (Or.inr (EReal.coe_ne_bot r)), sub_eq_add_neg, sub_eq_add_neg, add_add_add_comm,
    ← sub_eq_add_neg (r : EReal), EReal.sub_self (EReal.coe_ne_top r) (EReal.coe_ne_bot r), add_zero]

/-- The word of minus infinity. -/
theorem neg_inf : Ideal.ofBits .f32 0xFF800000#32 = ⊥ := by
  show Ideal.ieee 8 23 0xFF800000#32 = ⊥
  unfold Ideal.ieee
  rw [if_pos (by decide), if_pos (by decide), if_pos (by decide)]

/-- A common finite offset moves the greatest. -/
theorem top_offset {n : ℕ} (f : Fin n → EReal) (r : ℝ) : top (fun i => f i + r) = top f + r := by
  unfold top
  have h := Finset.fold_hom (op := (max : EReal → EReal → EReal)) (op' := (max : EReal → EReal → EReal)) (s := (Finset.univ : Finset (Fin n))) (b := Ideal.ofBits .f32 0xFF800000#32) (f := f)
    (m := fun y : EReal => y + r) (fun x y => Monotone.map_max (f := fun y : EReal => y + r) fun _ _ hab => add_le_add_left hab _)
  rw [← h, neg_inf, EReal.bot_add]

end Cert.Proof.Lstm
end
-- ==== Proof.KVal.lean ====
/-
  The kernel's step over the extended reals, entry by entry.
-/
module

public import proofs.«01_k».proof.Proof.Blocks
public import proofs.«01_k».proof.Proof.Model
public import proofs.«01_k».proof.Proof.Gen.KernelIdeal

@[expose] public section

noncomputable section

namespace Cert.Proof.Lstm
open Idealize.ShloMosaic Idealize.ShloMosaic.TcCoe
open Cert.KernelIdeal Cert.KernelIdeal.Gen

set_option maxRecDepth 16384

/-- The arrays the region is given hold these numbers. -/
structure Holds (A : Ins Ideal) (X : ℕ → Vec Ideal S1x1x32x512 .bf16) (P : Nums) : Prop where
  x : ∀ (t : Fin 128) b d, X t.val (ix4 0 0 b d) = P.x b t d
  cx : ∀ l b d, A.cx (ix4 0 l b d) = P.cx b l d
  h0 : ∀ b d, A.h0 (ix3 0 b d) = P.h0 b d
  wx : ∀ (d : Fin 512) g, A.w1 (ix2 ⟨d.val, by omega⟩ g) = P.wx g d
  uh : ∀ (d : Fin 512) g, A.w1 (ix2 ⟨512 + d.val, by omega⟩ g) = P.uh g d
  bx : ∀ g, A.bx (ix2 0 g) = P.bx g
  cc : ∀ (d : Fin 512) g, A.w2 (ix2 ⟨d.val, by omega⟩ g) = P.cc g d
  ph : ∀ (d : Fin 512) g, A.w2 (ix2 ⟨512 + d.val, by omega⟩ g) = P.ph g d
  hh : ∀ (d : Fin 512) g, A.w2 (ix2 ⟨1024 + d.val, by omega⟩ g) = P.hh g d
  wac : ∀ d a, A.wc (ix2 d a) = P.wac a d
  bac : ∀ a, A.bac (ix2 0 a) = P.bac a
  wah : ∀ d (a : Fin 128), A.wq (ix2 d ⟨a.val, by omega⟩) = P.wah a d
  whq : ∀ d (a : Fin 128), A.wq (ix2 d ⟨128 + a.val, by omega⟩) = P.whq a d
  whh : ∀ d (a : Fin 128), A.wq (ix2 d ⟨256 + a.val, by omega⟩) = P.whh a d
  wa : ∀ a, A.wa (ix2 0 a) = P.wa a
  bhh : ∀ a, A.bhh (ix2 0 a) = P.bhh a
  wha : ∀ a, A.wha (ix2 0 a) = P.wha a
  pt : ∀ b t, (A.tab (ix2 t b) : BitVec 32).toNat = (P.pt b t).val

variable {A : Ins Ideal} {X : ℕ → Vec Ideal S1x1x32x512 .bf16} {P : Nums} (H : Holds A X P)
  {h c : FVec Ideal S32x512 .f32} {hist : Vec Ideal S128x32x512 .bf16} {hs : Vec Ideal S128x32x128 .f32} {m : Carry}

include H

/-- The context's keys. -/
theorem ca_val (l b a) : caOf A (ix3 l b a) = key P b l a := by
  unfold caOf key
  pointwise [ca0]
  simp only [H.cx, H.wac, H.bac]

/-- The three products of the hidden state. -/
theorem qA_val (hh : ∀ b d, h (ix2 b d) = m.h b d) (b a) : qA (q3 h A.wq) (ix2 b a) = ∑ d, m.h b d * P.wah a d := by
  pointwise [q3, qA]
  simp only [hh, H.wah]

theorem qB_val (hh : ∀ b d, h (ix2 b d) = m.h b d) (b a) : qB (q3 h A.wq) (ix2 b a) = ∑ d, m.h b d * P.whq a d := by
  pointwise [q3, qB]
  simp only [hh, H.whq]

theorem qC_val (hh : ∀ b d, h (ix2 b d) = m.h b d) (b a) : qC (q3 h A.wq) (ix2 b a) = ∑ d, m.h b d * P.whh a d := by
  pointwise [q3, qC]
  simp only [hh, H.whh]

/-- The context's weights. -/
theorem expA_val (hh : ∀ b d, h (ix2 b d) = m.h b d) (l b) : expA (caOf A) (qA (q3 h A.wq)) A.wa (ix2 l b) = exA P m.h b l := by
  unfold exA scA top
  pointwise [expA, scoreA, tanhA, maxA]
  simp only [ca_val H, qA_val H hh, H.wa]

/-- The context vector. -/
theorem cv_val (hh : ∀ b d, h (ix2 b d) = m.h b d) (b d) : cvOf A (caOf A) h (ix2 b d) = ctx P m.h b d := by
  unfold ctx
  pointwise [cvOf, ctxV, sumA]
  simp only [expA_val H hh, H.cx]

/-- The history's weights. -/
theorem expB_val (hh : ∀ b d, h (ix2 b d) = m.h b d) (hs' : ∀ s b a, hs (ix3 s b a) = hkey P m.hist s b a) (s b) :
    expB hs (qB (q3 h A.wq)) A.wha (ix2 s b) = exB P m.h m.hist b s := by
  unfold exB scB top
  pointwise [expB]
  simp only [hs', qB_val H hh, H.wha]

/-- The history vector. -/
theorem hc_val (hh : ∀ b d, h (ix2 b d) = m.h b d) (hi : ∀ s b d, hist (ix3 s b d) = m.hist s b d) (hs' : ∀ s b a, hs (ix3 s b a) = hkey P m.hist s b a) (b d) :
    hctxV (expB hs (qB (q3 h A.wq)) A.wha) hist (ix2 b d) = hctx P m.h m.hist b d := by
  unfold hctx
  pointwise [hctxV]
  simp only [expB_val H hh hs', hi]

/-- The parent states. -/
theorem par_val (hi : ∀ s b d, hist (ix3 s b d) = m.hist s b d) (t : Fin 128) (b d) :
    parV (F := Ideal) A.tab hist t.val (ix2 b d) = m.hist (P.pt b t) b d := by
  show hist (ix3 (parRow (F := Ideal) A.tab t.val b) b d) = _
  have : parRow (F := Ideal) A.tab t.val b = P.pt b t := by
    unfold parRow
    have ht : Fin.ofNat 128 t.val = t := Fin.ext (Nat.mod_eq_of_lt t.isLt)
    rw [ht, H.pt]
    exact Fin.ext (Nat.mod_eq_of_lt (P.pt b t).isLt)
  rw [this, hi]

omit H in
/-- A sum over three thirds. -/
theorem sum_thirds (f : Fin 1536 → EReal) :
    ∑ k, f k = (∑ d : Fin 512, f ⟨d.val, by omega⟩ + ∑ d : Fin 512, f ⟨512 + d.val, by omega⟩) + ∑ d : Fin 512, f ⟨1024 + d.val, by omega⟩ := by
  rw [Fin.sum_univ_add (a := 1024) (b := 512) f, Fin.sum_univ_add (a := 512) (b := 512) fun i : Fin 1024 => f (Fin.castAdd 512 i)]
  rfl

/-- The gates' arguments. -/
theorem gates_val (r : Rec Ideal) (hh : ∀ b d, r.h (ix2 b d) = m.h b d) (hi : ∀ s b d, r.hist (ix3 s b d) = m.hist s b d)
    (hs' : ∀ s b a, r.hs (ix3 s b a) = hkey P m.hist s b a) (t : Fin 128) (b g) :
    gatesOf A t.val (X t.val) (caOf A) r (ix2 b g) = pre P t m b g := by
  unfold gatesOf pre
  generalize hcv : cvOf A (caOf A) r.h = cv
  generalize hpa : parV A.tab r.hist t.val = pa
  generalize hhc : hctxV (expB r.hs (qB (q3 r.h A.wq)) A.wha) r.hist = hc
  have e1 : ∀ b d, cv (ix2 b d) = ctx P m.h b d := fun b d => by rw [← hcv]; exact cv_val H hh b d
  have e2 : ∀ b d, pa (ix2 b d) = m.hist (P.pt b t) b d := fun b d => by rw [← hpa]; exact par_val H hi t b d
  have e3 : ∀ b d, hc (ix2 b d) = hctx P m.h m.hist b d := fun b d => by rw [← hhc]; exact hc_val H hh hi hs' b d
  pointwise [gates]
  rw [sum_thirds]
  have l1 (d : Fin 512) : ¬ (512 + d.val < 512) := by omega
  have l2 (d : Fin 512) : ¬ (1024 + d.val < 512) := by omega
  have l3 (d : Fin 512) : ¬ (1024 + d.val - 512 < 512) := by omega
  have l4 (d : Fin 512) : 512 + d.val - 512 < 512 := by omega
  have l5 (d : Fin 512) : 512 + d.val - 512 = d.val := by omega
  have l6 (d : Fin 512) : 1024 + d.val - 512 - 512 = d.val := by omega
  simp only [Fin.is_lt, dif_pos, l1, l2, l3, l4, l5, l6, not_false_eq_true, dif_neg, Fin.eta, e1, e2, e3, H.x, H.wx, H.uh, H.cc, H.ph, H.hh, H.bx, hh]
  ac_rfl

end Cert.Proof.Lstm
end
-- ==== Proof.KRec.lean ====
/-
  The kernel's recurrence is the attention LSTM's.
-/
module

public import proofs.«01_k».proof.Proof.KVal

@[expose] public section

noncomputable section

namespace Cert.Proof.Lstm
open Idealize.ShloMosaic Idealize.ShloMosaic.TcCoe
open Cert.KernelIdeal Cert.KernelIdeal.Gen

set_option maxRecDepth 16384

/-- One row of a table put in its place, entry by entry. -/
theorem put_row {n : ℕ} (o : (⟨3, ![128, 32, n]⟩ : Shape).Idx → EReal) (v : (⟨3, ![1, 32, n]⟩ : Shape).Idx → EReal) (k : ℕ) (s : Fin 128) (b : Fin 32) (d : Fin n) :
    VecWindow.put (s := ⟨3, ![128, 32, n]⟩) o ![k, 0, 0] (⟨3, ![1, 32, n]⟩ : Shape).size v (ix3 s b d)
      = if s.val = k then v (ix3 0 b d) else o (ix3 s b d) := by
  unfold VecWindow.put
  by_cases h : s.val = k
  · rw [if_pos h, dif_pos (fun a => by fin_cases a <;> simp [ix3] <;> omega)]
    refine congrArg v (funext fun a => Fin.ext ?_)
    fin_cases a <;> simp [ix3] <;> omega
  · rw [if_neg h, dif_neg]
    intro hh
    have : k ≤ s.val ∧ s.val < k + 1 := hh 0
    omega

variable {A : Ins Ideal} {X : ℕ → Vec Ideal S1x1x32x512 .bf16} {P : Nums}

/-- The kernel's recurrence at step `t` holds what the scan carries; the history is that with the step before entered. -/
structure Agrees (A : Ins Ideal) (P : Nums) (t : ℕ) (r : Rec Ideal) (m : Carry) : Prop where
  h : ∀ b d, r.h (ix2 b d) = m.h b d
  c : ∀ b d, r.c (ix2 b d) = m.c b d
  hist : t < 128 → ∀ s b d, (if t = 0 then r else scatRec A t r).hist (ix3 s b d) = m.hist s b d
  hs : t < 128 → ∀ s b a, (if t = 0 then r else scatRec A t r).hs (ix3 s b a) = hkey P m.hist s b a

variable (H : Holds A X P)
include H

/-- At the start: the given hidden state, zeros, and an empty history. -/
theorem agrees_zero : Agrees A P 0 (rec0 A) (carry P 0) where
  h b d := by
    show shapeCast S32x512 A.h0 shapeCasts_S1x32x512_S32x512 (ix2 b d) = P.h0 b d
    pointwise
    exact H.h0 b d
  c b d := by
    show broadcast S32x512 (Scalar.ofBits .f32 0x00000000#32 : Ideal .f32) (ix2 b d) = 0
    pointwise
  hist _ s b d := by
    show broadcast S128x32x512 (Scalar.ofBits .bf16 0x0000#16 : Ideal .bf16) (ix3 s b d) = 0
    pointwise
  hs _ s b a := by
    show hs0 A.bhh (ix3 s b a) = ∑ d, (0 : EReal) * P.whh a d + P.bhh a
    pointwise [hs0]
    simp only [H.bhh, zero_mul, Finset.sum_const_zero, zero_add]

/-- One step keeps the agreement. -/
theorem agrees_succ (t : ℕ) (ht : t < 128) (r : Rec Ideal) (m : Carry) (hr : Agrees A P t r m) :
    Agrees A P (t + 1) (stepRec A t (X t) (caOf A) r) (next P (Fin.ofNat 128 t) m) := by
  have hv : (Fin.ofNat 128 t).val = t := Nat.mod_eq_of_lt ht
  generalize hq : (if t = 0 then r else scatRec A t r) = q
  have qh : q.h = r.h := by rw [← hq]; split <;> rfl
  have qc : q.c = r.c := by rw [← hq]; split <;> rfl
  have qi := hr.hist ht
  have qs := hr.hs ht
  rw [hq] at qi qs
  have eh : ∀ b d, q.h (ix2 b d) = m.h b d := fun b d => by rw [qh]; exact hr.h b d
  have ec : ∀ b d, q.c (ix2 b d) = m.c b d := fun b d => by rw [qc]; exact hr.c b d
  have eg : ∀ b g, gatesOf A t (X t) (caOf A) q (ix2 b g) = pre P (Fin.ofNat 128 t) m b g := fun b g => by
    have := gates_val H q eh qi qs (Fin.ofNat 128 t) b g
    rwa [hv] at this
  have er : stepRec A t (X t) (caOf A) r = cellRec A t (X t) (caOf A) q := by unfold stepRec; rw [hq]
  have nc : ∀ b d, (stepRec A t (X t) (caOf A) r).c (ix2 b d) = newc P (Fin.ofNat 128 t) m b d := fun b d => by
    rw [er]
    show newC (gatesOf A t (X t) (caOf A) q) q.c (ix2 b d) = _
    unfold newc
    pointwise [newC]
    simp only [eg, ec]
  have nh : ∀ b d, (stepRec A t (X t) (caOf A) r).h (ix2 b d) = newh P (Fin.ofNat 128 t) m b d := fun b d => by
    have e := nc b d
    rw [er] at e ⊢
    change newC (gatesOf A t (X t) (caOf A) q) q.c (ix2 b d) = _ at e
    show newH (gatesOf A t (X t) (caOf A) q) (newC (gatesOf A t (X t) (caOf A) q) q.c) (ix2 b d) = _
    generalize newC (gatesOf A t (X t) (caOf A) q) q.c = c' at e ⊢
    unfold newh
    pointwise [newH]
    simp only [eg, e]
  have ei : (stepRec A t (X t) (caOf A) r).hist = q.hist := by rw [er]; rfl
  have es : (stepRec A t (X t) (caOf A) r).hs = q.hs := by rw [er]; rfl
  generalize stepRec A t (X t) (caOf A) r = r' at nc nh ei es ⊢
  have hrow : ∀ s : Fin 128, s.val = t ↔ s = Fin.ofNat 128 t := fun s => ⟨fun h => Fin.ext (h.trans hv.symm), fun h => by rw [h, hv]⟩
  refine ⟨nh, nc, fun _ s b d => ?_, fun _ s b a => ?_⟩
  · rw [if_neg (Nat.succ_ne_zero t)]
    show VecWindow.put r'.hist ![t + 1 - 1, 0, 0] S1x32x512.size (histRow r'.h) (ix3 s b d) = _
    rw [Nat.add_sub_cancel]
    refine (put_row r'.hist (histRow r'.h) t s b d).trans ?_
    show _ = if s = Fin.ofNat 128 t then newh P (Fin.ofNat 128 t) m b d else m.hist s b d
    rw [if_congr (hrow s) rfl rfl, ei, qi]
    refine if_congr Iff.rfl ?_ rfl
    pointwise [histRow]
    exact nh b d
  · rw [if_neg (Nat.succ_ne_zero t)]
    show VecWindow.put r'.hs ![t + 1 - 1, 0, 0] S1x32x128.size (shapeCast S1x32x128 (hsSum (qC (q3 r'.h A.wq)) A.bhh) shapeCasts_S32x128_S1x32x128) (ix3 s b a) = _
    rw [Nat.add_sub_cancel]
    refine (put_row r'.hs _ t s b a).trans ?_
    show _ = ∑ d, (if s = Fin.ofNat 128 t then newh P (Fin.ofNat 128 t) m b d else m.hist s b d) * P.whh a d + P.bhh a
    rw [if_congr (hrow s) rfl rfl, es, qs]
    by_cases h : s = Fin.ofNat 128 t
    · simp only [if_pos h]
      have e := qC_val H (h := r'.h) (m := next P (Fin.ofNat 128 t) m) nh b a
      generalize qC (q3 r'.h A.wq) = u at e ⊢
      pointwise [hsSum]
      rw [e, H.bhh]
      rfl
    · simp only [if_neg h]
      rfl

/-- So the whole recurrence agrees with the scan. -/
theorem agrees (t : ℕ) (ht : t ≤ 128) : Agrees A P t (recAt A X t) (carry P t) := by
  induction t with
  | zero => exact agrees_zero H
  | succ t ih => exact agrees_succ H t (by omega) _ _ (ih (by omega))

/-- The first result's rows. -/
theorem out_h (t : Fin 128) (b : Fin 32) (d : Fin 512) : (recAt A X (t.val + 1)).h (ix2 b d) = (carry P (t.val + 1)).h b d :=
  (agrees H (t.val + 1) (by omega)).h b d

/-- The second result's rows. -/
theorem out_ctx (t : Fin 128) (b : Fin 32) (d : Fin 512) : cvOf A (caOf A) (recAt A X t.val).h (ix2 b d) = ctx P (carry P t.val).h b d :=
  cv_val H (agrees H t.val (by omega)).h b d

end Cert.Proof.Lstm
end
-- ==== Proof.KEntry.lean ====
/-
  What the host operations before the region prepare, entry by entry: the arguments, rearranged.
-/
module

public import proofs.«01_k».proof.Proof.KRec
public import proofs.«01_k».proof.Proof.Ends
public import Idealize.ShloMosaic.Lib.Tactic.CleanTypes

@[expose] public section

noncomputable section

namespace Cert.Proof.Lstm
open Idealize.ShloMosaic Idealize.ShloMosaic.TcCoe

/-- The numbers in the twenty arguments (the two score offsets apart). -/
def numsOf (a0 : (⟨3, ![32, 128, 512]⟩ : Shape).Idx → EReal) (a1 : (⟨3, ![32, 64, 512]⟩ : Shape).Idx → EReal) (a2 : (⟨2, ![32, 512]⟩ : Shape).Idx → EReal)
    (a3 : (⟨2, ![2048, 512]⟩ : Shape).Idx → EReal) (a4 : (⟨1, ![2048]⟩ : Shape).Idx → EReal) (a5 a6 a7 a8 : (⟨2, ![2048, 512]⟩ : Shape).Idx → EReal)
    (a9 : (⟨2, ![128, 512]⟩ : Shape).Idx → EReal) (a10 : (⟨1, ![128]⟩ : Shape).Idx → EReal) (a11 : (⟨2, ![128, 512]⟩ : Shape).Idx → EReal)
    (a12 : (⟨1, ![128]⟩ : Shape).Idx → EReal) (a14 : (⟨2, ![128, 512]⟩ : Shape).Idx → EReal) (a15 : (⟨1, ![128]⟩ : Shape).Idx → EReal)
    (a16 : (⟨2, ![128, 512]⟩ : Shape).Idx → EReal) (a17 : (⟨1, ![128]⟩ : Shape).Idx → EReal) (a19 : (⟨2, ![32, 128]⟩ : Shape).Idx → BitVec 32) : Nums where
  x b t d := a0 (ix3 b t d)
  cx b l d := a1 (ix3 b l d)
  h0 b d := a2 (ix2 b d)
  wx g d := a3 (ix2 g d)
  bx g := a4 (ix1 g)
  uh g d := a5 (ix2 g d)
  cc g d := a6 (ix2 g d)
  ph g d := a7 (ix2 g d)
  hh g d := a8 (ix2 g d)
  wac a d := a9 (ix2 a d)
  bac a := a10 (ix1 a)
  wah a d := a11 (ix2 a d)
  wa a := a12 (ix1 a)
  whh a d := a14 (ix2 a d)
  bhh a := a15 (ix1 a)
  whq a d := a16 (ix2 a d)
  wha a := a17 (ix1 a)
  pt b t := Fin.ofNat 128 (a19 (ix2 b t)).toNat

open Cert.KernelIdeal Cert.KernelIdeal.Gen

set_option maxRecDepth 16384

variable (m : (ℓ : Loc nD τ sig) → Buf (Elt Ideal) ℓ) (c : Dev nD)

/-- An argument of the kernel. -/
abbrev arg (b : Ref sig .tc) : b.ty.Contents (Elt Ideal) := m ((c.tc : Thread nD τ).loc b)

/-- The numbers the kernel is given. -/
def numsK : Nums := numsOf (arg m c main_arg0) (arg m c main_arg1) (arg m c main_arg2) (arg m c main_arg3) (arg m c main_arg4) (arg m c main_arg5)
  (arg m c main_arg6) (arg m c main_arg7) (arg m c main_arg8) (arg m c main_arg9) (arg m c main_arg10) (arg m c main_arg11) (arg m c main_arg12)
  (arg m c main_arg14) (arg m c main_arg15) (arg m c main_arg16) (arg m c main_arg17) (arg m c main_arg19)

theorem entry_w1 (d : Fin 1024) (g : Fin 2048) : (insOf (entry m) c).w1 (ix2 d g)
    = if h : d.val < 512 then arg m c main_arg3 (ix2 g ⟨d.val, h⟩) else arg m c main_arg5 (ix2 g ⟨d.val - 512, by omega⟩) := by
  show entry m c (Proc.devRef .tc main_v2) (ix2 d g) = _
  unfold entry
  simp only [List.flatten_cons, List.flatten_nil, List.append_nil]
  after_results
  clean_types
  pointwise

theorem entry_w2 (d : Fin 1536) (g : Fin 2048) : (insOf (entry m) c).w2 (ix2 d g)
    = if h : d.val < 512 then arg m c main_arg6 (ix2 g ⟨d.val, h⟩) else if h : d.val - 512 < 512 then arg m c main_arg7 (ix2 g ⟨d.val - 512, h⟩)
      else arg m c main_arg8 (ix2 g ⟨d.val - 512 - 512, by omega⟩) := by
  show entry m c (Proc.devRef .tc main_v5) (ix2 d g) = _
  unfold entry
  simp only [List.flatten_cons, List.flatten_nil, List.append_nil]
  after_results
  clean_types
  pointwise
  split
  · exact congrFun (rfl : _ = arg m c main_arg6) _
  · split
    · exact congrFun (rfl : _ = arg m c main_arg7) _
    · exact congrFun (rfl : _ = arg m c main_arg8) _

theorem entry_wq (d : Fin 512) (a : Fin 384) : (insOf (entry m) c).wq (ix2 d a)
    = if h : a.val < 128 then arg m c main_arg11 (ix2 ⟨a.val, h⟩ d) else if h : a.val - 128 < 128 then arg m c main_arg16 (ix2 ⟨a.val - 128, h⟩ d)
      else arg m c main_arg14 (ix2 ⟨a.val - 128 - 128, by omega⟩ d) := by
  show entry m c (Proc.devRef .tc main_v8) (ix2 d a) = _
  unfold entry
  simp only [List.flatten_cons, List.flatten_nil, List.append_nil]
  after_results
  clean_types
  pointwise
  split
  · exact congrFun (rfl : _ = arg m c main_arg11) _
  · split
    · exact congrFun (rfl : _ = arg m c main_arg16) _
    · exact congrFun (rfl : _ = arg m c main_arg14) _

theorem entry_wc (d : Fin 512) (a : Fin 128) : (insOf (entry m) c).wc (ix2 d a) = arg m c main_arg9 (ix2 a d) := by
  show entry m c (Proc.devRef .tc main_v10) (ix2 d a) = _
  unfold entry
  simp only [List.flatten_cons, List.flatten_nil, List.append_nil]
  after_results
  clean_types
  pointwise

theorem entry_x (t : Fin 128) (b : Fin 32) (d : Fin 512) : xsOf (entry m) c t.val (ix4 0 0 b d) = arg m c main_arg0 (ix3 b t d) := by
  have ht : Fin.ofNat 128 t.val = t := Fin.ext (Nat.mod_eq_of_lt t.isLt)
  show entry m c (Proc.devRef .tc main_v13) (ix4 0 (Fin.ofNat 128 t.val) b d) = _
  rw [ht]
  unfold entry
  simp only [List.flatten_cons, List.flatten_nil, List.append_nil]
  after_results
  clean_types
  pointwise

theorem entry_cx (l : Fin 64) (b : Fin 32) (d : Fin 512) : (insOf (entry m) c).cx (ix4 0 l b d) = arg m c main_arg1 (ix3 b l d) := by
  show entry m c (Proc.devRef .tc main_v16) (ix4 0 l b d) = _
  unfold entry
  simp only [List.flatten_cons, List.flatten_nil, List.append_nil]
  after_results
  clean_types
  pointwise

theorem entry_h0 (b : Fin 32) (d : Fin 512) : (insOf (entry m) c).h0 (ix3 0 b d) = arg m c main_arg2 (ix2 b d) := by
  show entry m c (Proc.devRef .tc main_v17) (ix3 0 b d) = _
  unfold entry
  simp only [List.flatten_cons, List.flatten_nil, List.append_nil]
  after_results
  clean_types
  pointwise

theorem entry_bx (g : Fin 2048) : (insOf (entry m) c).bx (ix2 0 g) = arg m c main_arg4 (ix1 g) := by
  show entry m c (Proc.devRef .tc main_v19) (ix2 0 g) = _
  unfold entry
  simp only [List.flatten_cons, List.flatten_nil, List.append_nil]
  after_results
  clean_types
  pointwise

theorem entry_bac (a : Fin 128) : (insOf (entry m) c).bac (ix2 0 a) = arg m c main_arg10 (ix1 a) := by
  show entry m c (Proc.devRef .tc main_v20) (ix2 0 a) = _
  unfold entry
  simp only [List.flatten_cons, List.flatten_nil, List.append_nil]
  after_results
  clean_types
  pointwise

theorem entry_bhh (a : Fin 128) : (insOf (entry m) c).bhh (ix2 0 a) = arg m c main_arg15 (ix1 a) := by
  show entry m c (Proc.devRef .tc main_v21) (ix2 0 a) = _
  unfold entry
  simp only [List.flatten_cons, List.flatten_nil, List.append_nil]
  after_results
  clean_types
  pointwise

theorem entry_wa (a : Fin 128) : (insOf (entry m) c).wa (ix2 0 a) = arg m c main_arg12 (ix1 a) := by
  show entry m c (Proc.devRef .tc main_v22) (ix2 0 a) = _
  unfold entry
  simp only [List.flatten_cons, List.flatten_nil, List.append_nil]
  after_results
  clean_types
  pointwise

theorem entry_wha (a : Fin 128) : (insOf (entry m) c).wha (ix2 0 a) = arg m c main_arg17 (ix1 a) := by
  show entry m c (Proc.devRef .tc main_v23) (ix2 0 a) = _
  unfold entry
  simp only [List.flatten_cons, List.flatten_nil, List.append_nil]
  after_results
  clean_types
  pointwise

/-- The arrays the region is given hold the arguments' numbers. -/
theorem holds (hT : ∀ i, (arg m c main_arg19 i : BitVec 32).toNat < 128) : Holds (insOf (entry m) c) (xsOf (entry m) c) (numsK m c) where
  x t b d := entry_x m c t b d
  cx l b d := entry_cx m c l b d
  h0 b d := entry_h0 m c b d
  wx d g := by rw [entry_w1, dif_pos d.isLt]; rfl
  uh d g := by
    rw [entry_w1, dif_neg (by show ¬ (512 + d.val < 512); omega)]
    exact congrArg (arg m c main_arg5) (congrArg (ix2 g) (Fin.ext (by show 512 + d.val - 512 = d.val; omega)))
  bx g := entry_bx m c g
  cc d g := by rw [entry_w2, dif_pos d.isLt]; rfl
  ph d g := by
    rw [entry_w2, dif_neg (by show ¬ (512 + d.val < 512); omega), dif_pos (by show 512 + d.val - 512 < 512; omega)]
    exact congrArg (arg m c main_arg7) (congrArg (ix2 g) (Fin.ext (by show 512 + d.val - 512 = d.val; omega)))
  hh d g := by
    rw [entry_w2, dif_neg (by show ¬ (1024 + d.val < 512); omega), dif_neg (by show ¬ (1024 + d.val - 512 < 512); omega)]
    exact congrArg (arg m c main_arg8) (congrArg (ix2 g) (Fin.ext (by show 1024 + d.val - 512 - 512 = d.val; omega)))
  wac d a := entry_wc m c d a
  bac a := entry_bac m c a
  wah d a := by rw [entry_wq, dif_pos a.isLt]; rfl
  whq d a := by
    rw [entry_wq, dif_neg (by show ¬ (128 + a.val < 128); omega), dif_pos (by show 128 + a.val - 128 < 128; omega)]
    exact congrArg (fun k : Fin 128 => arg m c main_arg16 (ix2 k d)) (Fin.ext (by show 128 + a.val - 128 = a.val; omega))
  whh d a := by
    rw [entry_wq, dif_neg (by show ¬ (256 + a.val < 128); omega), dif_neg (by show ¬ (256 + a.val - 128 < 128); omega)]
    exact congrArg (fun k : Fin 128 => arg m c main_arg14 (ix2 k d)) (Fin.ext (by show 256 + a.val - 128 - 128 = a.val; omega))
  wa a := entry_wa m c a
  bhh a := entry_bhh m c a
  wha a := entry_wha m c a
  pt b t := by
    rw [entry_tab]
    pointwise
    exact (Nat.mod_eq_of_lt (hT (ix2 b t))).symm

end Cert.Proof.Lstm
end
-- ==== Proof.KOut.lean ====
/-
  What the kernel's run leaves in its two results, entry by entry: the recurrence's rows.
-/
module

public import proofs.«01_k».proof.Proof.KEntry
public import Idealize.ShloMosaic.Lib.Pipeline.Covers

@[expose] public section

noncomputable section

namespace Cert.Proof.Lstm
open Idealize.ShloMosaic Idealize.ShloMosaic.TcCoe
open Cert.KernelIdeal Cert.KernelIdeal.Gen
open Idealize.ShloMosaic.Pipeline (Dat Cfg Window BodyObligation)

/-- An entry of the first result's block. -/
theorem oBlk_eq (A : Ins Ideal) (X : ℕ → Vec Ideal S1x1x32x512 .bf16) (n : ℕ) (y : S1x8x32x512.Idx) (j : S1x128x32x512.Idx) (e1 : (j 1).val = n + (y 1).val)
    (e2 : (j 2 : Fin 32) = (y 2 : Fin 32)) (e3 : (j 3 : Fin 512) = (y 3 : Fin 512)) :
    oBlk A X n y = (recAt A X ((j 1).val + 1)).h (ix2 (j 2 : Fin 32) (j 3 : Fin 512)) := by
  rw [e1, e2, e3]; rfl

/-- An entry of the second result's block. -/
theorem ocBlk_eq (A : Ins Ideal) (X : ℕ → Vec Ideal S1x1x32x512 .bf16) (n : ℕ) (y : S1x8x32x512.Idx) (j : S1x128x32x512.Idx) (e1 : (j 1).val = n + (y 1).val)
    (e2 : (j 2 : Fin 32) = (y 2 : Fin 32)) (e3 : (j 3 : Fin 512) = (y 3 : Fin 512)) :
    ocBlk A X n y = cvOf A (caOf A) (recAt A X (j 1).val).h (ix2 (j 2 : Fin 32) (j 3 : Fin 512)) := by
  rw [e1, e2, e3]; rfl

section
variable (V : Dev nD → Valuation τ sig (Elt Ideal))

/-- The word of a small coordinate reads back as the coordinate. -/
theorem word_val (n : ℕ) (h : n < 4294967296) : (BitVec.ofNat 32 n).toNat = n := by
  rw [BitVec.toNat_ofNat]; exact Nat.mod_eq_of_lt h

/-- The first result's blocks cover its array. -/
theorem covers_12 : ((cfgA V).win 12).Covers :=
  ((cfgA V).win 12).covers_of_indexMap_surj rfl (fun a => (by decide : ∀ a : Fin 4, 0 < S1x8x32x512.size a) a) fun β => by
    have n0 : ((cfgA V).win 12).nblk (0 : Fin 4) = 1 := by
      show (S1x128x32x512.size 0 + S1x8x32x512.size 0 - 1) / S1x8x32x512.size 0 = _
      rfl
    have h0 : (β (0 : Fin 4)).val < 1 := lt_of_lt_of_eq (β (0 : Fin 4)).isLt n0
    have n1 : ((cfgA V).win 12).nblk (1 : Fin 4) = 16 := by
      show (S1x128x32x512.size 1 + S1x8x32x512.size 1 - 1) / S1x8x32x512.size 1 = _
      rfl
    have h1 : (β (1 : Fin 4)).val < 16 := lt_of_lt_of_eq (β (1 : Fin 4)).isLt n1
    have n2 : ((cfgA V).win 12).nblk (2 : Fin 4) = 1 := by
      show (S1x128x32x512.size 2 + S1x8x32x512.size 2 - 1) / S1x8x32x512.size 2 = _
      rfl
    have h2 : (β (2 : Fin 4)).val < 1 := lt_of_lt_of_eq (β (2 : Fin 4)).isLt n2
    have n3 : ((cfgA V).win 12).nblk (3 : Fin 4) = 1 := by
      show (S1x128x32x512.size 3 + S1x8x32x512.size 3 - 1) / S1x8x32x512.size 3 = _
      rfl
    have h3 : (β (3 : Fin 4)).val < 1 := lt_of_lt_of_eq (β (3 : Fin 4)).isLt n3
    refine ⟨grid0.coords (⟨(β (1 : Fin 4)).val, h1⟩ : Fin 16), fun a => ?_⟩
    have hc := coord_val ⟨(β (1 : Fin 4)).val, h1⟩
    have hz := coord_zero ⟨(β (1 : Fin 4)).val, h1⟩
    show cc0_transform_12 _ a = _
    have ha : ∀ a : Fin 4, a = 0 ∨ a = 1 ∨ a = 2 ∨ a = 3 := by decide
    rcases ha a with rfl | rfl | rfl | rfl
    · exact hz.trans (by omega)
    · exact (congrArg (fun n => (BitVec.ofNat 32 n).toNat) hc).trans (word_val _ (by show (β (1 : Fin 4)).val < _; omega))
    · show 0 = _; omega
    · show 0 = _; omega

/-- The first result's array at the end. -/
theorem arr_12 (c : Dev nD) : (dats V 0 c).arrAt 12 (cfgA V).N
    = fun j : S1x128x32x512.Idx => (recAt (insOf V c) (xsOf V c) ((j 1).val + 1)).h (ix2 (j 2 : Fin 32) (j 3 : Fin 512)) := by
  refine (dats V 0 c).arrAt_eq_of_covers 12 _ (covers_12 V) fun t hf y => ?_
  have ht : t.val < 16 := t.isLt
  have hc := coord_val t
  have e1 : (BitVec.ofNat 32 (grid0.coords t 1).val).toNat = t.val := by
    rw [hc, BitVec.toNat_ofNat]; omega
  show oBlk (insOf V c) (xsOf V c) (8 * t.val) y = _
  refine oBlk_eq _ _ _ y _ ?_ (Fin.ext ?_) (Fin.ext ?_)
  · show (BitVec.ofNat 32 (grid0.coords t 1).val).toNat * 8 + 1 * (y (1 : Fin 4)).val = _
    rw [e1]; omega
  · show 0 * 32 + 1 * (y (2 : Fin 4)).val = _; omega
  · show 0 * 512 + 1 * (y (3 : Fin 4)).val = _; omega

/-- The second result's blocks cover its array. -/
theorem covers_13 : ((cfgA V).win 13).Covers :=
  ((cfgA V).win 13).covers_of_indexMap_surj rfl (fun a => (by decide : ∀ a : Fin 4, 0 < S1x8x32x512.size a) a) fun β => by
    have n0 : ((cfgA V).win 13).nblk (0 : Fin 4) = 1 := by
      show (S1x128x32x512.size 0 + S1x8x32x512.size 0 - 1) / S1x8x32x512.size 0 = _
      rfl
    have h0 : (β (0 : Fin 4)).val < 1 := lt_of_lt_of_eq (β (0 : Fin 4)).isLt n0
    have n1 : ((cfgA V).win 13).nblk (1 : Fin 4) = 16 := by
      show (S1x128x32x512.size 1 + S1x8x32x512.size 1 - 1) / S1x8x32x512.size 1 = _
      rfl
    have h1 : (β (1 : Fin 4)).val < 16 := lt_of_lt_of_eq (β (1 : Fin 4)).isLt n1
    have n2 : ((cfgA V).win 13).nblk (2 : Fin 4) = 1 := by
      show (S1x128x32x512.size 2 + S1x8x32x512.size 2 - 1) / S1x8x32x512.size 2 = _
      rfl
    have h2 : (β (2 : Fin 4)).val < 1 := lt_of_lt_of_eq (β (2 : Fin 4)).isLt n2
    have n3 : ((cfgA V).win 13).nblk (3 : Fin 4) = 1 := by
      show (S1x128x32x512.size 3 + S1x8x32x512.size 3 - 1) / S1x8x32x512.size 3 = _
      rfl
    have h3 : (β (3 : Fin 4)).val < 1 := lt_of_lt_of_eq (β (3 : Fin 4)).isLt n3
    refine ⟨grid0.coords (⟨(β (1 : Fin 4)).val, h1⟩ : Fin 16), fun a => ?_⟩
    have hc := coord_val ⟨(β (1 : Fin 4)).val, h1⟩
    have hz := coord_zero ⟨(β (1 : Fin 4)).val, h1⟩
    show cc0_transform_13 _ a = _
    have ha : ∀ a : Fin 4, a = 0 ∨ a = 1 ∨ a = 2 ∨ a = 3 := by decide
    rcases ha a with rfl | rfl | rfl | rfl
    · exact hz.trans (by omega)
    · exact (congrArg (fun n => (BitVec.ofNat 32 n).toNat) hc).trans (word_val _ (by show (β (1 : Fin 4)).val < _; omega))
    · show 0 = _; omega
    · show 0 = _; omega

/-- The second result's array at the end. -/
theorem arr_13 (c : Dev nD) : (dats V 0 c).arrAt 13 (cfgA V).N
    = fun j : S1x128x32x512.Idx => cvOf (insOf V c) (caOf (insOf V c)) (recAt (insOf V c) (xsOf V c) (j 1).val).h (ix2 (j 2 : Fin 32) (j 3 : Fin 512)) := by
  refine (dats V 0 c).arrAt_eq_of_covers 13 _ (covers_13 V) fun t hf y => ?_
  have ht : t.val < 16 := t.isLt
  have hc := coord_val t
  have e1 : (BitVec.ofNat 32 (grid0.coords t 1).val).toNat = t.val := by
    rw [hc, BitVec.toNat_ofNat]; omega
  show ocBlk (insOf V c) (xsOf V c) (8 * t.val) y = _
  refine ocBlk_eq _ _ _ y _ ?_ (Fin.ext ?_) (Fin.ext ?_)
  · show (BitVec.ofNat 32 (grid0.coords t 1).val).toNat * 8 + 1 * (y (1 : Fin 4)).val = _
    rw [e1]; omega
  · show 0 * 32 + 1 * (y (2 : Fin 4)).val = _; omega
  · show 0 * 512 + 1 * (y (3 : Fin 4)).val = _; omega

end

variable (m : (ℓ : Loc nD τ sig) → Buf (Elt Ideal) ℓ) (c : Dev nD)

/-- The first result at the end: row `t` of it the carry after step `t`. -/
theorem end_h (b : Fin 32) (t : Fin 128) (d : Fin 512) :
    (ended m c main_v26 : S32x128x512.Idx → EReal) (ix3 b t d) = (recAt (insOf (entry m) c) (xsOf (entry m) c) (t.val + 1)).h (ix2 b d) := by
  have e : Pipeline.withArrays spec0 c (entry m c) (fun w => (dats (entry m) 0 c).arrAt w (cfgA (entry m)).N) (Proc.devRef .tc main_v24_0) = _ :=
    (Pipeline.withArrays_arr spec0 (launch0 (F := Ideal)).win.arr_inj c (entry m c) _ 12).trans (arr_12 (entry m) c)
  show StableHlo.after (List.flatten [hostOps1 (F := Ideal)]) (Pipeline.withArrays spec0 c (entry m c) fun w => (dats (entry m) 0 c).arrAt w (cfgA (entry m)).N) (Proc.devRef .tc main_v26) (ix3 b t d) = _
  simp only [List.flatten_cons, List.flatten_nil, List.append_nil]
  after_results
  rw [e]
  clean_types
  pointwise

/-- The second result at the end: row `t` of it the first context of step `t`. -/
theorem end_ctx (b : Fin 32) (t : Fin 128) (d : Fin 512) :
    (ended m c main_v28 : S32x128x512.Idx → EReal) (ix3 b t d)
      = cvOf (insOf (entry m) c) (caOf (insOf (entry m) c)) (recAt (insOf (entry m) c) (xsOf (entry m) c) t.val).h (ix2 b d) := by
  have e : Pipeline.withArrays spec0 c (entry m c) (fun w => (dats (entry m) 0 c).arrAt w (cfgA (entry m)).N) (Proc.devRef .tc main_v24_1) = _ :=
    (Pipeline.withArrays_arr spec0 (launch0 (F := Ideal)).win.arr_inj c (entry m c) _ 13).trans (arr_13 (entry m) c)
  show StableHlo.after (List.flatten [hostOps1 (F := Ideal)]) (Pipeline.withArrays spec0 c (entry m c) fun w => (dats (entry m) 0 c).arrAt w (cfgA (entry m)).N) (Proc.devRef .tc main_v28) (ix3 b t d) = _
  simp only [List.flatten_cons, List.flatten_nil, List.append_nil]
  after_results
  rw [e]
  clean_types
  pointwise

end Cert.Proof.Lstm
end
-- ==== Proof.RVal.lean ====
/-
  One trip of the reference's loop over the extended reals, entry by entry.
-/
module

public import proofs.«01_k».proof.Proof.Model
public import proofs.«01_k».proof.Proof.Gen.ReferenceIdeal.Run
public import Idealize.ShloMosaic.Lib.Pointwise
public import Idealize.ShloMosaic.Lib.Tactic.CleanTypes

@[expose] public section

noncomputable section

namespace Cert.Proof.Lstm.Ref
open Idealize.ShloMosaic Idealize.ShloMosaic.TcCoe
open Cert.ReferenceIdeal Cert.ReferenceIdeal.Gen Cert.ReferenceIdeal.Value

set_option maxRecDepth 16384

variable (V : Valuation τ sig (Elt Ideal))

/-- A buffer of the loop. -/
abbrev at' (b : Ref sig .tc) : b.ty.Contents (Elt Ideal) := V (Proc.devRef .tc b)

/-- The loop's buffers before step `k`. -/
structure Tracks (P : Nums) (ra rb : ℝ) (k : ℕ) : Prop where
  ctr : at' V main_v14_17 = fun _ => BitVec.ofNat 32 k
  xs : ∀ t b g, at' V main_v14_0 (ix3 t b g) = ∑ d, P.x b t d * P.wx g d + P.bx g
  pt : ∀ (t : Fin 128) (b : Fin 32), (at' V main_v14_1 (ix2 t b) : BitVec 32) = BitVec.ofNat 32 (P.pt b t).val
  io : ∀ t : Fin 128, (at' V main_v14_2 (ix1 t) : BitVec 32) = BitVec.ofNat 32 t.val
  wah : ∀ a d, at' V main_v14_3 (ix2 a d) = P.wah a d
  key : ∀ b l a, at' V main_v14_4 (ix3 b l a) = key P b l a
  wa : ∀ a, at' V main_v14_5 (ix1 a) = P.wa a
  ba : at' V main_v14_6 ix0 = (ra : EReal)
  cx : ∀ b l d, at' V main_v14_7 (ix3 b l d) = P.cx b l d
  whh : ∀ a d, at' V main_v14_8 (ix2 a d) = P.whh a d
  bhh : ∀ a, at' V main_v14_9 (ix1 a) = P.bhh a
  whq : ∀ a d, at' V main_v14_10 (ix2 a d) = P.whq a d
  wha : ∀ a, at' V main_v14_11 (ix1 a) = P.wha a
  bha : at' V main_v14_12 ix0 = (rb : EReal)
  uh : ∀ g d, at' V main_v14_13 (ix2 g d) = P.uh g d
  cc : ∀ g d, at' V main_v14_14 (ix2 g d) = P.cc g d
  ph : ∀ g d, at' V main_v14_15 (ix2 g d) = P.ph g d
  hh : ∀ g d, at' V main_v14_16 (ix2 g d) = P.hh g d
  h : ∀ b d, at' V main_v14_18 (ix2 b d) = (carry P k).h b d
  c : ∀ b d, at' V main_v14_19 (ix2 b d) = (carry P k).c b d
  hist : ∀ b s d, at' V main_v14_20 (ix3 b s d) = (carry P k).hist s b d
  out : ∀ s b d, at' V main_v14_21 (ix3 s b d) = if s.val < k then ctx P (carry P s.val).h b d else 0

section Tracked
variable {V} {P : Nums} {ra rb : ℝ} {k : ℕ} (T : Tracks V P ra rb k)
include T

/-- The context's scores. -/
theorem v27_val (b : Fin 32) (l : Fin 64) : res_main_while0b_v27 V (ix2 b l) = scA P (carry P k).h b l + (ra : EReal) := by
  unfold res_main_while0b_v27
  clean_types
  pointwise
  unfold scA
  refine congrArg₂ _ (Finset.sum_congr rfl fun a _ => ?_) T.ba
  refine congrArg₂ _ (congrArg Ideal.tanh (congrArg₂ _ (T.key b l a) (Finset.sum_congr rfl fun d _ => congrArg₂ _ (T.h b d) (T.wah a d)))) (T.wa a)

/-- The context's weights before they are normed. -/
theorem v34_val (b : Fin 32) (l : Fin 64) : res_main_while0b_v34 V (ix2 b l) = exA P (carry P k).h b l := by
  unfold res_main_while0b_v34
  clean_types
  pointwise
  simp only [v27_val T]
  show Ideal.exp (_ - max (Ideal.ofBits .f32 0xFF800000#32) (top fun l => scA P (carry P k).h b l + (ra : EReal))) = _
  rw [top_offset, neg_inf, max_eq_right bot_le, sub_offset]
  rfl

/-- The context vector. -/
theorem v39_val (b : Fin 32) (d : Fin 512) : res_main_while0b_v39 V (ix2 b d) = ctx P (carry P k).h b d := by
  unfold res_main_while0b_v39
  clean_types
  pointwise
  simp only [v34_val T]
  exact Finset.sum_congr rfl fun l _ => congrArg₂ _ rfl (T.cx b l d)

/-- The history's scores. -/
theorem v52_val (b : Fin 32) (s : Fin 128) : res_main_while0b_v52 V (ix2 b s) = scB P (carry P k).h (carry P k).hist b s + (rb : EReal) := by
  unfold res_main_while0b_v52
  clean_types
  pointwise
  unfold scB hkey
  refine congrArg₂ _ (Finset.sum_congr rfl fun a _ => ?_) T.bha
  refine congrArg₂ _ (congrArg Ideal.tanh (congrArg₂ _ (congrArg₂ _ (Finset.sum_congr rfl fun d _ => congrArg₂ _ (T.hist b s d) (T.whh a d)) (T.bhh a))
    (Finset.sum_congr rfl fun d _ => congrArg₂ _ (T.h b d) (T.whq a d)))) (T.wha a)

/-- The history's weights before they are normed. -/
theorem v57_val (b : Fin 32) (s : Fin 128) : res_main_while0b_v57 V (ix2 b s) = exB P (carry P k).h (carry P k).hist b s := by
  unfold res_main_while0b_v57
  clean_types
  pointwise
  simp only [v52_val T]
  show Ideal.exp (_ - (top fun s => scB P (carry P k).h (carry P k).hist b s + (rb : EReal))) = _
  rw [top_offset, sub_offset]
  rfl

end Tracked

/-! The words of step numbers. -/

theorem word_int (n : Fin 128) : (BitVec.ofNat 32 n.val).toInt = n.val := by
  revert n; decide

theorem word_not_neg (n : Fin 128) : IntOp.cmpi .slt (BitVec.ofNat 32 n.val) 0#32 = 0#1 := by
  revert n; decide

theorem word_ge (n : Fin 128) : IntOp.cmpi .sge (BitVec.ofNat 32 n.val) 0#32 = 1#1 := by
  revert n; decide

theorem word_le (n : Fin 128) : IntOp.cmpi .sle (BitVec.ofNat 32 n.val) 127#32 = 1#1 := by
  revert n; decide

theorem word_pos (n : Fin 128) : IntOp.cmpi .sgt (BitVec.ofNat 32 n.val) 0#32 = if n.val = 0 then 0#1 else 1#1 := by
  revert n; decide

/-- The gather of one row per example: the row its word names. -/
theorem gather_row (x : S32x128x512.Idx → EReal) (idx : IVec S32x1x1 32) (b : Fin 32) (d : Fin 512) (n : Fin 128)
    (h : idx (ix3 b 0 0) = BitVec.ofNat 32 n.val) :
    Host.gather gather_S32x128x512_S32x1x1_S32x1x512_2_1_0_0_1_2_11512 x idx (ix3 b 0 d) = x (ix3 b n d) := by
  unfold Host.gather
  congr 1
  funext a
  refine Fin.ext ?_
  show GatherDims.start gather_S32x128x512_S32x1x1_S32x1x512_2_1_0_0_1_2_11512 (ix3 b 0 d) idx a
    + GatherDims.batchCoord gather_S32x128x512_S32x1x1_S32x1x512_2_1_0_0_1_2_11512 (ix3 b 0 d) a
    + GatherDims.offCoord gather_S32x128x512_S32x1x1_S32x1x512_2_1_0_0_1_2_11512 (ix3 b 0 d) a = _
  have ha : a = 0 ∨ a = 1 ∨ a = 2 := (by decide : ∀ a : Fin 3, a = 0 ∨ a = 1 ∨ a = 2) a
  rcases ha with rfl | rfl | rfl
  · rw [GatherDims.start_batching _ _ _ _ (show (0 : Fin 3) ∈ gather_S32x128x512_S32x1x1_S32x1x512_2_1_0_0_1_2_11512.operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S32x128x512_S32x1x1_S32x1x512_2_1_0_0_1_2_11512.operandBatchingDims from List.mem_singleton.mpr rfl)]
    rfl
  · have e : (GatherDims.start gather_S32x128x512_S32x1x1_S32x1x512_2_1_0_0_1_2_11512 (ix3 b 0 d) idx 1) = min (idx (ix3 b 0 0)).toInt.toNat 127 := by
      unfold GatherDims.start
      rw [dif_pos (show (1 : Fin 3) ∈ gather_S32x128x512_S32x1x1_S32x1x512_2_1_0_0_1_2_11512.startIndexMap from List.mem_singleton.mpr rfl)]
      refine congrArg (fun i => min (idx i).toInt.toNat 127) ?_
      funext a
      have ha : a = 0 ∨ a = 1 ∨ a = 2 := (by decide : ∀ a : Fin 3, a = 0 ∨ a = 1 ∨ a = 2) a
      rcases ha with rfl | rfl | rfl <;> rfl
    rw [e, h, word_int]
    have := n.isLt
    show min n.val 127 + 0 + 0 = n.val
    omega
  · show 0 + 0 + d.val = d.val
    omega

end Cert.Proof.Lstm.Ref
end
-- ==== Proof.REntry.lean ====
/-
  What the reference's operations before the loop prepare, entry by entry.
-/
module

public import proofs.«01_k».proof.Proof.RVal
public import proofs.«01_k».proof.Proof.KEntry

@[expose] public section

noncomputable section

namespace Cert.Proof.Lstm.Ref
open Idealize.ShloMosaic Idealize.ShloMosaic.TcCoe Idealize.ShloMosaic.StableHlo
open Cert.ReferenceIdeal Cert.ReferenceIdeal.Gen Cert.ReferenceIdeal.Value

set_option maxRecDepth 16384

variable (m : (ℓ : Loc nD τ sig) → Buf (Elt Ideal) ℓ) (c : Dev nD)

/-- An argument of the reference. -/
abbrev arg (b : Ref sig .tc) : b.ty.Contents (Elt Ideal) := m ((c.tc : Thread nD τ).loc b)

/-- The numbers the reference is given. -/
def numsR : Nums := numsOf (arg m c main_arg0) (arg m c main_arg1) (arg m c main_arg2) (arg m c main_arg3) (arg m c main_arg4) (arg m c main_arg5)
  (arg m c main_arg6) (arg m c main_arg7) (arg m c main_arg8) (arg m c main_arg9) (arg m c main_arg10) (arg m c main_arg11) (arg m c main_arg12)
  (arg m c main_arg14) (arg m c main_arg15) (arg m c main_arg16) (arg m c main_arg17) (arg m c main_arg19)

theorem entry_xs (t : Fin 128) (b : Fin 32) (g : Fin 2048) : (entryContents preI m c (Proc.devRef .tc main_v14_0) (ix3 t b g) : EReal)
    = ∑ d : Fin 512, (numsR m c).x b t d * (numsR m c).wx g d + (numsR m c).bx g := by
  simp only [entryContents, afterL_cons, afterL_nil]
  after_results
  rw [id_eq]
  clean_types
  pointwise
  rfl

theorem entry_key (b : Fin 32) (l : Fin 64) (a : Fin 128) : (entryContents preI m c (Proc.devRef .tc main_v14_4) (ix3 b l a) : EReal)
    = key (numsR m c) b l a := by
  simp only [entryContents, afterL_cons, afterL_nil]
  after_results
  rw [id_eq]
  clean_types
  pointwise
  rfl

theorem entry_pt (t : Fin 128) (b : Fin 32) : (entryContents preI m c (Proc.devRef .tc main_v14_1) (ix2 t b) : BitVec 32) = arg m c main_arg19 (ix2 b t) := by
  simp only [entryContents, afterL_cons, afterL_nil]
  after_results
  rw [id_eq]
  clean_types
  pointwise

theorem entry_io (t : Fin 128) : (entryContents preI m c (Proc.devRef .tc main_v14_2) (ix1 t) : BitVec 32) = BitVec.ofNat 32 t.val := by
  simp only [entryContents, afterL_cons, afterL_nil]
  after_results
  rw [id_eq]
  clean_types
  pointwise

theorem entry_3 : entryContents preI m c (Proc.devRef .tc main_v14_3) = arg m c main_arg11 := by
  simp only [entryContents, afterL_cons, afterL_nil]
  after_results
  rfl

theorem entry_5 : entryContents preI m c (Proc.devRef .tc main_v14_5) = arg m c main_arg12 := by
  simp only [entryContents, afterL_cons, afterL_nil]
  after_results
  rfl

theorem entry_6 : entryContents preI m c (Proc.devRef .tc main_v14_6) = arg m c main_arg13 := by
  simp only [entryContents, afterL_cons, afterL_nil]
  after_results
  rfl

theorem entry_7 : entryContents preI m c (Proc.devRef .tc main_v14_7) = arg m c main_arg1 := by
  simp only [entryContents, afterL_cons, afterL_nil]
  after_results
  rfl

theorem entry_8 : entryContents preI m c (Proc.devRef .tc main_v14_8) = arg m c main_arg14 := by
  simp only [entryContents, afterL_cons, afterL_nil]
  after_results
  rfl

theorem entry_9 : entryContents preI m c (Proc.devRef .tc main_v14_9) = arg m c main_arg15 := by
  simp only [entryContents, afterL_cons, afterL_nil]
  after_results
  rfl

theorem entry_10 : entryContents preI m c (Proc.devRef .tc main_v14_10) = arg m c main_arg16 := by
  simp only [entryContents, afterL_cons, afterL_nil]
  after_results
  rfl

theorem entry_11 : entryContents preI m c (Proc.devRef .tc main_v14_11) = arg m c main_arg17 := by
  simp only [entryContents, afterL_cons, afterL_nil]
  after_results
  rfl

theorem entry_12 : entryContents preI m c (Proc.devRef .tc main_v14_12) = arg m c main_arg18 := by
  simp only [entryContents, afterL_cons, afterL_nil]
  after_results
  rfl

theorem entry_13 : entryContents preI m c (Proc.devRef .tc main_v14_13) = arg m c main_arg5 := by
  simp only [entryContents, afterL_cons, afterL_nil]
  after_results
  rfl

theorem entry_14 : entryContents preI m c (Proc.devRef .tc main_v14_14) = arg m c main_arg6 := by
  simp only [entryContents, afterL_cons, afterL_nil]
  after_results
  rfl

theorem entry_15 : entryContents preI m c (Proc.devRef .tc main_v14_15) = arg m c main_arg7 := by
  simp only [entryContents, afterL_cons, afterL_nil]
  after_results
  rfl

theorem entry_16 : entryContents preI m c (Proc.devRef .tc main_v14_16) = arg m c main_arg8 := by
  simp only [entryContents, afterL_cons, afterL_nil]
  after_results
  rfl

theorem entry_18 : entryContents preI m c (Proc.devRef .tc main_v14_18) = arg m c main_arg2 := by
  simp only [entryContents, afterL_cons, afterL_nil]
  after_results
  rfl

theorem entry_c (b : Fin 32) (d : Fin 512) : (entryContents preI m c (Proc.devRef .tc main_v14_19) (ix2 b d) : EReal) = (0 : EReal) := by
  simp only [entryContents, afterL_cons, afterL_nil]
  after_results
  rw [id_eq]
  clean_types
  pointwise

theorem entry_hist (b : Fin 32) (s : Fin 128) (d : Fin 512) : (entryContents preI m c (Proc.devRef .tc main_v14_20) (ix3 b s d) : EReal) = (0 : EReal) := by
  simp only [entryContents, afterL_cons, afterL_nil]
  after_results
  rw [id_eq]
  clean_types
  pointwise

theorem entry_out (s : Fin 128) (b : Fin 32) (d : Fin 512) : (entryContents preI m c (Proc.devRef .tc main_v14_21) (ix3 s b d) : EReal) = (0 : EReal) := by
  simp only [entryContents, afterL_cons, afterL_nil]
  after_results
  rw [id_eq]
  clean_types
  pointwise

/-- The loop starts with the model's numbers, of the reference's arguments. -/
theorem tracks_zero (hT : ∀ i, (arg m c main_arg19 i : BitVec 32).toNat < 128) (ra rb : ℝ)
    (ha : arg m c main_arg13 ix0 = (ra : EReal)) (hb : arg m c main_arg18 ix0 = (rb : EReal)) :
    Tracks (entryContents preI m c) (numsR m c) ra rb 0 where
  ctr := ctr_entry m c
  xs t b g := entry_xs m c t b g
  pt t b := by
    refine (entry_pt m c t b).trans ?_
    show (arg m c main_arg19 (ix2 b t) : BitVec 32) = BitVec.ofNat 32 ((arg m c main_arg19 (ix2 b t) : BitVec 32).toNat % 128)
    rw [Nat.mod_eq_of_lt (hT _)]
    exact (BitVec.eq_of_toNat_eq (by simp))
  io t := entry_io m c t
  wah a d := congrFun (entry_3 m c) _
  key b l a := entry_key m c b l a
  wa a := congrFun (entry_5 m c) _
  ba := (congrFun (entry_6 m c) _).trans ha
  cx b l d := congrFun (entry_7 m c) _
  whh a d := congrFun (entry_8 m c) _
  bhh a := congrFun (entry_9 m c) _
  whq a d := congrFun (entry_10 m c) _
  wha a := congrFun (entry_11 m c) _
  bha := (congrFun (entry_12 m c) _).trans hb
  uh g d := congrFun (entry_13 m c) _
  cc g d := congrFun (entry_14 m c) _
  ph g d := congrFun (entry_15 m c) _
  hh g d := congrFun (entry_16 m c) _
  h b d := congrFun (entry_18 m c) _
  c b d := entry_c m c b d
  hist b s d := entry_hist m c b s d
  out s b d := (entry_out m c s b d).trans (if_neg (Nat.not_lt_zero _)).symm

end Cert.Proof.Lstm.Ref
end
-- ==== Proof.RTrip.lean ====
/-
  What one trip of the reference's loop leaves in the buffers it carries.
-/
module

public import proofs.«01_k».proof.Proof.RVal

@[expose] public section

noncomputable section

namespace Cert.Proof.Lstm.Ref
open Idealize.ShloMosaic Idealize.ShloMosaic.TcCoe
open Cert.ReferenceIdeal Cert.ReferenceIdeal.Gen Cert.ReferenceIdeal.Value

set_option maxRecDepth 16384

variable {V : Valuation τ sig (Elt Ideal)} {P : Nums} {ra rb : ℝ} {k : ℕ} (T : Tracks V P ra rb k) (hk : k < 128)
include T hk

/-- The counter read as an index. -/
theorem ctr_int (i : S_.Idx) : BitVec.toInt (at' V main_v14_17 i : BitVec 32) = k := by
  rw [T.ctr]; exact word_int ⟨k, hk⟩

/-- The step's number. -/
theorem v18_val : (res_main_while0b_v18 V ix0 : BitVec 32) = BitVec.ofNat 32 k := by
  unfold res_main_while0b_v18
  clean_types
  pointwise
  refine (congrArg (fun i => (at' V main_v14_2 (ix1 i) : BitVec 32)) (Fin.ext ?_ : _ = (⟨k, hk⟩ : Fin 128))).trans (T.io ⟨k, hk⟩)
  (dsimp only; exact Host.clampedStart_of_le _ _ _ k (ctr_int T hk _) (by show k + 1 ≤ 128; omega))

/-- Whether the step has a history. -/
theorem v65_val : res_main_while0b_v65 V ix0 = (if k = 0 then 0 else 1 : EReal) := by
  unfold res_main_while0b_v65
  clean_types
  pointwise
  rw [v18_val T hk]
  have e := word_pos ⟨k, hk⟩
  rw [e]
  show (((if k = 0 then 0#1 else 1#1 : BitVec 1).toNat : ℝ) : EReal) = _
  split
  · show ((((0 : ℕ) : ℝ)) : EReal) = 0; simp
  · show ((((1 : ℕ) : ℝ)) : EReal) = 1; simp

/-- The step's parents. -/
theorem v69_val (b : Fin 32) : (res_main_while0b_v69 V (ix3 b 0 0) : BitVec 32) = BitVec.ofNat 32 (P.pt b ⟨k, hk⟩).val := by
  unfold res_main_while0b_v69
  clean_types
  pointwise
  refine (congrArg₂ (fun i j => (at' V main_v14_1 (ix2 i j) : BitVec 32)) (Fin.ext ?_ : _ = (⟨k, hk⟩ : Fin 128)) (Fin.ext ?_ : _ = b)).trans (T.pt ⟨k, hk⟩ b)
  · (dsimp only; exact Host.clampedStart_of_le _ _ _ k (ctr_int T hk _) (by show k + 1 ≤ 128; omega))
  · (dsimp only; rw [Host.clampedStart_of_le _ _ _ 0 rfl (by show 0 + 32 ≤ 32; omega)]; exact Nat.zero_add _)

/-- The same, a negative one wrapped: none is. -/
theorem par_val (b : Fin 32) : (res_main_while0b_call3_v4 V (ix3 b 0 0) : BitVec 32) = BitVec.ofNat 32 (P.pt b ⟨k, hk⟩).val := by
  unfold res_main_while0b_call3_v4
  clean_types
  pointwise
  rw [v69_val T hk, word_not_neg]
  rfl

/-- The parents' rows. -/
theorem row_val (b : Fin 32) (d : Fin 512) :
    Scalar.select
        (Finset.fold IntOp.andi (1#1)
          (fun x : Fin 1 =>
            IntOp.andi (IntOp.cmpi CmpIPredicate.sge (res_main_while0b_call3_v4 V (ix3 b 0 x)) 0#32)
              (IntOp.cmpi CmpIPredicate.sle (res_main_while0b_call3_v4 V (ix3 b 0 x)) 127#32))
          Finset.univ)
        (Host.gather gather_S32x128x512_S32x1x1_S32x1x512_2_1_0_0_1_2_11512 (V (Proc.tc.devRef main_v14_20))
          (res_main_while0b_call3_v4 V) (ix3 b 0 d))
        (Ideal.ofBits FTy.f32 2143289344#32) = (carry P k).hist (P.pt b ⟨k, hk⟩) b d := by
  have e : (Finset.fold IntOp.andi (1#1)
          (fun x : Fin 1 =>
            IntOp.andi (IntOp.cmpi CmpIPredicate.sge (res_main_while0b_call3_v4 V (ix3 b 0 x)) 0#32)
              (IntOp.cmpi CmpIPredicate.sle (res_main_while0b_call3_v4 V (ix3 b 0 x)) 127#32))
          Finset.univ) = 1#1 := by
    rw [Finset.univ_unique, Finset.fold_singleton]
    show IntOp.andi (IntOp.andi (IntOp.cmpi CmpIPredicate.sge (res_main_while0b_call3_v4 V (ix3 b 0 0)) 0#32)
              (IntOp.cmpi CmpIPredicate.sle (res_main_while0b_call3_v4 V (ix3 b 0 0)) 127#32)) 1#1 = 1#1
    rw [par_val T hk, word_ge, word_le]
    rfl
  rw [e]
  refine Eq.trans (gather_row _ _ b d (P.pt b ⟨k, hk⟩) (par_val T hk b)) (T.hist b _ d)

/-- A factor that is one, or zero where the history is empty. -/
theorem live_mul (x : EReal) (h0 : k = 0 → x = 0) : x * (if k = 0 then 0 else 1) = x := by
  by_cases h : k = 0
  · rw [if_pos h, h0 h, zero_mul]
  · rw [if_neg h, mul_one]

/-- The gates' arguments. -/
theorem v85_val (b : Fin 32) (g : Fin 2048) : (res_main_while0b_v85 V (ix2 b g) : EReal) = pre P ⟨k, hk⟩ (carry P k) b g := by
  have z : k = 0 → ∀ s b d, (carry P k).hist s b d = 0 := by rintro rfl s b d; rfl
  unfold res_main_while0b_v85
  clean_types
  pointwise
  rw [v65_val T hk]
  unfold pre
  refine congrArg₂ _ (congrArg₂ _ (congrArg₂ _ (congrArg₂ _ ?_ ?_) ?_) ?_) ?_
  · refine Eq.trans ?_ (T.xs ⟨k, hk⟩ b g)
    have e0 : ∀ (i : Fin 128) (j : Fin 32) (l : Fin 2048), i.val = k → j = b → l = g →
      V (Proc.devRef .tc main_v14_0) (ix3 i j l) = (at' V main_v14_0 (ix3 ⟨k, hk⟩ b g) : EReal) := by
      rintro i j l e rfl rfl; rw [show i = ⟨k, hk⟩ from Fin.ext e]
    refine e0 _ _ _ ?_ (Fin.ext ?_) (Fin.ext ?_)
    · (dsimp only; exact Host.clampedStart_of_le _ _ _ k (ctr_int T hk _) (by show k + 1 ≤ 128; omega))
    · (dsimp only; rw [Host.clampedStart_of_le _ _ _ 0 rfl (by show 0 + 32 ≤ 32; omega)]; exact Nat.zero_add _)
    · (dsimp only; rw [Host.clampedStart_of_le _ _ _ 0 rfl (by show 0 + 2048 ≤ 2048; omega)]; exact Nat.zero_add _)
  · exact Finset.sum_congr rfl fun d _ => congrArg₂ _ (T.h b d) (T.uh g d)
  · exact Finset.sum_congr rfl fun d _ => congrArg₂ _ (v39_val T b d) (T.cc g d)
  · refine Finset.sum_congr rfl fun d _ => congrArg₂ _ ?_ (T.ph g d)
    rw [row_val T hk]
    exact live_mul T hk _ fun h => z h _ _ _
  · refine Finset.sum_congr rfl fun d _ => congrArg₂ _ ?_ (T.hh g d)
    simp only [v57_val T]
    rw [live_mul T hk]
    · exact Finset.sum_congr rfl fun s _ => congrArg₂ _ rfl (T.hist b s d)
    · intro h
      exact Finset.sum_eq_zero fun s _ => (congrArg₂ _ rfl ((T.hist b s d).trans (z h _ _ _))).trans (mul_zero _)

/-- The new cell state. -/
theorem v105_val (b : Fin 32) (d : Fin 512) : (res_main_while0b_v105 V (ix2 b d) : EReal) = newc P ⟨k, hk⟩ (carry P k) b d := by
  unfold res_main_while0b_v105
  clean_types
  pointwise
  simp only [v85_val T hk]
  exact congrArg₂ (· + ·) (congrArg₂ (· * ·) rfl (T.c b d)) rfl

/-- The new hidden state. -/
theorem v113_val (b : Fin 32) (d : Fin 512) : (res_main_while0b_v113 V (ix2 b d) : EReal) = newh P ⟨k, hk⟩ (carry P k) b d := by
  unfold res_main_while0b_v113
  clean_types
  pointwise
  simp only [v85_val T hk, v105_val T hk]
  rfl

end Cert.Proof.Lstm.Ref
end
-- ==== Proof.RStep.lean ====
/-
  One step of the reference's loop carries the model's state one step on.
-/
module

public import proofs.«01_k».proof.Proof.RTrip

@[expose] public section

noncomputable section

namespace Cert.Proof.Lstm.Ref
open Idealize.ShloMosaic Idealize.ShloMosaic.TcCoe
open Cert.ReferenceIdeal Cert.ReferenceIdeal.Gen Cert.ReferenceIdeal.Value

set_option maxRecDepth 16384

variable {V : Valuation τ sig (Elt Ideal)} {P : Nums} {ra rb : ℝ} {k : ℕ} (T : Tracks V P ra rb k) (hk : k < 128)
include T hk

omit T hk in
/-- Where the step's row of the history starts. -/
def histAt (V : Valuation τ sig (Elt Ideal)) : Fin 3 → Int := fun j =>
  BitVec.toInt ((![constantI S_ 32 0#32, select (cmpi CmpIPredicate.slt (res_main_while0b_v18 V) (constantI S_ 32 0#32))
    (addi (res_main_while0b_v18 V) (constantI S_ 32 128#32)) (res_main_while0b_v18 V), constantI S_ 32 0#32] :
      Fin 3 → (⟨S_, .i32⟩ : BufTy).Contents (Elt Ideal)) j (Shape.Idx.first h_S_))

/-- It starts at row `k`. -/
theorem histAt_one : histAt V 1 = (k : Int) := by
  have e : (res_main_while0b_v18 V (Shape.Idx.first h_S_) : BitVec 32) = BitVec.ofNat 32 k :=
    (congrArg (res_main_while0b_v18 V) (funext fun a => a.elim0)).trans (v18_val T hk)
  show BitVec.toInt (Scalar.select (IntOp.cmpi CmpIPredicate.slt (res_main_while0b_v18 V (Shape.Idx.first h_S_) : BitVec 32) 0#32)
    (IntOp.addi (res_main_while0b_v18 V (Shape.Idx.first h_S_) : BitVec 32) 128#32) (res_main_while0b_v18 V (Shape.Idx.first h_S_) : BitVec 32)) = _
  rw [e]
  have hw := word_not_neg ⟨k, hk⟩
  have hi := word_int ⟨k, hk⟩
  dsimp only at hw hi
  rw [hw]
  exact hi

/-- The history after the step: row `k` is the new hidden state. -/
theorem hist_step (b : Fin 32) (s : Fin 128) (d : Fin 512) : (step_main_v14_20 V (ix3 b s d) : EReal)
    = if s = ⟨k, hk⟩ then newh P ⟨k, hk⟩ (carry P k) b d else (carry P k).hist s b d := by
  have e0 : Host.clampedStart ⟨3, ![32, 128, 512]⟩ S32x1x512 rfl (histAt V) 0 = 0 :=
    Host.clampedStart_of_le _ _ _ 0 rfl (by show 0 + 32 ≤ 32; omega)
  have e1 : Host.clampedStart ⟨3, ![32, 128, 512]⟩ S32x1x512 rfl (histAt V) 1 = k :=
    Host.clampedStart_of_le _ _ _ k (histAt_one T hk) (by show k + 1 ≤ 128; omega)
  have e2 : Host.clampedStart ⟨3, ![32, 128, 512]⟩ S32x1x512 rfl (histAt V) 2 = 0 :=
    Host.clampedStart_of_le _ _ _ 0 rfl (by show 0 + 512 ≤ 512; omega)
  unfold step_main_v14_20
  rw [id_eq]
  clean_types
  pointwise
  by_cases hs : s = ⟨k, hk⟩
  · have hv : s.val = k := congrArg Fin.val hs
    rw [if_pos hs, dif_pos ⟨e0.trans_le (Nat.zero_le _), ⟨e1.trans_le hv.ge, hv.trans_lt (lt_of_lt_of_eq (Nat.lt_succ_self k) (congrArg (· + 1) e1.symm))⟩,
      e2.trans_le (Nat.zero_le _)⟩]
    refine (congrArg₂ (fun i j => res_main_while0b_v113 V (ix2 i j)) (Fin.ext ?_ : _ = b) (Fin.ext ?_ : _ = d)).trans (v113_val T hk b d)
    · dsimp only; exact (congrArg (b.val - ·) e0).trans (Nat.sub_zero _)
    · dsimp only; exact (congrArg (d.val - ·) e2).trans (Nat.sub_zero _)
  · rw [if_neg hs, dif_neg]
    · exact T.hist b s d
    · intro h
      have h1 : k ≤ s.val := e1.symm.trans_le h.2.1.1
      have h2 : s.val < k + 1 := lt_of_lt_of_eq h.2.1.2 (congrArg (· + 1) e1)
      exact hs (Fin.ext (by show s.val = k; omega))

omit T hk in
/-- Where the step's contexts start. -/
def outAt (V : Valuation τ sig (Elt Ideal)) : Fin 3 → Int := fun j =>
  BitVec.toInt ((![V (Proc.devRef .tc main_v14_17), constantI S_ 32 0#32, constantI S_ 32 0#32] :
      Fin 3 → (⟨S_, .i32⟩ : BufTy).Contents (Elt Ideal)) j (Shape.Idx.first h_S_))

/-- The contexts after the step: row `k` is this step's. -/
theorem out_step (s : Fin 128) (b : Fin 32) (d : Fin 512) : (step_main_v14_21 V (ix3 s b d) : EReal)
    = if s.val < k + 1 then ctx P (carry P s.val).h b d else 0 := by
  have e0 : Host.clampedStart ⟨3, ![128, 32, 512]⟩ S1x32x512 rfl (outAt V) 0 = k :=
    Host.clampedStart_of_le _ _ _ k (ctr_int T hk _) (by show k + 1 ≤ 128; omega)
  have e1 : Host.clampedStart ⟨3, ![128, 32, 512]⟩ S1x32x512 rfl (outAt V) 1 = 0 :=
    Host.clampedStart_of_le _ _ _ 0 rfl (by show 0 + 32 ≤ 32; omega)
  have e2 : Host.clampedStart ⟨3, ![128, 32, 512]⟩ S1x32x512 rfl (outAt V) 2 = 0 :=
    Host.clampedStart_of_le _ _ _ 0 rfl (by show 0 + 512 ≤ 512; omega)
  unfold step_main_v14_21
  rw [id_eq]
  clean_types
  pointwise
  by_cases hv : s.val = k
  · rw [if_pos (by omega), dif_pos ⟨⟨e0.trans_le hv.ge, hv.trans_lt (lt_of_lt_of_eq (Nat.lt_succ_self k) (congrArg (· + 1) e0.symm))⟩,
      e1.trans_le (Nat.zero_le _), e2.trans_le (Nat.zero_le _)⟩]
    refine (congrArg₂ (fun i j => res_main_while0b_v39 V (ix2 i j)) (Fin.ext ?_ : _ = b) (Fin.ext ?_ : _ = d)).trans ((v39_val T b d).trans (by rw [hv]))
    · dsimp only; exact (congrArg (b.val - ·) e1).trans (Nat.sub_zero _)
    · dsimp only; exact (congrArg (d.val - ·) e2).trans (Nat.sub_zero _)
  · rw [dif_neg]
    · refine (T.out s b d).trans ?_
      by_cases hl : s.val < k
      · rw [if_pos hl, if_pos (by omega)]
      · rw [if_neg hl, if_neg (by omega)]
    · intro h
      have h1 : k ≤ s.val := e0.symm.trans_le h.1.1
      have h2 : s.val < k + 1 := lt_of_lt_of_eq h.1.2 (congrArg (· + 1) e0)
      omega

/-- One step of the loop. -/
theorem Tracks.succ : Tracks (STEP V) P ra rb (k + 1) := by
  have hn : Fin.ofNat 128 k = ⟨k, hk⟩ := Fin.ext (Nat.mod_eq_of_lt hk)
  have hc : carry P (k + 1) = next P ⟨k, hk⟩ (carry P k) := by rw [← hn]; rfl
  exact {
    ctr := by
      refine (STEP_main_v14_17 V).trans (funext fun i => ?_)
      exact (congrArg (fun w : BitVec 32 => w + 1#32) (congrFun T.ctr i)).trans (BitVec.ofNat_add k 1).symm
    xs := fun t b g => (congrFun (STEP_main_v14_0 V) _).trans (T.xs t b g)
    pt := fun t b => (congrFun (STEP_main_v14_1 V) _).trans (T.pt t b)
    io := fun t => (congrFun (STEP_main_v14_2 V) _).trans (T.io t)
    wah := fun a d => (congrFun (STEP_main_v14_3 V) _).trans (T.wah a d)
    key := fun b l a => (congrFun (STEP_main_v14_4 V) _).trans (T.key b l a)
    wa := fun a => (congrFun (STEP_main_v14_5 V) _).trans (T.wa a)
    ba := (congrFun (STEP_main_v14_6 V) _).trans T.ba
    cx := fun b l d => (congrFun (STEP_main_v14_7 V) _).trans (T.cx b l d)
    whh := fun a d => (congrFun (STEP_main_v14_8 V) _).trans (T.whh a d)
    bhh := fun a => (congrFun (STEP_main_v14_9 V) _).trans (T.bhh a)
    whq := fun a d => (congrFun (STEP_main_v14_10 V) _).trans (T.whq a d)
    wha := fun a => (congrFun (STEP_main_v14_11 V) _).trans (T.wha a)
    bha := (congrFun (STEP_main_v14_12 V) _).trans T.bha
    uh := fun g d => (congrFun (STEP_main_v14_13 V) _).trans (T.uh g d)
    cc := fun g d => (congrFun (STEP_main_v14_14 V) _).trans (T.cc g d)
    ph := fun g d => (congrFun (STEP_main_v14_15 V) _).trans (T.ph g d)
    hh := fun g d => (congrFun (STEP_main_v14_16 V) _).trans (T.hh g d)
    h := fun b d => by
      rw [hc]
      exact (congrFun (STEP_main_v14_18 V) _).trans (v113_val T hk b d)
    c := fun b d => by
      rw [hc]
      exact (congrFun (STEP_main_v14_19 V) _).trans (v105_val T hk b d)
    hist := fun b s d => by
      rw [hc]
      exact (congrFun (STEP_main_v14_20 V) _).trans (hist_step T hk b s d)
    out := fun s b d => (congrFun (STEP_main_v14_21 V) _).trans (out_step T hk s b d) }

end Cert.Proof.Lstm.Ref
end
-- ==== Proof.Finite.lean ====
/-
  What the second precondition says of the arguments, and the frame that follows from it.
-/
module

public import proofs.«01_k».proof.Proof.Frames
public import proofs.«01_k».proof.Proof.Gen.Pre_in_range_finite

@[expose] public section

noncomputable section

namespace Cert.Proof.Lstm
open Idealize.ShloMosaic Idealize.ShloMosaic.TcCoe

section Range
variable {F : FTy → Type} [FloatOps F]

/-- The second precondition bounds every parent index and says the two score offsets are finite. -/
theorem range_of_pre_finite {a0 a1 a2 a3 a4 a5 a6 a7 a8 a9 a10 a11 a12 a13 a14 a15 a16 a17 a18} {a19 : IVec Cert.Pre_in_range_finite.S32x128 32}
    (h : Cert.Pre_in_range_finite.fn (F := F) a0 a1 a2 a3 a4 a5 a6 a7 a8 a9 a10 a11 a12 a13 a14 a15 a16 a17 a18 a19 = fun _ => 1#1) :
    (∀ i, (a19 i : BitVec 32).toNat < 128) ∧ (∃ j, cmpf .olt (Host.absf a13) (constant Cert.Pre_in_range_finite.S_ .f32 0x7F800000#32) j = 1#1)
      ∧ ∃ j, cmpf .olt (Host.absf a18) (constant Cert.Pre_in_range_finite.S_ .f32 0x7F800000#32) j = 1#1 := by
  have key := fun i => by
    have e := congrFun h i
    simp only [Cert.Pre_in_range_finite.fn] at e
    obtain ⟨e, e3⟩ := both_bits e
    obtain ⟨e, e2⟩ := both_bits e
    obtain ⟨e0, e1⟩ := both_bits e
    exact And.intro (word_lt _ e0 e1) (And.intro e2 e3)
  refine ⟨fun i => (key i).1, ⟨_, (key (fun k => ⟨0, by fin_cases k <;> decide⟩)).2.1⟩, ⟨_, (key (fun k => ⟨0, by fin_cases k <;> decide⟩)).2.2⟩⟩

end Range

/-- The same under the second precondition. -/
theorem ideal_frame_finite : Cert.quiescent_KernelIdeal_pre_in_range_finite := fun m g hm =>
  (θ_run Cert.KernelIdeal.defs _ _).mono (fun r h => ⟨fun c => each_arg (P := fun b => r.2.mem ((c.tc : Thread _ _).loc b) = m ((c.tc : Thread _ _).loc b)) (h.1 c), h.2⟩) (frame_of_range m g fun c => (range_of_pre_finite (hm c)).1)

end Cert.Proof.Lstm
end
-- ==== Proof.Alg.lean ====
/-
  The kernel and the reference compute the same numbers, the parent indices being in range and the score offsets finite.
-/
module

public import proofs.«01_k».proof.Proof.KOut
public import proofs.«01_k».proof.Proof.KEntry
public import proofs.«01_k».proof.Proof.REntry
public import proofs.«01_k».proof.Proof.RStep
public import proofs.«01_k».proof.Proof.Finite

@[expose] public section

noncomputable section

namespace Cert.Proof.Lstm
open Idealize.ShloMosaic Idealize.ShloMosaic.TcCoe

set_option maxRecDepth 16384

/-- A number whose absolute value is below infinity is real. -/
theorem real_of_below {x : EReal} (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have inf : Ideal.ofBits .f32 0x7F800000#32 = ⊤ := by
    show Ideal.ieee 8 23 0x7F800000#32 = ⊤
    unfold Ideal.ieee
    rw [if_pos (by decide), if_pos (by decide), if_neg (by decide)]
  have h' : BitVec.ofBool (decide (max x (-x) < Ideal.ofBits .f32 0x7F800000#32)) = 1#1 := h
  rw [inf] at h'
  have hx : max x (-x) < ⊤ := by
    by_contra hn
    rw [decide_eq_false hn] at h'
    exact absurd h' (by decide)
  induction x using EReal.rec with
  | coe r => exact ⟨r, rfl⟩
  | bot => exact absurd hx (by simp)
  | top => exact absurd hx (by simp)

section Reference
open Cert.ReferenceIdeal Cert.ReferenceIdeal.Gen Cert.ReferenceIdeal.Value Idealize.ShloMosaic.StableHlo

variable (m : (ℓ : Loc nD τ sig) → Buf (Elt Ideal) ℓ) (c : Dev nD)

/-- Before each step the loop holds the model's numbers. -/
theorem tracks (hT : ∀ i, (Ref.arg m c main_arg19 i : BitVec 32).toNat < 128) (ra rb : ℝ)
    (ha : Ref.arg m c main_arg13 ix0 = (ra : EReal)) (hb : Ref.arg m c main_arg18 ix0 = (rb : EReal)) :
    ∀ k, k ≤ 128 → Ref.Tracks (STEP^[k] (entryContents preI m c)) (Ref.numsR m c) ra rb k
  | 0, _ => Ref.tracks_zero m c hT ra rb ha hb
  | k + 1, h => by
    rw [Function.iterate_succ_apply']
    exact (tracks hT ra rb ha hb k (by omega)).succ (by omega)

variable (hT : ∀ i, (Ref.arg m c main_arg19 i : BitVec 32).toNat < 128) (ra rb : ℝ)
    (ha : Ref.arg m c main_arg13 ix0 = (ra : EReal)) (hb : Ref.arg m c main_arg18 ix0 = (rb : EReal))
include hT ha hb

/-- The reference's first result: row `t` is the hidden state after step `t`. -/
theorem ref_h (b : Fin 32) (t : Fin 128) (d : Fin 512) :
    ((STEP^[128] (entryContents preI m c)) (Proc.devRef .tc main_v14_20) (ix3 b t d) : EReal) = (carry (Ref.numsR m c) (t.val + 1)).h b d := by
  refine ((tracks m c hT ra rb ha hb 128 (le_refl _)).hist b t d).trans ?_
  rw [hist_carry _ 128 (le_refl _) t, if_pos t.isLt]

/-- Its second: row `t` is step `t`'s context. -/
theorem ref_ctx (b : Fin 32) (t : Fin 128) (d : Fin 512) :
    (out_main_v15 (STEP^[128] (entryContents preI m c)) (ix3 b t d) : EReal) = ctx (Ref.numsR m c) (carry (Ref.numsR m c) t.val).h b d := by
  unfold out_main_v15
  clean_types
  pointwise
  refine ((tracks m c hT ra rb ha hb 128 (le_refl _)).out t b d).trans ?_
  rw [if_pos t.isLt]

end Reference

/-- Two arrays of three axes that agree entry by entry. -/
theorem ext3 {f g : (⟨3, ![32, 128, 512]⟩ : Shape).Idx → EReal} (h : ∀ b t d, f (ix3 b t d) = g (ix3 b t d)) : f = g := by
  funext i
  have e : i = ix3 (i 0) (i 1) (i 2) := by
    funext a
    fin_cases a <;> rfl
  rw [e]
  exact h _ _ _

/-- The same arguments give the same numbers. -/
theorem numsOf_congr {a0 a1 a2 a3 a4 a5 a6 a7 a8 a9 a10 a11 a12 a14 a15 a16 a17 a19 b0 b1 b2 b3 b4 b5 b6 b7 b8 b9 b10 b11 b12 b14 b15 b16 b17 b19} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h14 : a14 = b14) (h15 : a15 = b15) (h16 : a16 = b16) (h17 : a17 = b17) (h19 : a19 = b19) :
    numsOf a0 a1 a2 a3 a4 a5 a6 a7 a8 a9 a10 a11 a12 a14 a15 a16 a17 a19 = numsOf b0 b1 b2 b3 b4 b5 b6 b7 b8 b9 b10 b11 b12 b14 b15 b16 b17 b19 := by
  subst h0 h1 h2 h3 h4 h5 h6 h7 h8 h9 h10 h11 h12 h14 h15 h16 h17 h19
  rfl

/-- The kernel's results are the reference's. -/
theorem algebraic : Cert.algebraic_KernelIdeal_ReferenceIdeal_pre_in_range_finite := by
  intro m g m' g' hm heq
  have hT : ∀ c i, (arg m c Cert.KernelIdeal.main_arg19 i : BitVec 32).toNat < 128 := fun c => (range_of_pre_finite (hm c)).1
  have hP : ∀ c, Ref.numsR m' c = numsK m c := by
    intro c
    obtain ⟨e0, e1, e2, e3, e4, e5, e6, e7, e8, e9, e10, e11, e12, e13, e14, e15, e16, e17, e18, e19⟩ := heq c
    exact numsOf_congr e0 e1 e2 e3 e4 e5 e6 e7 e8 e9 e10 e11 e12 e14 e15 e16 e17 e19
  have hT' : ∀ c i, (Ref.arg m' c Cert.ReferenceIdeal.main_arg19 i : BitVec 32).toNat < 128 := by
    intro c i
    have e19 := (heq c).2.2.2.2.2.2.2.2.2.2.2.2.2.2.2.2.2.2.2
    exact (congrArg BitVec.toNat (congrFun e19 i)).trans_lt (hT c i)
  have ha : ∀ c, ∃ r : ℝ, Ref.arg m' c Cert.ReferenceIdeal.main_arg13 ix0 = (r : EReal) := by
    intro c
    obtain ⟨e0, e1, e2, e3, e4, e5, e6, e7, e8, e9, e10, e11, e12, e13, -⟩ := heq c
    obtain ⟨j, hj⟩ := (range_of_pre_finite (hm c)).2.1
    obtain ⟨r, hr⟩ := real_of_below hj
    exact ⟨r, (congrFun e13 ix0).trans ((congrArg (arg m c Cert.KernelIdeal.main_arg13) (funext fun a => a.elim0)).trans hr)⟩
  have hb : ∀ c, ∃ r : ℝ, Ref.arg m' c Cert.ReferenceIdeal.main_arg18 ix0 = (r : EReal) := by
    intro c
    obtain ⟨e0, e1, e2, e3, e4, e5, e6, e7, e8, e9, e10, e11, e12, e13, e14, e15, e16, e17, e18, e19⟩ := heq c
    obtain ⟨j, hj⟩ := (range_of_pre_finite (hm c)).2.2
    obtain ⟨r, hr⟩ := real_of_below hj
    exact ⟨r, (congrFun e18 ix0).trans ((congrArg (arg m c Cert.KernelIdeal.main_arg18) (funext fun a => a.elim0)).trans hr)⟩
  refine ⟨fun c => ended m c Cert.KernelIdeal.main_v26, fun c => ended m c Cert.KernelIdeal.main_v28, ?_, ?_⟩
  · refine (θ_run Cert.KernelIdeal.defs _ _).mono (fun r h c => ⟨?_, ?_, ?_⟩) (run_main m g fun c => tab_in m c (hT c))
    · exact Pipeline.FramePost.rest_eq h.1 c Cert.KernelIdeal.main_v26 (by decide : Cert.KernelIdeal.main_v26 ∈ Pipeline.restRefs Cert.KernelIdeal.sig Cert.KernelIdeal.spec0)
    · exact Pipeline.FramePost.rest_eq h.1 c Cert.KernelIdeal.main_v28 (by decide : Cert.KernelIdeal.main_v28 ∈ Pipeline.restRefs Cert.KernelIdeal.sig Cert.KernelIdeal.spec0)
    · refine each_arg (P := fun b => r.2.mem ((c.tc : Thread _ _).loc b) = m ((c.tc : Thread _ _).loc b)) fun b hb => ?_
      obtain ⟨h0, h1, h2, h3⟩ := args_rest b hb
      rw [Pipeline.FramePost.rest_eq h.1 c b h0, ended_kept m c b h2 h3]
      exact entry_kept m c b h1
  · refine (θ_run Cert.ReferenceIdeal.defs _ _).mono (fun r h c => ⟨?_, ?_, (h c).2.2⟩) (Cert.ReferenceIdeal.Value.run (F := Ideal) m' g')
    · obtain ⟨ra, ea⟩ := ha c
      obtain ⟨rb, eb⟩ := hb c
      refine (h c).1.trans (ext3 fun b t d => ?_)
      refine (ref_h m' c (hT' c) ra rb ea eb b t d).trans ?_
      rw [hP c]
      exact ((end_h m c b t d).trans (out_h (holds m c (hT c)) t b d)).symm
    · obtain ⟨ra, ea⟩ := ha c
      obtain ⟨rb, eb⟩ := hb c
      refine (h c).2.1.trans (ext3 fun b t d => ?_)
      refine (ref_ctx m' c (hT' c) ra rb ea eb b t d).trans ?_
      rw [hP c]
      exact ((end_ctx m c b t d).trans (out_ctx (holds m c (hT c)) t b d)).symm

end Cert.Proof.Lstm
end
-- ==== Proof.lean ====
/-
  The claims about the pipelined attention LSTM, put together from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.WordFrame
public import proofs.«01_k».proof.Proof.Gen.Pre_in_range_finite
public import proofs.«01_k».proof.Proof.Alg

@[expose] public section

noncomputable section

namespace Cert.Proof

/-- Every claim stated of the kernel and of the reference. -/
theorem claim : Cert.Claim :=
  ⟨Cert.Kernel.Gen.facts, Cert.KernelIdeal.Gen.facts, Cert.ReferenceIdeal.Gen.facts, Cert.Pre_in_range.Gen.facts, Cert.Pre_in_range_finite.Gen.facts,
    LstmWord.word_frame, Lstm.ideal_frame, Lstm.ideal_frame_finite, Lstm.reference_frame, fun m g _ => Lstm.reference_frame m g trivial, trivial,
    Lstm.algebraic⟩

end Cert.Proof

end
